-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_not_negative [hPre_labels_not_negative : Cert.Pre_labels_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_labels_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_not_negative [hPre_labels_not_negative : Cert.Pre_labels_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labels_not_negative [hKernelIdeal : Cert.KernelIdeal.Facts] [hPre_labels_not_negative : Cert.Pre_labels_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_not_negative m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_not_negative [hReferenceIdeal : Cert.ReferenceIdeal.Facts] [hPre_labels_not_negative : Cert.Pre_labels_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "two_fifths" .f32 0x3ECCCCCD#32 ((2 / 5 : ℝ) : EReal)
  ∧ IdealRules.named_const.Statement Cert.KernelIdeal.κ "two_thirds" .f32 0x3F2AAAAB#32 ((2 / 3 : ℝ) : EReal)

def algebraic_KernelIdeal_ReferenceIdeal_pre_labels_not_negative [hKernelIdeal : Cert.KernelIdeal.Facts] [hReferenceIdeal : Cert.ReferenceIdeal.Facts] [hPre_labels_not_negative : Cert.Pre_labels_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_not_negative : Cert.Pre_labels_not_negative.Facts),
    quiescent_Kernel (hKernel := hKernel)
    ∧ quiescent_KernelIdeal (hKernelIdeal := hKernelIdeal)
    ∧ quiescent_KernelIdeal_pre_labels_not_negative (hKernelIdeal := hKernelIdeal) (hPre_labels_not_negative := hPre_labels_not_negative)
    ∧ quiescent_ReferenceIdeal (hReferenceIdeal := hReferenceIdeal)
    ∧ quiescent_ReferenceIdeal_pre_labels_not_negative (hReferenceIdeal := hReferenceIdeal) (hPre_labels_not_negative := hPre_labels_not_negative)
    ∧ preserves_Kernel_KernelIdeal
    ∧ algebraic_KernelIdeal_ReferenceIdeal_pre_labels_not_negative (hKernelIdeal := hKernelIdeal) (hReferenceIdeal := hReferenceIdeal) (hPre_labels_not_negative := hPre_labels_not_negative)
-- ==== Pre_labels_not_negative.lean ====
abbrev S1048576x3 : Shape := ⟨2, ![1048576, 3]⟩
abbrev S1048576 : Shape := ⟨1, ![1048576]⟩
abbrev S_ : Shape := ⟨0, ![]⟩

class Facts : Prop where
  bcast_S_S1048576 : S_.BroadcastsInDim S1048576 (![] : Fin 0 → Fin S1048576.rank)
  reducesTo_S1048576_S_d0 : S1048576.ReducesTo [0] S_
  h_S_ : 0 < S_.numel

variable [Facts]

def fn {F : FTy → Type} [FloatOps F] (main_arg0 : FVec F S1048576x3 .f32) (main_arg1 : IVec S1048576 32) : IVec S_ 1 :=
  let main_c : IVec S_ 32 := constantI S_ 32 0#32
  let main_v0 : IVec S1048576 32 := broadcastInDim S1048576 ![] bcast_S_S1048576 main_c
  let main_v1 : IVec S1048576 1 := cmpi .sge main_arg1 main_v0
  let main_c_0 : IVec S_ 1 := constantI S_ 1 1#1
  let main_v2 : IVec S_ 1 := (fun x v => Host.reduce IntOp.andi x v reducesTo_S1048576_S_d0 h_S_) main_v1 main_c_0
  main_v2
-- ==== Kernel.lean ====
abbrev S1048576x3 : Shape := ⟨2, ![1048576, 3]⟩
abbrev S1048576 : Shape := ⟨1, ![1048576]⟩
abbrev S3x1048576 : Shape := ⟨2, ![3, 1048576]⟩
abbrev S3x327680 : Shape := ⟨2, ![3, 327680]⟩
abbrev S983040 : Shape := ⟨1, ![983040]⟩
abbrev S1024 : Shape := ⟨1, ![1024]⟩
abbrev S6144 : Shape := ⟨1, ![6144]⟩
abbrev S2048 : Shape := ⟨1, ![2048]⟩
abbrev S32 : Shape := ⟨1, ![32]⟩
abbrev S_ : Shape := ⟨0, ![]⟩
abbrev S16 : Shape := ⟨1, ![16]⟩
abbrev S1x1048576 : Shape := ⟨2, ![1, 1048576]⟩
abbrev S1x1 : Shape := ⟨2, ![1, 1]⟩
abbrev S3x16384 : Shape := ⟨2, ![3, 16384]⟩
abbrev S1x16384 : Shape := ⟨2, ![1, 16384]⟩
abbrev S1x3x16384 : Shape := ⟨3, ![1, 3, 16384]⟩
abbrev S1 : Shape := ⟨1, ![1]⟩
abbrev S1x1x1 : Shape := ⟨3, ![1, 1, 1]⟩
abbrev S1x1x16384 : Shape := ⟨3, ![1, 1, 16384]⟩
abbrev S8x128 : Shape := ⟨2, ![8, 128]⟩
abbrev S4x128 : Shape := ⟨2, ![4, 128]⟩
abbrev S1x4x128 : Shape := ⟨3, ![1, 4, 128]⟩

abbrev nBuf : Table → Nat
  | .hbm => 16
  | .local .tc .vmem => 11
  | .local .scVector .vmem => 10
  | _ => 0

abbrev bufTy : (tb : Table) → Fin (nBuf tb) → BufTy
  | .hbm, ⟨0, _⟩ => ⟨S1048576x3, .f32⟩
  | .hbm, ⟨1, _⟩ => ⟨S1048576, .i32⟩
  | .hbm, ⟨2, _⟩ => ⟨S3x1048576, .f32⟩
  | .hbm, ⟨3, _⟩ => ⟨S3x327680, .f32⟩
  | .hbm, ⟨4, _⟩ => ⟨S983040, .f32⟩
  | .hbm, ⟨5, _⟩ => ⟨S1024, .f32⟩
  | .hbm, ⟨6, _⟩ => ⟨S3x327680, .f32⟩
  | .hbm, ⟨7, _⟩ => ⟨S983040, .f32⟩
  | .hbm, ⟨8, _⟩ => ⟨S1024, .f32⟩
  | .hbm, ⟨9, _⟩ => ⟨S1x1048576, .i32⟩
  | .hbm, ⟨10, _⟩ => ⟨S1x1, .f32⟩
  | .hbm, ⟨11, _⟩ => ⟨S1x1, .f32⟩
  | .hbm, ⟨12, _⟩ => ⟨S8x128, .f32⟩
  | .hbm, ⟨13, _⟩ => ⟨S8x128, .f32⟩
  | .hbm, ⟨14, _⟩ => ⟨S1x1, .f32⟩
  | .hbm, ⟨15, _⟩ => ⟨S_, .f32⟩
  | .local .tc .vmem, ⟨0, _⟩ => ⟨S3x16384, .f32⟩
  | .local .tc .vmem, ⟨1, _⟩ => ⟨S3x16384, .f32⟩
  | .local .tc .vmem, ⟨2, _⟩ => ⟨S1x16384, .i32⟩
  | .local .tc .vmem, ⟨3, _⟩ => ⟨S1x16384, .i32⟩
  | .local .tc .vmem, ⟨4, _⟩ => ⟨S1x1, .f32⟩
  | .local .tc .vmem, ⟨5, _⟩ => ⟨S1x1, .f32⟩
  | .local .tc .vmem, ⟨6, _⟩ => ⟨S8x128, .f32⟩
  | .local .tc .vmem, ⟨7, _⟩ => ⟨S8x128, .f32⟩
  | .local .tc .vmem, ⟨8, _⟩ => ⟨S1x1, .f32⟩
  | .local .tc .vmem, ⟨9, _⟩ => ⟨S1x1, .f32⟩
  | .local .tc .vmem, ⟨10, _⟩ => ⟨S1x1, .f32⟩
  | .local .scVector .vmem, ⟨0, _⟩ => ⟨S6144, .f32⟩
  | .local .scVector .vmem, ⟨1, _⟩ => ⟨S6144, .f32⟩
  | .local .scVector .vmem, ⟨2, _⟩ => ⟨S2048, .i32⟩
  | .local .scVector .vmem, ⟨3, _⟩ => ⟨S2048, .i32⟩
  | .local .scVector .vmem, ⟨4, _⟩ => ⟨S32, .f32⟩
  | .local .scVector .vmem, ⟨5, _⟩ => ⟨S6144, .f32⟩
  | .local .scVector .vmem, ⟨6, _⟩ => ⟨S6144, .f32⟩
  | .local .scVector .vmem, ⟨7, _⟩ => ⟨S2048, .i32⟩
  | .local .scVector .vmem, ⟨8, _⟩ => ⟨S2048, .i32⟩
  | .local .scVector .vmem, ⟨9, _⟩ => ⟨S32, .f32⟩
  | _, _ => ⟨S1048576x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v2_scv : Ref sig .scVector := ⟨.hbm, 4, rfl⟩
abbrev main_arg1_scv : Ref sig .scVector := ⟨.hbm, 1, rfl⟩
abbrev main_v3_scv : Ref sig .scVector := ⟨.hbm, 5, rfl⟩
abbrev main_v5_scv : Ref sig .scVector := ⟨.hbm, 7, rfl⟩
abbrev main_v6_scv : Ref sig .scVector := ⟨.hbm, 8, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg3_0 : Ref sig .tc := ⟨.vmem, 5, rfl⟩
abbrev cc3_stg0_0 : Ref sig .tc := ⟨.vmem, 6, rfl⟩
abbrev cc3_stg1_0 : Ref sig .tc := ⟨.vmem, 7, rfl⟩
abbrev cc3_stg2_0 : Ref sig .tc := ⟨.vmem, 8, rfl⟩
abbrev cc3_stg3_0 : Ref sig .tc := ⟨.vmem, 9, rfl⟩
abbrev cc3_stg4_0 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_scratch0 : Ref sig .scVector := ⟨.vmem, 5, rfl⟩
abbrev cc1_scratch1 : Ref sig .scVector := ⟨.vmem, 6, rfl⟩
abbrev cc1_scratch2 : Ref sig .scVector := ⟨.vmem, 7, rfl⟩
abbrev cc1_scratch3 : Ref sig .scVector := ⟨.vmem, 8, rfl⟩
abbrev cc1_scratch4 : Ref sig .scVector := ⟨.vmem, 9, rfl⟩
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc3_sem0_0 : DmaSem sig := 14
abbrev cc3_sem1_0 : DmaSem sig := 15
abbrev cc3_sem2_0 : DmaSem sig := 16
abbrev cc3_sem3_0 : DmaSem sig := 17
abbrev cc3_sem4_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_0 : BitVec 32) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let v3 : BitVec 32 := Scalar.addi v2 c0_i32
  let v4 : BitVec 32 := Scalar.addi c0_i32_0 v3
  ![v4.toNat]
def k0_off2 (i : grid0.Coords) (c0_i32 : BitVec 32) : Fin 1 → Nat :=
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let v3 : BitVec 32 := Scalar.addi v2 c0_i32
  let v19 : BitVec 32 := Scalar.addi c0_i32_5 v3
  ![v19.toNat]
@[reducible] def k0_t1_loop : Scf.Loop 32 :=
  let c0_i32_25 : BitVec 32 := 0#32
  let c64_i32 : BitVec 32 := 64#32
  let v58 : BitVec 32 := Scalar.addi c0_i32_25 c64_i32
  let c1_i32 : BitVec 32 := 1#32
  ⟨c0_i32_25, v58, c1_i32⟩
def k0_off3 (k0_t1 : Fin k0_t1_loop.trips) (c0_i32_103 : BitVec 32) : Fin 1 → Nat :=
  let c0_i32_25 : BitVec 32 := 0#32
  let c1_i32 : BitVec 32 := 1#32
  let arg12 : BitVec 32 := Scf.iv c0_i32_25 c1_i32 k0_t1
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v196 : Index := Scalar.indexCast v195
  ![v196.toNat]
def k0_off4 (k0_t1 : Fin k0_t1_loop.trips) (c0_i32_108 : BitVec 32) (c0_i32_103 : BitVec 32) : Fin 1 → Nat :=
  let c0_i32_25 : BitVec 32 := 0#32
  let c1_i32 : BitVec 32 := 1#32
  let arg12 : BitVec 32 := Scf.iv c0_i32_25 c1_i32 k0_t1
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v205 : BitVec 32 := Scalar.addi c0_i32_108 v195
  let v206 : Index := Scalar.indexCast v205
  ![v206.toNat]
@[reducible] def k0_t2_loop : Scf.Loop 32 :=
  let c0_i32_45 : BitVec 32 := 0#32
  let c64_i32_46 : BitVec 32 := 64#32
  let v94 : BitVec 32 := Scalar.addi c0_i32_45 c64_i32_46
  let c1_i32_47 : BitVec 32 := 1#32
  ⟨c0_i32_45, v94, c1_i32_47⟩
def k0_off5 (k0_t2 : Fin k0_t2_loop.trips) (c0_i32_103 : BitVec 32) : Fin 1 → Nat :=
  let c0_i32_45 : BitVec 32 := 0#32
  let c1_i32_47 : BitVec 32 := 1#32
  let arg12 : BitVec 32 := Scf.iv c0_i32_45 c1_i32_47 k0_t2
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v196 : Index := Scalar.indexCast v195
  ![v196.toNat]
def k0_off6 (k0_t2 : Fin k0_t2_loop.trips) (c0_i32_108 : BitVec 32) (c0_i32_103 : BitVec 32) : Fin 1 → Nat :=
  let c0_i32_45 : BitVec 32 := 0#32
  let c1_i32_47 : BitVec 32 := 1#32
  let arg12 : BitVec 32 := Scf.iv c0_i32_45 c1_i32_47 k0_t2
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v205 : BitVec 32 := Scalar.addi c0_i32_108 v195
  let v206 : Index := Scalar.indexCast v205
  ![v206.toNat]
@[reducible] def k0_t3_loop : Scf.Loop 32 :=
  let c0_i32_66 : BitVec 32 := 0#32
  let c64_i32_67 : BitVec 32 := 64#32
  let v130 : BitVec 32 := Scalar.addi c0_i32_66 c64_i32_67
  let c1_i32_68 : BitVec 32 := 1#32
  ⟨c0_i32_66, v130, c1_i32_68⟩
def k0_off7 (k0_t3 : Fin k0_t3_loop.trips) (c0_i32_103 : BitVec 32) : Fin 1 → Nat :=
  let c0_i32_66 : BitVec 32 := 0#32
  let c1_i32_68 : BitVec 32 := 1#32
  let arg12 : BitVec 32 := Scf.iv c0_i32_66 c1_i32_68 k0_t3
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v196 : Index := Scalar.indexCast v195
  ![v196.toNat]
def k0_off8 (k0_t3 : Fin k0_t3_loop.trips) (c0_i32_108 : BitVec 32) (c0_i32_103 : BitVec 32) : Fin 1 → Nat :=
  let c0_i32_66 : BitVec 32 := 0#32
  let c1_i32_68 : BitVec 32 := 1#32
  let arg12 : BitVec 32 := Scf.iv c0_i32_66 c1_i32_68 k0_t3
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v205 : BitVec 32 := Scalar.addi c0_i32_108 v195
  let v206 : Index := Scalar.indexCast v205
  ![v206.toNat]
@[reducible] def k0_t4_loop : Scf.Loop 32 :=
  let c0_i32_87 : BitVec 32 := 0#32
  let c64_i32_88 : BitVec 32 := 64#32
  let v166 : BitVec 32 := Scalar.addi c0_i32_87 c64_i32_88
  let c1_i32_89 : BitVec 32 := 1#32
  ⟨c0_i32_87, v166, c1_i32_89⟩
def k0_off9 (k0_t4 : Fin k0_t4_loop.trips) (c0_i32_103 : BitVec 32) : Fin 1 → Nat :=
  let c0_i32_87 : BitVec 32 := 0#32
  let c1_i32_89 : BitVec 32 := 1#32
  let arg12 : BitVec 32 := Scf.iv c0_i32_87 c1_i32_89 k0_t4
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v196 : Index := Scalar.indexCast v195
  ![v196.toNat]
def k0_off10 (k0_t4 : Fin k0_t4_loop.trips) (c0_i32_108 : BitVec 32) (c0_i32_103 : BitVec 32) : Fin 1 → Nat :=
  let c0_i32_87 : BitVec 32 := 0#32
  let c1_i32_89 : BitVec 32 := 1#32
  let arg12 : BitVec 32 := Scf.iv c0_i32_87 c1_i32_89 k0_t4
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v205 : BitVec 32 := Scalar.addi c0_i32_108 v195
  let v206 : Index := Scalar.indexCast v205
  ![v206.toNat]
@[reducible] def k0_t5_loop : Scf.Loop 32 :=
  let c0_i32_97 : BitVec 32 := 0#32
  let c64_i32_98 : BitVec 32 := 64#32
  let v182 : BitVec 32 := Scalar.addi c0_i32_97 c64_i32_98
  let c1_i32_99 : BitVec 32 := 1#32
  ⟨c0_i32_97, v182, c1_i32_99⟩
def k0_off11 (k0_t5 : Fin k0_t5_loop.trips) (c0_i32_103 : BitVec 32) : Fin 1 → Nat :=
  let c0_i32_97 : BitVec 32 := 0#32
  let c1_i32_99 : BitVec 32 := 1#32
  let arg12 : BitVec 32 := Scf.iv c0_i32_97 c1_i32_99 k0_t5
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v196 : Index := Scalar.indexCast v195
  ![v196.toNat]
def k0_off12 (k0_t5 : Fin k0_t5_loop.trips) (c0_i32_108 : BitVec 32) (c0_i32_103 : BitVec 32) : Fin 1 → Nat :=
  let c0_i32_97 : BitVec 32 := 0#32
  let c1_i32_99 : BitVec 32 := 1#32
  let arg12 : BitVec 32 := Scf.iv c0_i32_97 c1_i32_99 k0_t5
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v205 : BitVec 32 := Scalar.addi c0_i32_108 v195
  let v206 : Index := Scalar.indexCast v205
  ![v206.toNat]
def k0_off13 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v190 : BitVec 32 := Scalar.muli v1 c16_i32
  ![v190.toNat]
def k0_off14 (i : grid0.Coords) : Fin 1 → Nat :=
  let c512_i32 : BitVec 32 := 512#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_101 : BitVec 32 := 16#32
  let v191 : BitVec 32 := Scalar.muli v1 c16_i32_101
  let v192 : BitVec 32 := Scalar.addi c512_i32 v191
  ![v192.toNat]
abbrev grid1 : Pipeline.Grid := ⟨2, ![2, 16], ![false, false]⟩

def k1_off1 (i : grid1.Coords) (c0_i32_0 : BitVec 32) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let v3 : BitVec 32 := Scalar.addi v2 c0_i32
  let v4 : BitVec 32 := Scalar.addi c0_i32_0 v3
  ![v4.toNat]
def k1_off2 (i : grid1.Coords) (c0_i32 : BitVec 32) : Fin 1 → Nat :=
  let c327680_i32_5 : BitVec 32 := 327680#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let v3 : BitVec 32 := Scalar.addi v2 c0_i32
  let v19 : BitVec 32 := Scalar.addi c327680_i32_5 v3
  ![v19.toNat]
@[reducible] def k1_t1_loop : Scf.Loop 32 :=
  let c0_i32_25 : BitVec 32 := 0#32
  let c64_i32 : BitVec 32 := 64#32
  let v58 : BitVec 32 := Scalar.addi c0_i32_25 c64_i32
  let c1_i32 : BitVec 32 := 1#32
  ⟨c0_i32_25, v58, c1_i32⟩
def k1_off3 (k1_t1 : Fin k1_t1_loop.trips) (c0_i32_103 : BitVec 32) : Fin 1 → Nat :=
  let c0_i32_25 : BitVec 32 := 0#32
  let c1_i32 : BitVec 32 := 1#32
  let arg12 : BitVec 32 := Scf.iv c0_i32_25 c1_i32 k1_t1
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v196 : Index := Scalar.indexCast v195
  ![v196.toNat]
def k1_off4 (k1_t1 : Fin k1_t1_loop.trips) (c0_i32_108 : BitVec 32) (c0_i32_103 : BitVec 32) : Fin 1 → Nat :=
  let c0_i32_25 : BitVec 32 := 0#32
  let c1_i32 : BitVec 32 := 1#32
  let arg12 : BitVec 32 := Scf.iv c0_i32_25 c1_i32 k1_t1
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v205 : BitVec 32 := Scalar.addi c0_i32_108 v195
  let v206 : Index := Scalar.indexCast v205
  ![v206.toNat]
@[reducible] def k1_t2_loop : Scf.Loop 32 :=
  let c0_i32_45 : BitVec 32 := 0#32
  let c64_i32_46 : BitVec 32 := 64#32
  let v94 : BitVec 32 := Scalar.addi c0_i32_45 c64_i32_46
  let c1_i32_47 : BitVec 32 := 1#32
  ⟨c0_i32_45, v94, c1_i32_47⟩
def k1_off5 (k1_t2 : Fin k1_t2_loop.trips) (c0_i32_103 : BitVec 32) : Fin 1 → Nat :=
  let c0_i32_45 : BitVec 32 := 0#32
  let c1_i32_47 : BitVec 32 := 1#32
  let arg12 : BitVec 32 := Scf.iv c0_i32_45 c1_i32_47 k1_t2
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v196 : Index := Scalar.indexCast v195
  ![v196.toNat]
def k1_off6 (k1_t2 : Fin k1_t2_loop.trips) (c0_i32_108 : BitVec 32) (c0_i32_103 : BitVec 32) : Fin 1 → Nat :=
  let c0_i32_45 : BitVec 32 := 0#32
  let c1_i32_47 : BitVec 32 := 1#32
  let arg12 : BitVec 32 := Scf.iv c0_i32_45 c1_i32_47 k1_t2
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v205 : BitVec 32 := Scalar.addi c0_i32_108 v195
  let v206 : Index := Scalar.indexCast v205
  ![v206.toNat]
@[reducible] def k1_t3_loop : Scf.Loop 32 :=
  let c0_i32_66 : BitVec 32 := 0#32
  let c64_i32_67 : BitVec 32 := 64#32
  let v130 : BitVec 32 := Scalar.addi c0_i32_66 c64_i32_67
  let c1_i32_68 : BitVec 32 := 1#32
  ⟨c0_i32_66, v130, c1_i32_68⟩
def k1_off7 (k1_t3 : Fin k1_t3_loop.trips) (c0_i32_103 : BitVec 32) : Fin 1 → Nat :=
  let c0_i32_66 : BitVec 32 := 0#32
  let c1_i32_68 : BitVec 32 := 1#32
  let arg12 : BitVec 32 := Scf.iv c0_i32_66 c1_i32_68 k1_t3
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v196 : Index := Scalar.indexCast v195
  ![v196.toNat]
def k1_off8 (k1_t3 : Fin k1_t3_loop.trips) (c0_i32_108 : BitVec 32) (c0_i32_103 : BitVec 32) : Fin 1 → Nat :=
  let c0_i32_66 : BitVec 32 := 0#32
  let c1_i32_68 : BitVec 32 := 1#32
  let arg12 : BitVec 32 := Scf.iv c0_i32_66 c1_i32_68 k1_t3
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v205 : BitVec 32 := Scalar.addi c0_i32_108 v195
  let v206 : Index := Scalar.indexCast v205
  ![v206.toNat]
@[reducible] def k1_t4_loop : Scf.Loop 32 :=
  let c0_i32_87 : BitVec 32 := 0#32
  let c64_i32_88 : BitVec 32 := 64#32
  let v166 : BitVec 32 := Scalar.addi c0_i32_87 c64_i32_88
  let c1_i32_89 : BitVec 32 := 1#32
  ⟨c0_i32_87, v166, c1_i32_89⟩
def k1_off9 (k1_t4 : Fin k1_t4_loop.trips) (c0_i32_103 : BitVec 32) : Fin 1 → Nat :=
  let c0_i32_87 : BitVec 32 := 0#32
  let c1_i32_89 : BitVec 32 := 1#32
  let arg12 : BitVec 32 := Scf.iv c0_i32_87 c1_i32_89 k1_t4
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v196 : Index := Scalar.indexCast v195
  ![v196.toNat]
def k1_off10 (k1_t4 : Fin k1_t4_loop.trips) (c0_i32_108 : BitVec 32) (c0_i32_103 : BitVec 32) : Fin 1 → Nat :=
  let c0_i32_87 : BitVec 32 := 0#32
  let c1_i32_89 : BitVec 32 := 1#32
  let arg12 : BitVec 32 := Scf.iv c0_i32_87 c1_i32_89 k1_t4
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v205 : BitVec 32 := Scalar.addi c0_i32_108 v195
  let v206 : Index := Scalar.indexCast v205
  ![v206.toNat]
@[reducible] def k1_t5_loop : Scf.Loop 32 :=
  let c0_i32_97 : BitVec 32 := 0#32
  let c64_i32_98 : BitVec 32 := 64#32
  let v182 : BitVec 32 := Scalar.addi c0_i32_97 c64_i32_98
  let c1_i32_99 : BitVec 32 := 1#32
  ⟨c0_i32_97, v182, c1_i32_99⟩
def k1_off11 (k1_t5 : Fin k1_t5_loop.trips) (c0_i32_103 : BitVec 32) : Fin 1 → Nat :=
  let c0_i32_97 : BitVec 32 := 0#32
  let c1_i32_99 : BitVec 32 := 1#32
  let arg12 : BitVec 32 := Scf.iv c0_i32_97 c1_i32_99 k1_t5
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v196 : Index := Scalar.indexCast v195
  ![v196.toNat]
def k1_off12 (k1_t5 : Fin k1_t5_loop.trips) (c0_i32_108 : BitVec 32) (c0_i32_103 : BitVec 32) : Fin 1 → Nat :=
  let c0_i32_97 : BitVec 32 := 0#32
  let c1_i32_99 : BitVec 32 := 1#32
  let arg12 : BitVec 32 := Scf.iv c0_i32_97 c1_i32_99 k1_t5
  let c2_i32_102 : BitVec 32 := 2#32
  let v193 : BitVec 32 := Scalar.muli arg12 c2_i32_102
  let v194 : BitVec 32 := Scalar.addi v193 c0_i32_103
  let c16_i32_104 : BitVec 32 := 16#32
  let v195 : BitVec 32 := Scalar.muli v194 c16_i32_104
  let v205 : BitVec 32 := Scalar.addi c0_i32_108 v195
  let v206 : Index := Scalar.indexCast v205
  ![v206.toNat]
def k1_off13 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v190 : BitVec 32 := Scalar.muli v1 c16_i32
  ![v190.toNat]
def k1_off14 (i : grid1.Coords) : Fin 1 → Nat :=
  let c512_i32 : BitVec 32 := 512#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_101 : BitVec 32 := 16#32
  let v191 : BitVec 32 := Scalar.muli v1 c16_i32_101
  let v192 : BitVec 32 := Scalar.addi c512_i32 v191
  ![v192.toNat]
abbrev grid2 : Pipeline.Grid := ⟨1, ![24], ![false]⟩

def cc2_transform_0 (i : grid2.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc2_transform_1 (i : grid2.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S3x16384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x16384 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := .none

abbrev stage3_0 : Fin 1 → Memref sig .tc .vmem S8x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S8x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== KernelIdeal.lean ====
variable {F : FTy → Type} [FloatOps F] [Named F]
def κ : String → Option EReal := fun
  | "two_fifths" => some ((2 / 5 : ℝ) : EReal)
  | "two_thirds" => some ((2 / 3 : ℝ) : EReal)
  | _ => none
-- ==== ReferenceIdeal.lean ====
abbrev S1048576x3 : Shape := ⟨2, ![1048576, 3]⟩
abbrev S1048576 : Shape := ⟨1, ![1048576]⟩
abbrev S_ : Shape := ⟨0, ![]⟩
abbrev S3 : Shape := ⟨1, ![3]⟩
abbrev S1048576x1 : Shape := ⟨2, ![1048576, 1]⟩
abbrev S1x3 : Shape := ⟨2, ![1, 3]⟩

abbrev nBuf : Space → Nat
  | .hbm => 109
  | .vmem => 0
  | .smem => 0
  | _ => 0

abbrev bufTy : (tb : Table) → Fin (tcTables nBuf tb) → BufTy
  | .hbm, ⟨0, _⟩ => ⟨S1048576x3, .f32⟩
  | .hbm, ⟨1, _⟩ => ⟨S1048576, .i32⟩
  | .hbm, ⟨2, _⟩ => ⟨S_, .i32⟩
  | .hbm, ⟨3, _⟩ => ⟨S1048576, .i32⟩
  | .hbm, ⟨4, _⟩ => ⟨S1048576, .i1⟩
  | .hbm, ⟨5, _⟩ => ⟨S_, .i32⟩
  | .hbm, ⟨6, _⟩ => ⟨S1048576, .i32⟩
  | .hbm, ⟨7, _⟩ => ⟨S1048576, .i1⟩
  | .hbm, ⟨8, _⟩ => ⟨S1048576, .f32⟩
  | .hbm, ⟨9, _⟩ => ⟨S1048576, .f32⟩
  | .hbm, ⟨10, _⟩ => ⟨S_, .f32⟩
  | .hbm, ⟨11, _⟩ => ⟨S1048576, .f32⟩
  | .hbm, ⟨12, _⟩ => ⟨S1048576, .f32⟩
  | .hbm, ⟨13, _⟩ => ⟨S1048576, .f32⟩
  | .hbm, ⟨14, _⟩ => ⟨S1048576, .i32⟩
  | .hbm, ⟨15, _⟩ => ⟨S_, .i32⟩
  | .hbm, ⟨16, _⟩ => ⟨S_, .i32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1048576, .f32⟩
  | .hbm, ⟨21, _⟩ => ⟨S1048576, .f32⟩
  | .hbm, ⟨22, _⟩ => ⟨S3, .i32⟩
  | .hbm, ⟨23, _⟩ => ⟨S_, .i32⟩
  | .hbm, ⟨24, _⟩ => ⟨S3, .i32⟩
  | .hbm, ⟨25, _⟩ => ⟨S3, .i32⟩
  | .hbm, ⟨26, _⟩ => ⟨S1048576x1, .i32⟩
  | .hbm, ⟨27, _⟩ => ⟨S1x3, .i32⟩
  | .hbm, ⟨28, _⟩ => ⟨S1048576x3, .i32⟩
  | .hbm, ⟨29, _⟩ => ⟨S1048576x3, .i32⟩
  | .hbm, ⟨30, _⟩ => ⟨S1048576x3, .i1⟩
  | .hbm, ⟨31, _⟩ => ⟨S1048576x3, .f32⟩
  | .hbm, ⟨32, _⟩ => ⟨S1048576x3, .f32⟩
  | .hbm, ⟨33, _⟩ => ⟨S1048576x3, .f32⟩
  | .hbm, ⟨34, _⟩ => ⟨S_, .f32⟩
  | .hbm, ⟨35, _⟩ => ⟨S1048576x3, .f32⟩
  | .hbm, ⟨36, _⟩ => ⟨S1048576x3, .f32⟩
  | .hbm, ⟨37, _⟩ => ⟨S_, .f32⟩
  | .hbm, ⟨38, _⟩ => ⟨S1048576x3, .f32⟩
  | .hbm, ⟨39, _⟩ => ⟨S1048576x3, .f32⟩
  | .hbm, ⟨40, _⟩ => ⟨S_, .f32⟩
  | .hbm, ⟨41, _⟩ => ⟨S1048576x3, .f32⟩
  | .hbm, ⟨42, _⟩ => ⟨S1048576x3, .f32⟩
  | .hbm, ⟨43, _⟩ => ⟨S_, .f32⟩
  | .hbm, ⟨44, _⟩ => ⟨S1048576x3, .f32⟩
  | .hbm, ⟨45, _⟩ => ⟨S1048576x3, .f32⟩
  | .hbm, ⟨46, _⟩ => ⟨S_, .f32⟩
  | .hbm, ⟨47, _⟩ => ⟨S1048576x3, .f32⟩
  | .hbm, ⟨48, _⟩ => ⟨S1048576x3, .f32⟩
  | .hbm, ⟨49, _⟩ => ⟨S1048576x3, .f32⟩
  | .hbm, ⟨50, _⟩ => ⟨S_, .f32⟩
  | .hbm, ⟨51, _⟩ => ⟨S1048576x3, .f32⟩
  | .hbm, ⟨52, _⟩ => ⟨S1048576x3, .f32⟩
  | .hbm, ⟨53, _⟩ => ⟨S1048576x3, .f32⟩
  | .hbm, ⟨54, _⟩ => ⟨S_, .f32⟩
  | .hbm, ⟨55, _⟩ => ⟨S1048576x3, .f32⟩
  | .hbm, ⟨56, _⟩ => ⟨S1048576x3, .f32⟩
  | .hbm, ⟨57, _⟩ => ⟨S1048576x3, .f32⟩
  | .hbm, ⟨58, _⟩ => ⟨S1048576x3, .f32⟩
  | .hbm, ⟨59, _⟩ => ⟨S_, .f32⟩
  | .hbm, ⟨60, _⟩ => ⟨S1048576x3, .f32⟩
  | .hbm, ⟨61, _⟩ => ⟨S1048576x3, .f32⟩
  | .hbm, ⟨62, _⟩ => ⟨S1048576x3, .f32⟩
  | .hbm, ⟨63, _⟩ => ⟨S_, .f32⟩
  | .hbm, ⟨64, _⟩ => ⟨S1048576x3, .f32⟩
  | .hbm, ⟨65, _⟩ => ⟨S1048576x3, .f32⟩
  | .hbm, ⟨66, _⟩ => ⟨S1048576x3, .f32⟩
  | .hbm, ⟨67, _⟩ => ⟨S1048576x3, .f32⟩
  | .hbm, ⟨68, _⟩ => ⟨S1048576x3, .f32⟩
  | .hbm, ⟨69, _⟩ => ⟨S1048576x3, .f32⟩
  | .hbm, ⟨70, _⟩ => ⟨S1048576x3, .f32⟩
  | .hbm, ⟨71, _⟩ => ⟨S_, .f32⟩
  | .hbm, ⟨72, _⟩ => ⟨S1048576x3, .f32⟩
  | .hbm, ⟨73, _⟩ => ⟨S1048576x3, .f32⟩
  | .hbm, ⟨74, _⟩ => ⟨S1048576x3, .f32⟩
  | .hbm, ⟨75, _⟩ => ⟨S1048576x3, .f32⟩
  | .hbm, ⟨76, _⟩ => ⟨S1048576x3, .f32⟩
  | .hbm, ⟨77, _⟩ => ⟨S_, .f32⟩
  | .hbm, ⟨78, _⟩ => ⟨S1048576x3, .f32⟩
  | .hbm, ⟨79, _⟩ => ⟨S1048576x3, .f32⟩
  | .hbm, ⟨80, _⟩ => ⟨S1048576x3, .f32⟩
  | .hbm, ⟨81, _⟩ => ⟨S1048576x3, .f32⟩
  | .hbm, ⟨82, _⟩ => ⟨S1048576x3, .f32⟩
  | .hbm, ⟨83, _⟩ => ⟨S1048576x3, .f32⟩
  | .hbm, ⟨84, _⟩ => ⟨S1048576x3, .f32⟩
  | .hbm, ⟨85, _⟩ => ⟨S_, .f32⟩
  | .hbm, ⟨86, _⟩ => ⟨S1048576x3, .f32⟩
  | .hbm, ⟨87, _⟩ => ⟨S1048576x3, .f32⟩
  | .hbm, ⟨88, _⟩ => ⟨S1048576x3, .f32⟩
  | .hbm, ⟨89, _⟩ => ⟨S_, .f32⟩
  | .hbm, ⟨90, _⟩ => ⟨S1048576x3, .f32⟩
  | .hbm, ⟨91, _⟩ => ⟨S1048576x3, .f32⟩
  | .hbm, ⟨92, _⟩ => ⟨S1048576, .i32⟩
  | .hbm, ⟨93, _⟩ => ⟨S1048576x1, .i32⟩
  | .hbm, ⟨94, _⟩ => ⟨S_, .i32⟩
  | .hbm, ⟨95, _⟩ => ⟨S1048576x1, .i32⟩
  | .hbm, ⟨96, _⟩ => ⟨S1048576x1, .i1⟩
  | .hbm, ⟨97, _⟩ => ⟨S1048576x3, .f32⟩
  | .hbm, ⟨98, _⟩ => ⟨S1048576x3, .i1⟩
  | .hbm, ⟨99, _⟩ => ⟨S1048576x3, .f32⟩
  | .hbm, ⟨100, _⟩ => ⟨S1048576x3, .f32⟩
  | .hbm, ⟨101, _⟩ => ⟨S1048576x3, .f32⟩
  | .hbm, ⟨102, _⟩ => ⟨S1048576x1, .f32⟩
  | .hbm, ⟨103, _⟩ => ⟨S1048576x3, .f32⟩
  | .hbm, ⟨104, _⟩ => ⟨S1048576x3, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_13 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_14 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_15 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_16 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_17 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call0_v0 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_18 : Ref sig .tc := ⟨.hbm, 105, rfl⟩
abbrev main_v82 : Ref sig .tc := ⟨.hbm, 106, rfl⟩
abbrev main_cst_19 : Ref sig .tc := ⟨.hbm, 107, rfl⟩
abbrev main_v83 : Ref sig .tc := ⟨.hbm, 108, rfl⟩

abbrev nD : Nat := 1
abbrev τ : Topo := Topo.v7x

variable {F : FTy → Type} [FloatOps F]
-- ==== Proof.KBReg.lean ====
/-
  The two regions' entry and exit over the held buffers.
-/
module

public import proofs.«01_k».proof.Proof.KBDat
public import Idealize.ShloMosaic.Lib.Pipeline.Frame
public import Idealize.ShloMosaic.Lib.Pipeline.RegionArraysS

@[expose] public section

set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F]

local notation "𝕄" => MT nD τ sig (HIx 2) (Elt F) ℕ UU ℕ

variable (d : Dev nD) (W₀ W₁ : Valuation τ sig (Elt F))

theorem arr_sub0 : Pipeline.arrRefs (τ := τ) (pcfgs (F := F) 0).spec ⊆ uc := Pipeline.arrRefs_sub_ucRefs _ (show ∀ w : Fin 4, (Pipeline.arrRef spec2 w).isScoped = false by decide)

set_option backward.isDefEq.respectTransparency.types false in
theorem region_pre0 : iprop(StableHlo.held (d.tc : Thread nD τ) uc W₀ ∗ ((∃ Wd, owes (d.tc : Thread nD τ) (0 : CellTallies nD τ sig (HIx 2)) Wd) ∗ BI.emp ∗ BI.emp)) ⊢ (region2 W₀ W₁).pre d :=
  Pipeline.RegionSeg.ofHeldIn_pre (pcs := pcfgs (F := F)) (a := adm) (pdats := pdats W₀ W₁) (ι := none) (defs₀ := defs₀) (𝒱₀ := 𝒱₀) (L := (K (F := F)).L) (lv := (K (F := F)).lev) (p := 0)
    (D := fun _ => 0) (S := uc) (X := fun _ => BI.emp) (Y := fun _ => BI.emp) (R := fun _ => BI.emp) (W := fun _ => W₀) arr_sub0 d
set_option backward.isDefEq.respectTransparency.types false in
theorem region_post0 : (region2 W₀ W₁).post d
    ⊢ iprop(StableHlo.held (d.tc : Thread nD τ) uc (Pipeline.afterRegion (pdats W₀ W₁ 0 d) W₀) ∗ ((∃ Wd, owes (d.tc : Thread nD τ) (0 : CellTallies nD τ sig (HIx 2)) Wd) ∗ BI.emp ∗ BI.emp)) :=
  Pipeline.RegionSeg.ofHeldIn_post (pcs := pcfgs (F := F)) (a := adm) (pdats := pdats W₀ W₁) (ι := none) (defs₀ := defs₀) (𝒱₀ := 𝒱₀) (L := (K (F := F)).L) (lv := (K (F := F)).lev) (p := 0)
    (D := fun _ => 0) (S := uc) (X := fun _ => BI.emp) (Y := fun _ => BI.emp) (R := fun _ => BI.emp) (W := fun _ => W₀) arr_sub0 d

theorem arr_sub1 : Pipeline.arrRefs (τ := τ) (pcfgs (F := F) 1).spec ⊆ uc := Pipeline.arrRefs_sub_ucRefs _ (show ∀ w : Fin 5, (Pipeline.arrRef spec3 w).isScoped = false by decide)

set_option backward.isDefEq.respectTransparency.types false in
theorem region_pre1 : iprop(StableHlo.held (d.tc : Thread nD τ) uc W₁ ∗ ((∃ Wd, owes (d.tc : Thread nD τ) (0 : CellTallies nD τ sig (HIx 2)) Wd) ∗ BI.emp ∗ BI.emp)) ⊢ (region3 W₀ W₁).pre d :=
  Pipeline.RegionSeg.ofHeldIn_pre (pcs := pcfgs (F := F)) (a := adm) (pdats := pdats W₀ W₁) (ι := none) (defs₀ := defs₀) (𝒱₀ := 𝒱₀) (L := (K (F := F)).L) (lv := (K (F := F)).lev) (p := 1)
    (D := fun _ => 0) (S := uc) (X := fun _ => BI.emp) (Y := fun _ => BI.emp) (R := fun _ => BI.emp) (W := fun _ => W₁) arr_sub1 d
set_option backward.isDefEq.respectTransparency.types false in
theorem region_post1 : (region3 W₀ W₁).post d
    ⊢ iprop(StableHlo.held (d.tc : Thread nD τ) uc (Pipeline.afterRegion (pdats W₀ W₁ 1 d) W₁) ∗ ((∃ Wd, owes (d.tc : Thread nD τ) (0 : CellTallies nD τ sig (HIx 2)) Wd) ∗ BI.emp ∗ BI.emp)) :=
  Pipeline.RegionSeg.ofHeldIn_post (pcs := pcfgs (F := F)) (a := adm) (pdats := pdats W₀ W₁) (ι := none) (defs₀ := defs₀) (𝒱₀ := 𝒱₀) (L := (K (F := F)).L) (lv := (K (F := F)).lev) (p := 1)
    (D := fun _ => 0) (S := uc) (X := fun _ => BI.emp) (Y := fun _ => BI.emp) (R := fun _ => BI.emp) (W := fun _ => W₁) arr_sub1 d

end Cert.Proof.KB

end
-- ==== Proof.KBVal.lean ====
/-
The arguments are unchanged at the end.
-/
module

public import proofs.«01_k».proof.Proof.KBRun

@[expose] public section

set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F]

local notation "𝕄" => MT nD τ sig (HIx 2) (Elt F) ℕ UU ℕ

variable (m : (ℓ : Loc nD τ sig) → Buf (Elt F) ℓ) (ρ : Dev nD → PrngReg) (d : Dev nD)

/-- A buffer no operation of the program writes reads at the end as it did at the start. -/
theorem V9_keep (r : Ref sig .tc) (h0 : r ≠ main_v0) (h1 : r ≠ main_v1) (h2 : r ≠ main_v2) (h3 : r ≠ main_v3) (h4 : r ≠ main_v4) (h5 : r ≠ main_v5) (h6 : r ≠ main_v6)
    (h7 : r ≠ main_v7) (h9 : r ≠ main_v9) (h10 : r ≠ main_v10) (h12 : r ≠ main_v12) (hA : ∀ w : Fin 4, r ≠ Pipeline.arrRef spec2 w) (hB : ∀ w : Fin 5, r ≠ Pipeline.arrRef spec3 w) :
    V9 m d (Proc.devRef .tc r) = m (d, Proc.devRef .tc r) := by
  unfold V9; rw [StableHlo.reshape_result_ne _ _ _ _ _ _ _ h12]
  unfold V8; rw [Pipeline.afterRegion_of_not_arr _ _ hB]
  unfold V7; rw [StableHlo.reshape_result_ne _ _ _ _ _ _ _ h10, StableHlo.reshape_result_ne _ _ _ _ _ _ _ h9]
  unfold V6; rw [Pipeline.afterRegion_of_not_arr _ _ hA]
  unfold V5; rw [StableHlo.reshape_result_ne _ _ _ _ _ _ _ h7]
  unfold V4; rw [Function.update_of_ne (StableHlo.devRef_ne_of_ne h6)]
  unfold V3; rw [StableHlo.reshape_result_ne _ _ _ _ _ _ _ h5, StableHlo.unary_result_ne _ _ _ _ _ _ h4]
  unfold V2; rw [Function.update_of_ne (StableHlo.devRef_ne_of_ne h3)]
  unfold V1; rw [StableHlo.reshape_result_ne _ _ _ _ _ _ _ h2, StableHlo.unary_result_ne _ _ _ _ _ _ h1, StableHlo.unary_result_ne _ _ _ _ _ _ h0]
  rfl

theorem V9_arg0 : V9 m d (Proc.devRef .tc main_arg0) = m (d, Proc.devRef .tc main_arg0) :=
  V9_keep m d main_arg0 (by decide) (by decide) (by decide) (by decide) (by decide) (by decide) (by decide) (by decide) (by decide) (by decide) (by decide) (by decide) (by decide)
theorem V9_arg1 : V9 m d (Proc.devRef .tc main_arg1) = m (d, Proc.devRef .tc main_arg1) :=
  V9_keep m d main_arg1 (by decide) (by decide) (by decide) (by decide) (by decide) (by decide) (by decide) (by decide) (by decide) (by decide) (by decide) (by decide) (by decide)

/-- The run leaves the arguments as they were and every counter at zero. -/
theorem run_frame [∀ e, Nonempty (Elt F e)] :
    θ_run (Cert.Kernel.defs (F := F)) (Cert.Kernel.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun _ h => ⟨fun c => ⟨(h.1 c).1.trans (V9_arg0 m c), (h.1 c).2.1.trans (V9_arg1 m c)⟩, h.2⟩) (run_main m ρ)

end Cert.Proof.KB
end
-- ==== Proof.KIBase.lean ====
/-
  What the proof modules of this kernel share: the program as the launch theorem sees it, the resource algebra (the
  handshakes' rounds, the TensorCore pipelines' rounds, the transfers' counters), and the values one trip of a tile's
  loop computes, written once for the ten loops.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The kernels' label signature, lifted through the two TensorCore pipelines. -/
abbrev ΛP : Labels := Pipeline.Sig Λ₀ (Fin 2) fun p => (pcfgs (F := F) p).Adm
/-- The two SparseCore calls. -/
abbrev K : SparseCore.Cfg τ sig (ΛP (F := F)) 2 := sc (F := F)
theorem nSub_eq (q : Fin 2) : (K (F := F)).nSub q = 16 := by match q with | 0 => rfl | 1 => rfl
theorem nCore_eq (q : Fin 2) : (K (F := F)).nCore q = 2 := by match q with | 0 => rfl | 1 => rfl
/-- The bodies' table, lifted. -/
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the launch semaphores and the SparseCores' buffers, decided. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 2) (Elt F) ℕ UU ℕ

/-- The handshakes' rounds in the machine's algebra, -/
abbrev EH : Emb UH (MT nD τ sig (HIx 2) (Elt F) ℕ UU ℕ) := embL
/-- and the TensorCore pipelines'. -/
def EP : Emb UP (MT nD τ sig (HIx 2) (Elt F) ℕ UU ℕ) :=
  (Emb.inl : Emb UP (UP × Counters)).trans embR

instance EP_landsIn : (EP : Emb UP 𝕄).LandsIn (upEmb : UEmb _ 𝕄) := by unfold EP embR; infer_instance

/-! ## One trip of a tile's loop -/

section Values

variable [FloatOps F] [Named F]

/-- The constants the loop multiplies the squared quotient by. -/
def cTwoFifths : F .f32 := Named.named κ "two_fifths" 0x3ECCCCCD#32
def cTwoThirds : F .f32 := Named.named κ "two_thirds" 0x3F2AAAAB#32

abbrev lit (b : BitVec 32) : FVec F S16 .f32 := broadcast S16 (Scalar.ofBits .f32 b)

/-- The count of labelled points, with one group of sixteen labels added. -/
def posUpd (acc : FVec F S16 .f32) (l : Vec F S16 .i32) : FVec F S16 .f32 :=
  addf acc (select (cmpi .sgt (shapeCast S16 l shapeCasts_S16_S16) (broadcast S16 0#32)) (lit 0x3F800000#32) (lit 0x00000000#32))

/-- The weighted loss of one class over one group of sixteen points. -/
def lossOf (k : BitVec 32) (l : Vec F S16 .i32) (p : Vec F S16 .f32) : FVec F S16 .f32 :=
  let x : FVec F S16 .f32 := shapeCast S16 p shapeCasts_S16_S16
  let hit : IVec S16 1 := cmpi .eq (shapeCast S16 l shapeCasts_S16_S16) (broadcast S16 k)
  let z : FVec F S16 .f32 := select hit (subf (lit 0x00000000#32) x) x
  let e : FVec F S16 .f32 := exp (subf (lit 0x00000000#32) (absf x))
  let r : FVec F S16 .f32 := divf (lit 0x3F800000#32) (addf (lit 0x3F800000#32) e)
  let pt : FVec F S16 .f32 := select (cmpf .oge z (lit 0x00000000#32)) r (mulf e r)
  let y : FVec F S16 .f32 := divf e (addf (lit 0x40000000#32) e)
  let y2 : FVec F S16 .f32 := mulf y y
  let ce : FVec F S16 .f32 := addf (maximumf z (lit 0x00000000#32))
    (mulf y (addf (lit 0x40000000#32) (mulf y2 (addf (broadcast S16 cTwoThirds) (mulf y2 (broadcast S16 cTwoFifths))))))
  mulf (mulf (select hit (lit 0x3E800000#32) (lit 0x3F400000#32)) (mulf pt pt)) ce

/-- One group of sixteen points: the loss of the three classes and the count. -/
def group (a : FVec F S16 .f32 × FVec F S16 .f32) (l : Vec F S16 .i32) (p : Fin 3 → Vec F S16 .f32) : FVec F S16 .f32 × FVec F S16 .f32 :=
  (addf (addf (addf a.1 (lossOf 1#32 l (p 0))) (lossOf 2#32 l (p 1))) (lossOf 3#32 l (p 2)), posUpd a.2 l)

/-- Sixteen consecutive values from place `o`. -/
def lanes {α : Type} (f : ℕ → α) (o : ℕ) : S16.Idx → α := fun j => f (o + (j 0).val)

/-- One trip: two groups. `P c n` is class `c`'s value at point `n` of the chunk and `L n` the point's label. -/
def trip (P : Fin 3 → ℕ → F .f32) (L : ℕ → BitVec 32) (t : ℕ) (a : FVec F S16 .f32 × FVec F S16 .f32) : FVec F S16 .f32 × FVec F S16 .f32 :=
  group (group a (lanes L (32 * t + 16 * 0)) fun c => lanes (P c) (32 * t + 16 * 0)) (lanes L (32 * t + 16 * 1)) fun c => lanes (P c) (32 * t + 16 * 1)

/-- The first `k` trips. -/
def trips (P : Fin 3 → ℕ → F .f32) (L : ℕ → BitVec 32) (a : FVec F S16 .f32 × FVec F S16 .f32) : ℕ → FVec F S16 .f32 × FVec F S16 .f32
  | 0 => a
  | k + 1 => trip P L k (trips P L a k)

/-- A tile's class-major buffer of one chunk holds `P`. -/
def HoldsP (f : S6144.Idx → F .f32) (P : Fin 3 → ℕ → F .f32) : Prop :=
  ∀ (c : Fin 3) (n : ℕ) (j : S6144.Idx), (j 0).val = 2048 * c.val + n → n < 2048 → f j = P c n
/-- A tile's label buffer of one chunk holds `L`. -/
def HoldsL (f : S2048.Idx → BitVec 32) (L : ℕ → BitVec 32) : Prop := ∀ j : S2048.Idx, f j = L (j 0).val

end Values

end Cert.Proof.KI

end
-- ==== Proof.KITrip.lean ====
module

public import proofs.«01_k».proof.Proof.KIBase

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F] [Named F]

local notation "𝕄" => MT nD τ sig (HIx 2) (Elt F) ℕ UU ℕ

/-- The loop's body, with the buffers it reads named. -/
abbrev tripProg (i : grid0.Coords) (pv : Memref sig .scVector .vmem S6144 .f32) (hpv : pv.IsWhole) (lv : Memref sig .scVector .vmem S2048 .i32) (hlv : lv.IsWhole)
    (t : Fin 64) (a : FVec F S16 .f32 × FVec F S16 .f32) :
    Prog (TpuEff nD τ sig (Elt F) Λ₀ (.scVector ((i 0).castLE hcore0) ((i 1).castLE hsub0))) (FVec F S16 .f32 × FVec F S16 .f32) :=
  k0_t1_body i (Memref.whole main_v2_scv) (Memref.isWhole_whole _) (Memref.whole main_arg1_scv) (Memref.isWhole_whole _) (Memref.whole main_v3_scv) (Memref.isWhole_whole _)
    pv hpv pv hpv lv hlv lv hlv (Memref.whole cc0_scratch4) (Memref.isWhole_whole _) cc0_scratch5 cc0_scratch6 cc0_scoped0 cc0_scoped1
    0#32 a.1 a.2 t a

/-- Every load of the loop from the class buffer reads `P`, -/
def ReadsP (i : grid0.Coords) (d : Dev nD) (pv : Memref sig .scVector .vmem S6144 .f32)
    (fp : Buf (Elt F) (pv.view.loc (V d ((i 0).castLE hcore0) ((i 1).castLE hsub0)))) (P : Fin 3 → ℕ → F .f32) : Prop :=
  ∀ (t : Fin 64) (c : Fin 3) (u : Fin 2), View.readAt (Elt F) pv.view
    (Rect.unit (s := S6144) (k0_off4 t (BitVec.ofNat 32 (2048 * c.val)) (BitVec.ofNat 32 u.val)) S16.size (k0_off4_inb t c u)).toLoadRect fp = lanes (P c) (32 * t.val + 16 * u.val)
/-- and from the label buffer `L`. -/
def ReadsL (i : grid0.Coords) (d : Dev nD) (lv : Memref sig .scVector .vmem S2048 .i32)
    (fl : Buf (Elt F) (lv.view.loc (V d ((i 0).castLE hcore0) ((i 1).castLE hsub0)))) (L : ℕ → BitVec 32) : Prop :=
  ∀ (t : Fin 64) (u : Fin 2), View.readAt (Elt F) lv.view
    (Rect.unit (s := S2048) (k0_off3 t (BitVec.ofNat 32 u.val)) S16.size (k0_off3_inb t u)).toLoadRect fl = lanes L (32 * t.val + 16 * u.val)

theorem group_pays (a : FVec F S16 .f32 × FVec F S16 .f32) (l : Vec F S16 .i32) (p0 p1 p2 : Vec F S16 .f32) :
    (k0_pay25 (k0_pay17 (k0_pay10 a.1 (k0_pay4 l) (k0_pay5 l p0) (k0_pay7 l p0) (k0_pay8 p0) (k0_pay9 p0) (Scalar.ofBits .f32 0x40000000#32))
        (k0_pay12 (k0_pay1 l)) (k0_pay13 (k0_pay1 l) p1) (k0_pay15 (k0_pay1 l) p1) (k0_pay16 p1))
      (k0_pay19 (k0_pay1 l)) (k0_pay22 (k0_pay1 l) p2) (k0_pay23 p2) (k0_pay24 (k0_pay1 l) p2), k0_pay2 a.2 l) = group a l ![p0, p1, p2] := rfl

theorem group_pays' (a : FVec F S16 .f32 × FVec F S16 .f32) (l : Vec F S16 .i32) (p0 p1 p2 : Vec F S16 .f32) :
    (k0_pay263 (k0_pay43 (k0_pay34 a.1 (k0_pay29 l) (k0_pay30 l p0) (k0_pay32 l p0) (k0_pay33 p0))
        (k0_pay36 (k0_pay26 l)) (k0_pay37 (k0_pay26 l) p1) (k0_pay39 (k0_pay26 l) p1) (k0_pay40 p1) (k0_pay41 p1) k0_pay42)
      (k0_pay45 (k0_pay26 l)) (k0_pay46 (k0_pay26 l) p2) (k0_pay48 (k0_pay26 l) p2) (k0_pay49 p2) (k0_pay50 p2) (k0_pay51 p2) k0_pay52, k0_pay27 a.2 l) = group a l ![p0, p1, p2] := rfl

theorem trip_pays (a : FVec F S16 .f32 × FVec F S16 .f32) (l l' : Vec F S16 .i32) (p0 p1 p2 p0' p1' p2' : Vec F S16 .f32) :
    (k0_pay263 (k0_pay43 (k0_pay34 (k0_pay25 (k0_pay17 (k0_pay10 a.1 (k0_pay4 l) (k0_pay5 l p0) (k0_pay7 l p0) (k0_pay8 p0) (k0_pay9 p0) (Scalar.ofBits .f32 0x40000000#32))
        (k0_pay12 (k0_pay1 l)) (k0_pay13 (k0_pay1 l) p1) (k0_pay15 (k0_pay1 l) p1) (k0_pay16 p1))
      (k0_pay19 (k0_pay1 l)) (k0_pay22 (k0_pay1 l) p2) (k0_pay23 p2) (k0_pay24 (k0_pay1 l) p2)) (k0_pay29 l') (k0_pay30 l' p0') (k0_pay32 l' p0') (k0_pay33 p0'))
        (k0_pay36 (k0_pay26 l')) (k0_pay37 (k0_pay26 l') p1') (k0_pay39 (k0_pay26 l') p1') (k0_pay40 p1') (k0_pay41 p1') k0_pay42)
      (k0_pay45 (k0_pay26 l')) (k0_pay46 (k0_pay26 l') p2') (k0_pay48 (k0_pay26 l') p2') (k0_pay49 p2') (k0_pay50 p2') (k0_pay51 p2') k0_pay52, k0_pay27 (k0_pay2 a.2 l) l') = group (group a l ![p0, p1, p2]) l' ![p0', p1', p2'] := by
  rw [← group_pays a l p0 p1 p2, ← group_pays']

/-- The loop's body, its eight loads in order and the value it leaves. -/
abbrev flatTrip (i : grid0.Coords) (pv : Memref sig .scVector .vmem S6144 .f32) (lv : Memref sig .scVector .vmem S2048 .i32)
    (t : Fin 64) (a : FVec F S16 .f32 × FVec F S16 .f32) :
    Prog (TpuEff nD τ sig (Elt F) Λ₀ (.scVector ((i 0).castLE hcore0) ((i 1).castLE hsub0))) (FVec F S16 .f32 × FVec F S16 .f32) := do
  let l : Vec F S16 .i32 ← Prog.lift (.load lv (Rect.unit (s := S2048) (k0_off3 t 0#32) S16.size (k0_off3_inb t 0)).toLoadRect (View.loadsAt_vmem h_S16))
  let p0 : Vec F S16 .f32 ← Prog.lift (.load pv (Rect.unit (s := S6144) (k0_off4 t 0#32 0#32) S16.size (k0_off4_inb t 0 0)).toLoadRect (View.loadsAt_vmem h_S16))
  let p1 : Vec F S16 .f32 ← Prog.lift (.load pv (Rect.unit (s := S6144) (k0_off4 t 2048#32 0#32) S16.size (k0_off4_inb t 1 0)).toLoadRect (View.loadsAt_vmem h_S16))
  let p2 : Vec F S16 .f32 ← Prog.lift (.load pv (Rect.unit (s := S6144) (k0_off4 t 4096#32 0#32) S16.size (k0_off4_inb t 2 0)).toLoadRect (View.loadsAt_vmem h_S16))
  let l' : Vec F S16 .i32 ← Prog.lift (.load lv (Rect.unit (s := S2048) (k0_off3 t 1#32) S16.size (k0_off3_inb t 1)).toLoadRect (View.loadsAt_vmem h_S16))
  let p0' : Vec F S16 .f32 ← Prog.lift (.load pv (Rect.unit (s := S6144) (k0_off4 t 0#32 1#32) S16.size (k0_off4_inb t 0 1)).toLoadRect (View.loadsAt_vmem h_S16))
  let p1' : Vec F S16 .f32 ← Prog.lift (.load pv (Rect.unit (s := S6144) (k0_off4 t 2048#32 1#32) S16.size (k0_off4_inb t 1 1)).toLoadRect (View.loadsAt_vmem h_S16))
  let p2' : Vec F S16 .f32 ← Prog.lift (.load pv (Rect.unit (s := S6144) (k0_off4 t 4096#32 1#32) S16.size (k0_off4_inb t 2 1)).toLoadRect (View.loadsAt_vmem h_S16))
  pure (group (group a l ![p0, p1, p2]) l' ![p0', p1', p2'])

set_option maxHeartbeats 1000000 in
theorem tripProg_eq (i : grid0.Coords) (pv : Memref sig .scVector .vmem S6144 .f32) (hpv : pv.IsWhole) (lv : Memref sig .scVector .vmem S2048 .i32) (hlv : lv.IsWhole)
    (t : Fin 64) (a : FVec F S16 .f32 × FVec F S16 .f32) : tripProg i pv hpv lv hlv t a = flatTrip i pv lv t a := by
  simp only [← trip_pays]
  unfold tripProg k0_t1_body
  simp only [k0_part1_eq_skeleton, k0_part2_eq_skeleton, k0_part3_eq_skeleton, k0_part4_eq_skeleton, k0_part5_eq_skeleton, k0_part6_eq_skeleton]
  rfl

theorem group_congr {a a' : FVec F S16 .f32 × FVec F S16 .f32} {l l' : Vec F S16 .i32} {p0 p1 p2 : Vec F S16 .f32} {q : Fin 3 → Vec F S16 .f32}
    (ha : a = a') (hl : l = l') (h0 : p0 = q 0) (h1 : p1 = q 1) (h2 : p2 = q 2) : group a l ![p0, p1, p2] = group a' l' q := by
  subst ha hl h0 h1 h2
  exact congrArg (group a l) (funext fun c => match c with | 0 => rfl | 1 => rfl | 2 => rfl)

/-- One trip, from buffers that hold a chunk: the two running vectors become `trip`'s, the buffers are kept. -/
theorem trip_wp (d : Dev nD) (i : grid0.Coords)
    (pv : Memref sig .scVector .vmem S6144 .f32) (hpv : pv.IsWhole) (lv : Memref sig .scVector .vmem S2048 .i32) (hlv : lv.IsWhole)
    (fp : Buf (Elt F) (pv.view.loc (V d ((i 0).castLE hcore0) ((i 1).castLE hsub0))))
    (fl : Buf (Elt F) (lv.view.loc (V d ((i 0).castLE hcore0) ((i 1).castLE hsub0))))
    (P : Fin 3 → ℕ → F .f32) (L : ℕ → BitVec 32) (hP : ReadsP i d pv fp P) (hL : ReadsL i d lv fl L)
    (t : Fin 64) (a : FVec F S16 .f32 × FVec F S16 .f32) :
    iprop((pv.view.loc (V d ((i 0).castLE hcore0) ((i 1).castLE hsub0)) ↦{fullShare} fp)
        ∗ (lv.view.loc (V d ((i 0).castLE hcore0) ((i 1).castLE hsub0)) ↦{fullShare} fl))
      ⊢ (wp frame (wpE (defs₀ (F := F)) 𝒱₀ (V d ((i 0).castLE hcore0) ((i 1).castLE hsub0)) none) Set.univ
          (tripProg i pv hpv lv hlv t a)
          fun r => iprop(⌜r = trip P L t.val a⌝ ∗ (pv.view.loc (V d ((i 0).castLE hcore0) ((i 1).castLE hsub0)) ↦{fullShare} fp)
            ∗ (lv.view.loc (V d ((i 0).castLE hcore0) ((i 1).castLE hsub0)) ↦{fullShare} fl)) : sProp 𝕄) := by
  rw [tripProg_eq]; unfold flatTrip
  iintro ⟨Hp, Hl⟩
  sl_exec
  sl_step
  isplitr
  · ipureintro
    exact group_congr (group_congr rfl (hL t 0) (hP t 0 0) (hP t 1 0) (hP t 2 0)) (hL t 1) (hP t 0 1) (hP t 1 1) (hP t 2 1)
  · isplitl [Hp]
    · iexact Hp
    · iexact Hl

set_option maxHeartbeats 2000000 in
theorem body1_eq (i : grid0.Coords) (a2 h2 a3 h3 a4 h4 pv hpv pv' hpv' lv hlv lv' hlv' a9 h9 s5 s6 r0 r1 v1 b1 b2 t a) :
    k0_t1_body (F := F) i a2 h2 a3 h3 a4 h4 pv hpv pv' hpv' lv hlv lv' hlv' a9 h9 s5 s6 r0 r1 v1 b1 b2 t a = tripProg i pv hpv lv hlv t a := rfl
set_option maxHeartbeats 2000000 in
theorem body2_eq (i : grid0.Coords) (a2 h2 a3 h3 a4 h4 pv hpv pv' hpv' lv hlv lv' hlv' a9 h9 s5 s6 r0 r1 v1 b1 b2 t a) :
    k0_t2_body (F := F) i a2 h2 a3 h3 a4 h4 pv hpv pv' hpv' lv hlv lv' hlv' a9 h9 s5 s6 r0 r1 v1 b1 b2 t a = tripProg i pv' hpv' lv' hlv' t a := rfl

set_option maxHeartbeats 2000000 in
theorem body3_eq (i : grid0.Coords) (a2 h2 a3 h3 a4 h4 pv hpv pv' hpv' lv hlv lv' hlv' a9 h9 s5 s6 r0 r1 v1 b1 b2 c t a) :
    k0_t3_body (F := F) i a2 h2 a3 h3 a4 h4 pv hpv pv' hpv' lv hlv lv' hlv' a9 h9 s5 s6 r0 r1 v1 b1 b2 c t a = tripProg i pv hpv lv hlv t a := rfl
set_option maxHeartbeats 2000000 in
theorem body4_eq (i : grid0.Coords) (a2 h2 a3 h3 a4 h4 pv hpv pv' hpv' lv hlv lv' hlv' a9 h9 s5 s6 r0 r1 v1 b1 b2 t a) :
    k0_t4_body (F := F) i a2 h2 a3 h3 a4 h4 pv hpv pv' hpv' lv hlv lv' hlv' a9 h9 s5 s6 r0 r1 v1 b1 b2 t a = tripProg i pv' hpv' lv' hlv' t a := rfl
set_option maxHeartbeats 2000000 in
theorem body5_eq (i : grid0.Coords) (a2 h2 a3 h3 a4 h4 pv hpv pv' hpv' lv hlv lv' hlv' a9 h9 s5 s6 r0 r1 v1 b1 b2 t a) :
    k0_t5_body (F := F) i a2 h2 a3 h3 a4 h4 pv hpv pv' hpv' lv hlv lv' hlv' a9 h9 s5 s6 r0 r1 v1 b1 b2 t a = tripProg i pv hpv lv hlv t a := rfl

set_option maxHeartbeats 2000000 in
theorem body'1_eq (i : grid1.Coords) (a2 h2 a3 h3 a4 h4 pv hpv pv' hpv' lv hlv lv' hlv' a9 h9 s5 s6 r0 r1 v1 b1 b2 t a) :
    k1_t1_body (F := F) i a2 h2 a3 h3 a4 h4 pv hpv pv' hpv' lv hlv lv' hlv' a9 h9 s5 s6 r0 r1 v1 b1 b2 t a = tripProg (i : grid0.Coords) pv hpv lv hlv t a := rfl
set_option maxHeartbeats 2000000 in
theorem body'2_eq (i : grid1.Coords) (a2 h2 a3 h3 a4 h4 pv hpv pv' hpv' lv hlv lv' hlv' a9 h9 s5 s6 r0 r1 v1 b1 b2 t a) :
    k1_t2_body (F := F) i a2 h2 a3 h3 a4 h4 pv hpv pv' hpv' lv hlv lv' hlv' a9 h9 s5 s6 r0 r1 v1 b1 b2 t a = tripProg (i : grid0.Coords) pv' hpv' lv' hlv' t a := rfl

set_option maxHeartbeats 2000000 in
theorem body'3_eq (i : grid1.Coords) (a2 h2 a3 h3 a4 h4 pv hpv pv' hpv' lv hlv lv' hlv' a9 h9 s5 s6 r0 r1 v1 b1 b2 c t a) :
    k1_t3_body (F := F) i a2 h2 a3 h3 a4 h4 pv hpv pv' hpv' lv hlv lv' hlv' a9 h9 s5 s6 r0 r1 v1 b1 b2 c t a = tripProg (i : grid0.Coords) pv hpv lv hlv t a := rfl
set_option maxHeartbeats 2000000 in
theorem body'4_eq (i : grid1.Coords) (a2 h2 a3 h3 a4 h4 pv hpv pv' hpv' lv hlv lv' hlv' a9 h9 s5 s6 r0 r1 v1 b1 b2 t a) :
    k1_t4_body (F := F) i a2 h2 a3 h3 a4 h4 pv hpv pv' hpv' lv hlv lv' hlv' a9 h9 s5 s6 r0 r1 v1 b1 b2 t a = tripProg (i : grid0.Coords) pv' hpv' lv' hlv' t a := rfl
set_option maxHeartbeats 2000000 in
theorem body'5_eq (i : grid1.Coords) (a2 h2 a3 h3 a4 h4 pv hpv pv' hpv' lv hlv lv' hlv' a9 h9 s5 s6 r0 r1 v1 b1 b2 t a) :
    k1_t5_body (F := F) i a2 h2 a3 h3 a4 h4 pv hpv pv' hpv' lv hlv lv' hlv' a9 h9 s5 s6 r0 r1 v1 b1 b2 t a = tripProg (i : grid0.Coords) pv hpv lv hlv t a := rfl

end Cert.Proof.KI

end
-- ==== Proof.KIRead.lean ====
module

public import proofs.«01_k».proof.Proof.KITrip

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F] [Named F]

local notation "𝕄" => MT nD τ sig (HIx 2) (Elt F) ℕ UU ℕ

section Tile

abbrev cV (L : grid0.Coords) : Fin τ.nSC := (L 0).castLE hcore0
abbrev jV (L : grid0.Coords) : Fin τ.nSub := (L 1).castLE hsub0

variable (d : Dev nD) (L : grid0.Coords)

theorem read_writes_of_pieces {κ : Kind} {sp : Space} {s : Shape} {e : EltTy} (v : View sig κ sp s e) (f : v.ty.Contents (Elt F)) (G : s.Idx → Elt F e) (y : s.Idx) :
    ∀ L : List (View.Piece (Elt F) s e), (∀ p ∈ L, ∀ x, p.2 x = G (p.1.emb x)) → (∃ p ∈ L, y ∈ p.1.set) → v.read (Elt F) (v.writes (Elt F) f L) y = G y
  | [], _, h => by obtain ⟨_, hm, _⟩ := h; exact absurd hm List.not_mem_nil
  | ⟨r, w⟩ :: L, hP, h => by
    by_cases hy : y ∈ r.set
    · obtain ⟨x, rfl⟩ : ∃ x, r.emb x = y := r.exists_idx_of_mem hy
      rw [View.read_writes_cons_emb]
      exact hP _ List.mem_cons_self x
    · obtain ⟨q, hq, hm⟩ := h
      rw [View.read_writes_cons_miss _ _ _ _ _ hy]
      refine read_writes_of_pieces v f G y L (fun p hp => hP p (List.mem_cons_of_mem _ hp)) ⟨q, ?_, hm⟩
      rcases List.mem_cons.1 hq with rfl | hq
      · exact absurd hm hy
      · exact hq

/-- Class-major position `y` of a chunk's buffer. -/
abbrev atP (P : Fin 3 → ℕ → F .f32) (y : S6144.Idx) : F .f32 := P ⟨(y 0).val / 2048, Nat.div_lt_of_lt_mul (y 0).isLt⟩ ((y 0).val % 2048)

theorem atP_eq (P : Fin 3 → ℕ → F .f32) (y : S6144.Idx) (c : Fin 3) (n : ℕ) (hn : n < 2048) (h : (y 0).val = 2048 * c.val + n) : atP P y = P c n := by
  have hc : (⟨(y 0).val / 2048, Nat.div_lt_of_lt_mul (y 0).isLt⟩ : Fin 3) = c := Fin.ext (by show (y 0).val / 2048 = c.val; omega)
  have hn' : (y 0).val % 2048 = n := by omega
  unfold atP; rw [hc, hn']

set_option maxHeartbeats 1000000 in
theorem readsP_writes (pv : Memref sig .scVector .vmem S6144 .f32) (fp : Buf (Elt F) (pv.view.loc (V d (cV L) (jV L))))
    (w0 w1 w2 : S2048.Idx → F .f32) (P : Fin 3 → ℕ → F .f32) (h0 : ∀ j, w0 j = P 0 (j 0).val) (h1 : ∀ j, w1 j = P 1 (j 0).val) (h2 : ∀ j, w2 j = P 2 (j 0).val) :
    ReadsP L d pv (pv.view.writes (Elt F) fp [⟨Rect.unit (s := S6144) ![4096] S2048.size inb_S6144_S2048_4096, w2⟩,
      ⟨Rect.unit (s := S6144) ![2048] S2048.size inb_S6144_S2048_2048, w1⟩, ⟨Rect.unit (s := S6144) ![0] S2048.size inb_S6144_S2048_0, w0⟩]) P := by
  intro t c u
  funext j
  rw [View.readAt_apply]
  have hj : (j 0).val < 16 := (j 0).isLt
  have ht := t.isLt; have hu := u.isLt; have hc := c.isLt
  have hy : (((Rect.unit (s := S6144) (k0_off4 t (BitVec.ofNat 32 (2048 * c.val)) (BitVec.ofNat 32 u.val)) S16.size (k0_off4_inb t c u)).toLoadRect.idx j) 0).val
      = 2048 * c.val + (32 * t.val + 16 * u.val + (j 0).val) := by
    show (k0_off4 t (BitVec.ofNat 32 (2048 * c.val)) (BitVec.ofNat 32 u.val)) 0 + _ = _
    refine (congrArg (fun z : Fin 1 → ℕ => z 0 + 1 * (j 0).val) (k0_off4_eq t c u)).trans ?_
    show 2048 * c.val + 32 * t.val + 16 * u.val + 1 * (j 0).val = _
    omega
  rw [read_writes_of_pieces pv.view fp (atP P)]
  · rw [atP_eq P _ c _ (by omega) hy]; rfl
  · intro p hp
    simp only [List.mem_cons, List.not_mem_nil, _root_.or_false] at hp
    rcases hp with rfl | rfl | rfl
    · intro x
      have hx : (x 0).val < 2048 := (x 0).isLt
      exact (h2 x).trans (atP_eq P _ 2 (x 0).val hx (by show 4096 + 1 * (x 0).val = _; omega)).symm
    · intro x
      have hx : (x 0).val < 2048 := (x 0).isLt
      exact (h1 x).trans (atP_eq P _ 1 (x 0).val hx (by show 2048 + 1 * (x 0).val = _; omega)).symm
    · intro x
      have hx : (x 0).val < 2048 := (x 0).isLt
      exact (h0 x).trans (atP_eq P _ 0 (x 0).val hx (by show 0 + 1 * (x 0).val = _; omega)).symm
  · generalize (Rect.unit (s := S6144) (k0_off4 t (BitVec.ofNat 32 (2048 * c.val)) (BitVec.ofNat 32 u.val)) S16.size (k0_off4_inb t c u)).toLoadRect.idx j = y at hy
    simp only [List.mem_cons, List.not_mem_nil, _root_.or_false, exists_eq_or_imp, exists_eq_left, Rect.mem_set_unit]
    have key : ∀ o : ℕ, o ≤ (y 0).val → (y 0).val < o + 2048 → ∀ a, (![o] : Fin 1 → ℕ) a ≤ (y a).val ∧ (y a).val < (![o] : Fin 1 → ℕ) a + S2048.size a :=
      fun o h h' a => match a with | 0 => ⟨h, h'⟩
    match c, hy with
    | 0, hy => exact .inr (.inr (key 0 (by simp at hy; omega) (by simp at hy; omega)))
    | 1, hy => exact .inr (.inl (key 2048 (by simp at hy; omega) (by simp at hy; omega)))
    | 2, hy => exact .inl (key 4096 (by simp at hy; omega) (by simp at hy; omega))

set_option maxHeartbeats 1000000 in
theorem readsL_write (lv : Memref sig .scVector .vmem S2048 .i32) (hlv : lv.IsWhole) (fl : Buf (Elt F) (lv.view.loc (V d (cV L) (jV L))))
    (w : S2048.Idx → BitVec 32) (N : ℕ → BitVec 32) (h : ∀ j, w j = N (j 0).val) :
    ReadsL L d lv (View.write (Elt F) lv.view fl w Finset.univ) N := by
  intro t u
  funext j
  rw [View.readAt_apply, View.read_write_univ, h]
  have hx : (((Rect.unit (s := S2048) (k0_off3 t (BitVec.ofNat 32 u.val)) S16.size (k0_off3_inb t u)).toLoadRect.idx j) 0).val
      = 32 * t.val + 16 * u.val + (j 0).val := by
    show (k0_off3 t (BitVec.ofNat 32 u.val)) 0 + _ = _
    refine (congrArg (fun z : Fin 1 → ℕ => z 0 + 1 * (j 0).val) (k0_off3_eq t u)).trans ?_
    show 32 * t.val + 16 * u.val + 1 * (j 0).val = _
    omega
  rw [hx]; rfl

theorem forgetP (pv : Memref sig .scVector .vmem S6144 .f32) (fp : Buf (Elt F) (pv.view.loc (V d (cV L) (jV L))))
    (w0 w1 w2 : S2048.Idx → F .f32) (P : Fin 3 → ℕ → F .f32) (h0 : ∀ j, w0 j = P 0 (j 0).val) (h1 : ∀ j, w1 j = P 1 (j 0).val) (h2 : ∀ j, w2 j = P 2 (j 0).val) :
    (pv.view.loc (V d (cV L) (jV L)) ↦{fullShare} pv.view.writes (Elt F) fp [⟨Rect.unit (s := S6144) ![4096] S2048.size inb_S6144_S2048_4096, w2⟩,
      ⟨Rect.unit (s := S6144) ![2048] S2048.size inb_S6144_S2048_2048, w1⟩, ⟨Rect.unit (s := S6144) ![0] S2048.size inb_S6144_S2048_0, w0⟩] : sProp 𝕄)
    ⊢ iprop(∃ f : Buf (Elt F) (pv.view.loc (V d (cV L) (jV L))), ⌜ReadsP L d pv f P⌝ ∗ (pv.view.loc (V d (cV L) (jV L)) ↦{fullShare} f)) := by
  iintro H
  iexists _
  isplitr
  · ipureintro; exact readsP_writes d L pv fp w0 w1 w2 P h0 h1 h2
  · iexact H

theorem forgetL (lv : Memref sig .scVector .vmem S2048 .i32) (hlv : lv.IsWhole) (fl : Buf (Elt F) (lv.view.loc (V d (cV L) (jV L))))
    (w : S2048.Idx → BitVec 32) (N : ℕ → BitVec 32) (h : ∀ j, w j = N (j 0).val) :
    (lv.view.loc (V d (cV L) (jV L)) ↦{fullShare} View.write (Elt F) lv.view fl w Finset.univ : sProp 𝕄)
    ⊢ iprop(∃ f : Buf (Elt F) (lv.view.loc (V d (cV L) (jV L))), ⌜ReadsL L d lv f N⌝ ∗ (lv.view.loc (V d (cV L) (jV L)) ↦{fullShare} f)) := by
  iintro H
  iexists _
  isplitr
  · ipureintro; exact readsL_write d L lv hlv fl w N h
  · iexact H

/-- What holds before trip `k` of a chunk's loop. -/
def loopI (pv : Memref sig .scVector .vmem S6144 .f32) (lv : Memref sig .scVector .vmem S2048 .i32)
    (f : Buf (Elt F) (pv.view.loc (V d (cV L) (jV L)))) (g : Buf (Elt F) (lv.view.loc (V d (cV L) (jV L))))
    (P : Fin 3 → ℕ → F .f32) (N : ℕ → BitVec 32) (a₀ : FVec F S16 .f32 × FVec F S16 .f32) (k : ℕ) (a : FVec F S16 .f32 × FVec F S16 .f32) : sProp 𝕄 :=
  iprop(⌜a = trips P N a₀ k⌝ ∗ (pv.view.loc (V d (cV L) (jV L)) ↦{fullShare} f) ∗ (lv.view.loc (V d (cV L) (jV L)) ↦{fullShare} g))

theorem loopI_step (pv : Memref sig .scVector .vmem S6144 .f32) (hpv : pv.IsWhole) (lv : Memref sig .scVector .vmem S2048 .i32) (hlv : lv.IsWhole)
    (f : Buf (Elt F) (pv.view.loc (V d (cV L) (jV L)))) (g : Buf (Elt F) (lv.view.loc (V d (cV L) (jV L))))
    (P : Fin 3 → ℕ → F .f32) (N : ℕ → BitVec 32) (hP : ReadsP L d pv f P) (hN : ReadsL L d lv g N) (a₀ : FVec F S16 .f32 × FVec F S16 .f32)
    (k : Fin 64) (a : FVec F S16 .f32 × FVec F S16 .f32) :
    loopI d L pv lv f g P N a₀ k.val a ⊢ (wp frame (wpE (defs₀ (F := F)) 𝒱₀ (V d (cV L) (jV L)) none) Set.univ
      (tripProg L pv hpv lv hlv k a) fun r => loopI d L pv lv f g P N a₀ (k.val + 1) r : sProp 𝕄) := by
  unfold loopI
  iintro ⟨%ha, H⟩
  subst ha
  ihave H := (trip_wp d L pv hpv lv hlv f g P N hP hN k (trips P N a₀ k.val)) $$ H
  iexact H

/-- The two running vectors after `k` chunks: `P k` and `N k` are chunk `k`'s. -/
def chunks (P : ℕ → Fin 3 → ℕ → F .f32) (N : ℕ → ℕ → BitVec 32) : ℕ → FVec F S16 .f32 × FVec F S16 .f32
  | 0 => (lit 0x00000000#32, lit 0x00000000#32)
  | k + 1 => trips (P k) (N k) (chunks P N k) 64

theorem loopI_done (pv : Memref sig .scVector .vmem S6144 .f32) (lv : Memref sig .scVector .vmem S2048 .i32)
    (f : Buf (Elt F) (pv.view.loc (V d (cV L) (jV L)))) (g : Buf (Elt F) (lv.view.loc (V d (cV L) (jV L))))
    (P : ℕ → Fin 3 → ℕ → F .f32) (N : ℕ → ℕ → BitVec 32) (k n : ℕ) (hn : n = 64) (a : FVec F S16 .f32 × FVec F S16 .f32) :
    loopI d L pv lv f g (P k) (N k) (chunks P N k) n a
      ⊢ (iprop(⌜a = chunks P N (k + 1)⌝ ∗ (pv.view.loc (V d (cV L) (jV L)) ↦{fullShare} f) ∗ (lv.view.loc (V d (cV L) (jV L)) ↦{fullShare} g)) : sProp 𝕄) := by
  subst hn; exact BI.Entails.refl _

/-- Chunk `k` of a tile whose rows begin at `327680 · class + o`. -/
def cutP (A : ℕ → F .f32) (o k : ℕ) (c : Fin 3) (n : ℕ) : F .f32 := A (327680 * c.val + o + 2048 * k + n)
def cutN (B : ℕ → BitVec 32) (o k n : ℕ) : BitVec 32 := B (o + 2048 * k + n)

end Tile

end Cert.Proof.KI

end
-- ==== Proof.KITile0.lean ====
module

public import proofs.«01_k».proof.Proof.KIRead

@[expose] public section

set_option maxRecDepth 16384

noncomputable section

namespace Cert.Proof.KI.C0

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F] [Named F]

local notation "𝕄" => MT nD τ sig (HIx 2) (Elt F) ℕ UU ℕ

section Tile

local notation "a2" => (Memref.whole Cert.KernelIdeal.main_v2_scv : Memref Cert.KernelIdeal.sig Kind.scVector Space.hbm Cert.KernelIdeal.S983040 EltTy.f32)
local notation "a3" => (Memref.whole Cert.KernelIdeal.main_arg1_scv : Memref Cert.KernelIdeal.sig Kind.scVector Space.hbm Cert.KernelIdeal.S1048576 EltTy.i32)
local notation "a4" => (Memref.whole Cert.KernelIdeal.main_v3_scv : Memref Cert.KernelIdeal.sig Kind.scVector Space.hbm Cert.KernelIdeal.S1024 EltTy.f32)
local notation "b0" => (Memref.whole Cert.KernelIdeal.cc0_scratch0 : Memref Cert.KernelIdeal.sig Kind.scVector Space.vmem Cert.KernelIdeal.S6144 EltTy.f32)
local notation "b1" => (Memref.whole Cert.KernelIdeal.cc0_scratch1 : Memref Cert.KernelIdeal.sig Kind.scVector Space.vmem Cert.KernelIdeal.S6144 EltTy.f32)
local notation "b2" => (Memref.whole Cert.KernelIdeal.cc0_scratch2 : Memref Cert.KernelIdeal.sig Kind.scVector Space.vmem Cert.KernelIdeal.S2048 EltTy.i32)
local notation "b3" => (Memref.whole Cert.KernelIdeal.cc0_scratch3 : Memref Cert.KernelIdeal.sig Kind.scVector Space.vmem Cert.KernelIdeal.S2048 EltTy.i32)
local notation "b4" => (Memref.whole Cert.KernelIdeal.cc0_scratch4 : Memref Cert.KernelIdeal.sig Kind.scVector Space.vmem Cert.KernelIdeal.S32 EltTy.f32)

variable (d : Dev nD) (L : grid0.Coords)

abbrev thr (d : Dev nD) (L : grid0.Coords) : Thread nD τ := V d (cV L) (jV L)

/-- A chunk of a class's row, and of the labels, as the tile slices it. -/
abbrev pWin (o : Fin 1 → ℕ) (h : ∀ a, o a + S2048.size a ≤ S983040.size a) : Memref sig .scVector .hbm S2048 .f32 :=
  (a2).slice (Rect.unit (s := S983040) o S2048.size h) (fun _ => rfl)
abbrev lWin (o : Fin 1 → ℕ) (h : ∀ a, o a + S2048.size a ≤ S1048576.size a) : Memref sig .scVector .hbm S2048 .i32 :=
  (a3).slice (Rect.unit (s := S1048576) o S2048.size h) (fun _ => rfl)
abbrev oWin (L : grid0.Coords) : Memref sig .scVector .hbm S16 .f32 :=
  (a4).slice (Rect.unit (s := S1024) (k0_off13 L) S16.size (k0_off13_inb L)) (fun _ => rfl)
abbrev oWin' (L : grid0.Coords) : Memref sig .scVector .hbm S16 .f32 :=
  (a4).slice (Rect.unit (s := S1024) (k0_off14 L) S16.size (k0_off14_inb L)) (fun _ => rfl)

variable (fa : Buf (Elt F) ((a2).view.loc (thr d L))) (fb : Buf (Elt F) ((a3).view.loc (thr d L))) (fo : Buf (Elt F) ((a4).view.loc (thr d L)))

abbrev pPts (o : Fin 1 → ℕ) (h : ∀ a, o a + S2048.size a ≤ S983040.size a) : sProp 𝕄 :=
  (pWin o h).view.loc (thr d L) ↦[(pWin o h).view.set]{fullShare} fa
abbrev lPts (o : Fin 1 → ℕ) (h : ∀ a, o a + S2048.size a ≤ S1048576.size a) : sProp 𝕄 :=
  (lWin o h).view.loc (thr d L) ↦[(lWin o h).view.set]{fullShare} fb
/-- The four windows a chunk's copies read. -/
abbrev chunkPts (b : BitVec 32) (h0 : ∀ a, k0_off1 L 0#32 b a + S2048.size a ≤ S983040.size a) (h1 : ∀ a, k0_off1 L 327680#32 b a + S2048.size a ≤ S983040.size a)
    (h2 : ∀ a, k0_off1 L 655360#32 b a + S2048.size a ≤ S983040.size a) (h3 : ∀ a, k0_off2 L b a + S2048.size a ≤ S1048576.size a) : sProp 𝕄 :=
  iprop(pPts d L fa (k0_off1 L 0#32 b) h0 ∗ pPts d L fa (k0_off1 L 327680#32 b) h1 ∗ pPts d L fa (k0_off1 L 655360#32 b) h2 ∗ lPts d L fb (k0_off2 L b) h3)

theorem pRead (A : ℕ → F .f32) (hfa : ∀ j : S983040.Idx, fa j = A (j 0).val) (o : Fin 1 → ℕ) (h : ∀ a, o a + S2048.size a ≤ S983040.size a) (n : ℕ) (ho : o = ![n]) (j : S2048.Idx) :
    View.read (Elt F) (pWin o h).view fa j = A (n + (j 0).val) := by
  subst ho
  refine (hfa _).trans (congrArg A ?_)
  show n + 1 * (j 0).val = _
  omega
theorem lRead (B : ℕ → BitVec 32) (hfb : ∀ j : S1048576.Idx, fb j = B (j 0).val) (o : Fin 1 → ℕ) (h : ∀ a, o a + S2048.size a ≤ S1048576.size a) (n : ℕ) (ho : o = ![n]) (j : S2048.Idx) :
    View.read (Elt F) (lWin o h).view fb j = B (n + (j 0).val) := by
  subst ho
  refine (hfb _).trans (congrArg B ?_)
  show n + 1 * (j 0).val = _
  omega

/-- Where the tile's points begin in the segment. -/
abbrev tOff (L : grid0.Coords) : ℕ := 20480 * (L 1).val + 10240 * (L 0).val
abbrev lOff (L : grid0.Coords) : ℕ := 20480 * (L 1).val + 10240 * (L 0).val

theorem pCut (A : ℕ → F .f32) (hfa : ∀ j : S983040.Idx, fa j = A (j 0).val) (c : Fin 3) (k : ℕ) (o : Fin 1 → ℕ) (h : ∀ a, o a + S2048.size a ≤ S983040.size a)
    (ho : o = ![327680 * c.val + 20480 * (L 1).val + 10240 * (L 0).val + 2048 * k]) (j : S2048.Idx) :
    View.read (Elt F) (pWin o h).view fa j = cutP A (tOff L) k c (j 0).val := by
  rw [pRead d L fa A hfa o h _ ho]
  unfold cutP; congr 1; unfold tOff; omega
theorem lCut (B : ℕ → BitVec 32) (hfb : ∀ j : S1048576.Idx, fb j = B (j 0).val) (k : ℕ) (o : Fin 1 → ℕ) (h : ∀ a, o a + S2048.size a ≤ S1048576.size a)
    (ho : o = ![20480 * (L 1).val + 10240 * (L 0).val + 2048 * k]) (j : S2048.Idx) :
    View.read (Elt F) (lWin o h).view fb j = cutN B (lOff L) k (j 0).val := by
  rw [lRead d L fb B hfb o h _ ho]
  refine congrArg B ?_; unfold lOff; omega

/-- The part of the result that a tile's window names, at what the tile left there. -/
theorem outWin_congr (o : Fin 1 → ℕ) (h : ∀ a, o a + S16.size a ≤ S1024.size a) (n : ℕ) (ho : o = ![n]) (w : S16.Idx → F .f32)
    (fx : Buf (Elt F) ((a4).view.loc (thr d L))) (X : ℕ → F .f32) (hfx : ∀ j : S1024.Idx, fx j = X (j 0).val) (hw : ∀ j : S16.Idx, w j = X (n + (j 0).val))
    (M : Memref sig .scVector .hbm S16 .f32) (hM : M = (a4).slice (Rect.unit (s := S1024) o S16.size h) (fun _ => rfl)) :
    (M.view.loc (thr d L) ↦[M.view.set]{fullShare} M.view.writes (Elt F) (hM ▸ fo) [⟨Rect.whole S16, w⟩] : sProp 𝕄)
      = (M.view.loc (thr d L) ↦[M.view.set]{fullShare} (hM ▸ fx)) := by
  subst hM ho
  refine pointsTo_congr fun i hi => ?_
  obtain ⟨x, -, rfl⟩ := Finset.mem_map.mp hi
  refine (View.read_writes_cons_hit_of_coords ((a4).slice (Rect.unit (s := S1024) ![n] S16.size h) (fun _ => rfl)).view fo (Rect.whole S16) w [] x x
    (fun a => by show (x a).val = 0 + 1 * (x a).val; omega)).trans ?_
  rw [hw x]
  refine ((hfx _).trans (congrArg X ?_)).symm
  show n + 1 * (x 0).val = _
  omega

/-- What the staging buffer's two halves read after the two stores. -/
theorem stage_fst (fs : Buf (Elt F) ((b4).view.loc (thr d L))) (x y : S16.Idx → F .f32) (j : S16.Idx) :
    View.read (Elt F) ((b4).slice (Rect.unit (s := S32) ![0] S16.size inb_S32_S16_0) (fun _ => rfl)).view
      ((b4).view.writes (Elt F) fs [⟨Rect.unit (s := S32) ![16] S16.size inb_S32_S16_16, y⟩, ⟨Rect.unit (s := S32) ![0] S16.size inb_S32_S16_0, x⟩]) j = x j := by
  have hj : (j 0).val < 16 := (j 0).isLt
  refine (View.read_writes_cons_miss (b4).view fs ⟨Rect.unit (s := S32) ![16] S16.size inb_S32_S16_16, y⟩ [⟨Rect.unit (s := S32) ![0] S16.size inb_S32_S16_0, x⟩]
    ((Rect.unit (s := S32) ![0] S16.size inb_S32_S16_0).emb j) ?_).trans (View.read_writes_cons_emb (b4).view fs (Rect.unit (s := S32) ![0] S16.size inb_S32_S16_0) x [] j)
  intro hm
  have h16 : 16 ≤ 0 + 1 * (j 0).val := (Rect.mem_set_unit (inb := inb_S32_S16_16).mp hm 0).1
  omega
theorem stage_snd (fs : Buf (Elt F) ((b4).view.loc (thr d L))) (x y : S16.Idx → F .f32) (j : S16.Idx) :
    View.read (Elt F) ((b4).slice (Rect.unit (s := S32) ![16] S16.size inb_S32_S16_16) (fun _ => rfl)).view
      ((b4).view.writes (Elt F) fs [⟨Rect.unit (s := S32) ![16] S16.size inb_S32_S16_16, y⟩, ⟨Rect.unit (s := S32) ![0] S16.size inb_S32_S16_0, x⟩]) j = y j :=
  View.read_writes_cons_emb (b4).view fs (Rect.unit (s := S32) ![16] S16.size inb_S32_S16_16) y [⟨Rect.unit (s := S32) ![0] S16.size inb_S32_S16_0, x⟩] j

theorem fst_of_eq {α β : Type} {a : α} {b : β} {p : α × β} (h : (a, b) = p) : a = p.1 := by subst h; rfl
theorem snd_of_eq {α β : Type} {a : α} {b : β} {p : α × β} (h : (a, b) = p) : b = p.2 := by subst h; rfl

/-- The windows a tile works on: five chunks of the three rows and of the labels, and its sixteen lanes of each half of the result. -/
abbrev tilePts (fo : Buf (Elt F) ((a4).view.loc (thr d L))) : sProp 𝕄 :=
  iprop(chunkPts d L fa fb 0#32 (k0_off1_inb L 0 0) (k0_off1_inb L 1 0) (k0_off1_inb L 2 0) (k0_off2_inb L 0) ∗ chunkPts d L fa fb 2048#32 (k0_off1_inb L 0 1) (k0_off1_inb L 1 1) (k0_off1_inb L 2 1) (k0_off2_inb L 1) ∗ chunkPts d L fa fb 4096#32 (k0_off1_inb L 0 2) (k0_off1_inb L 1 2) (k0_off1_inb L 2 2) (k0_off2_inb L 2) ∗ chunkPts d L fa fb 6144#32 (k0_off1_inb L 0 3) (k0_off1_inb L 1 3) (k0_off1_inb L 2 3) (k0_off2_inb L 3) ∗ chunkPts d L fa fb 8192#32 (k0_off1_inb L 0 4) (k0_off1_inb L 1 4) (k0_off1_inb L 2 4) (k0_off2_inb L 4)
    ∗ ((oWin L).view.loc (thr d L) ↦[(oWin L).view.set]{fullShare} fo) ∗ ((oWin' L).view.loc (thr d L) ↦[(oWin' L).view.set]{fullShare} fo))

set_option maxHeartbeats 4000000 in
theorem tile_wp (fx : Buf (Elt F) ((a4).view.loc (thr d L))) (X : ℕ → F .f32) (hfx : ∀ j : S1024.Idx, fx j = X (j 0).val) (A : ℕ → F .f32) (hfa : ∀ j : S983040.Idx, fa j = A (j 0).val) (B : ℕ → BitVec 32) (hfb : ∀ j : S1048576.Idx, fb j = B (j 0).val)
    (hX : ∀ j : S16.Idx, (chunks (cutP A (tOff L)) (cutN B (lOff L)) 5).1 j = X (32 * (L 1).val + 16 * (L 0).val + (j 0).val))
    (hX' : ∀ j : S16.Idx, (chunks (cutP A (tOff L)) (cutN B (lOff L)) 5).2 j = X (32 * (L 1).val + 16 * (L 0).val + 512 + (j 0).val)) (O : CellTallies nD τ sig (HIx 2)) (W : Waits sig (HIx 2))
    (_pl0 : Transfers.BatchOf (thr d L) (SemLoc.dma (sig := sig) cc0_scratch5.sem) 4 (windows := true))
    (_pl1 : Transfers.BatchOf (thr d L) (SemLoc.dma (sig := sig) cc0_scratch6.sem) 4 (windows := true))
    (fp0 : Buf (Elt F) ((b0).view.loc (thr d L))) (fp1 : Buf (Elt F) ((b1).view.loc (thr d L)))
    (fl0 : Buf (Elt F) ((b2).view.loc (thr d L))) (fl1 : Buf (Elt F) ((b3).view.loc (thr d L)))
    (fs : Buf (Elt F) ((b4).view.loc (thr d L))) :
    iprop(Transfers.MayWaits (thr d L) (default : HIx 2) O
        ∗ tilePts d L fa fb fo
        ∗ ((b0).view.loc (thr d L) ↦{fullShare} fp0) ∗ ((b1).view.loc (thr d L) ↦{fullShare} fp1)
        ∗ ((b2).view.loc (thr d L) ↦{fullShare} fl0) ∗ ((b3).view.loc (thr d L) ↦{fullShare} fl1)
        ∗ ((b4).view.loc (thr d L) ↦{fullShare} fs)
        ∗ semVal (thr d L, .dma cc0_scratch5.sem) 0 ∗ semVal (thr d L, .dma cc0_scratch6.sem) 0
        ∗ semVal (thr d L, .dma cc0_scoped0.sem) 0 ∗ semVal (thr d L, .dma cc0_scoped1.sem) 0
        ∗ owes (thr d L) O W)
      ⊢ (wp frame (wpE (defs₀ (F := F)) 𝒱₀ (thr d L) none) Set.univ
          (cc0__focal_partial_body L a2 (Memref.isWhole_whole _) a3 (Memref.isWhole_whole _) a4 (Memref.isWhole_whole _)
            b0 (Memref.isWhole_whole _) b1 (Memref.isWhole_whole _) b2 (Memref.isWhole_whole _) b3 (Memref.isWhole_whole _) b4 (Memref.isWhole_whole _)
            cc0_scratch5 cc0_scratch6 cc0_scoped0 cc0_scoped1)
          fun _ => iprop(tilePts d L fa fb fx
            ∗ ((∃ f : Buf (Elt F) ((b0).view.loc (thr d L)), (b0).view.loc (thr d L) ↦{fullShare} f) ∗ (∃ f : Buf (Elt F) ((b1).view.loc (thr d L)), (b1).view.loc (thr d L) ↦{fullShare} f)
              ∗ (∃ f : Buf (Elt F) ((b2).view.loc (thr d L)), (b2).view.loc (thr d L) ↦{fullShare} f) ∗ (∃ f : Buf (Elt F) ((b3).view.loc (thr d L)), (b3).view.loc (thr d L) ↦{fullShare} f)
              ∗ (∃ f : Buf (Elt F) ((b4).view.loc (thr d L)), (b4).view.loc (thr d L) ↦{fullShare} f))
            ∗ (semVal (thr d L, .dma cc0_scratch5.sem) 0 ∗ semVal (thr d L, .dma cc0_scratch6.sem) 0
              ∗ semVal (thr d L, .dma cc0_scoped0.sem) 0 ∗ semVal (thr d L, .dma cc0_scoped1.sem) 0)
            ∗ ∃ W', ⌜∀ p ∈ W', p ∈ W ∨ p.2 = none⌝ ∗ owes (thr d L) O W') : sProp 𝕄) := by
  rw [cc0__focal_partial_body_eq_skeleton]; unfold cc0__focal_partial_body_skel
  rw [k0_part31_eq_skeleton, k0_part32_eq_skeleton]
  unfold k0_part31_skel k0_part32_skel
  iintro ⟨#Hmw, ⟨⟨P00, P10, P20, L0⟩, ⟨P01, P11, P21, L1⟩, ⟨P02, P12, P22, L2⟩, ⟨P03, P13, P23, L3⟩, ⟨P04, P14, P24, L4⟩, Ho, Ho'⟩, Hb0, Hb1, Hb2, Hb3, Hb4, S5, S6, R0, R1, HO⟩
  sl_exec
  ihave H := (forgetP d L b0 _ (tile_wp.sl.dma0 d L fa) (tile_wp.sl.dma1 d L fa) (tile_wp.sl.dma2 d L fa) (cutP A (tOff L) 0) (pCut d L fa A hfa 0 0 _ (k0_off1_inb L 0 0) (k0_off1_eq L 0 0)) (pCut d L fa A hfa 1 0 _ (k0_off1_inb L 1 0) (k0_off1_eq L 1 0)) (pCut d L fa A hfa 2 0 _ (k0_off1_inb L 2 0) (k0_off1_eq L 2 0))) $$ Hb0
  icases H with ⟨%f0, %hf0, Hb0⟩
  ihave H := (forgetL d L b2 (Memref.isWhole_whole _) _ (tile_wp.sl.dma3 d L fb) (cutN B (lOff L) 0) (lCut d L fb B hfb 0 _ (k0_off2_inb L 0) (k0_off2_eq L 0))) $$ Hb2
  icases H with ⟨%g0, %hg0, Hb2⟩
  rw [wp_bind]
  sl_for (loopI d L b0 b2 f0 g0 (cutP A (tOff L) 0) (cutN B (lOff L) 0) (chunks (cutP A (tOff L)) (cutN B (lOff L)) 0)) $$ [Hb0 Hb2]
  · intro k acc
    exact loopI_step d L b0 (Memref.isWhole_whole _) b2 (Memref.isWhole_whole _) f0 g0 _ _ hf0 hg0 _ k acc
  · unfold loopI
    isplitr
    · ipureintro; rfl
    · isplitl [Hb0]
      · iexact Hb0
      · iexact Hb2
  iintro %acc Hl
  ihave H := (loopI_done d L b0 b2 f0 g0 (cutP A (tOff L)) (cutN B (lOff L)) 0 _ (by decide) acc) $$ Hl
  icases H with ⟨%hacc1, Hb0, Hb2⟩
  obtain ⟨x1, y1⟩ := acc
  sl_exec
  ihave H := (forgetP d L b1 _ (tile_wp.sl.dma4 d L fa) (tile_wp.sl.dma5 d L fa) (tile_wp.sl.dma6 d L fa) (cutP A (tOff L) 1) (pCut d L fa A hfa 0 1 _ (k0_off1_inb L 0 1) (k0_off1_eq L 0 1)) (pCut d L fa A hfa 1 1 _ (k0_off1_inb L 1 1) (k0_off1_eq L 1 1)) (pCut d L fa A hfa 2 1 _ (k0_off1_inb L 2 1) (k0_off1_eq L 2 1))) $$ Hb1
  icases H with ⟨%f1, %hf1, Hb1⟩
  ihave H := (forgetL d L b3 (Memref.isWhole_whole _) _ (tile_wp.sl.dma7 d L fb) (cutN B (lOff L) 1) (lCut d L fb B hfb 1 _ (k0_off2_inb L 1) (k0_off2_eq L 1))) $$ Hb3
  icases H with ⟨%g1, %hg1, Hb3⟩
  sl_for (loopI d L b1 b3 f1 g1 (cutP A (tOff L) 1) (cutN B (lOff L) 1) (chunks (cutP A (tOff L)) (cutN B (lOff L)) 1)) $$ [Hb1 Hb3]
  · intro k acc
    exact loopI_step d L b1 (Memref.isWhole_whole _) b3 (Memref.isWhole_whole _) f1 g1 _ _ hf1 hg1 _ k acc
  · unfold loopI
    isplitr
    · ipureintro; exact hacc1
    · isplitl [Hb1]
      · iexact Hb1
      · iexact Hb3
  iintro %acc Hl
  ihave H := (loopI_done d L b1 b3 f1 g1 (cutP A (tOff L)) (cutN B (lOff L)) 1 _ (by decide) acc) $$ Hl
  icases H with ⟨%hacc2, Hb1, Hb3⟩
  obtain ⟨x2, y2⟩ := acc
  sl_exec
  ihave H := (forgetP d L b0 _ (tile_wp.sl.dma0_1 d L fa) (tile_wp.sl.dma1_1 d L fa) (tile_wp.sl.dma2_1 d L fa) (cutP A (tOff L) 2) (pCut d L fa A hfa 0 2 _ (k0_off1_inb L 0 2) (k0_off1_eq L 0 2)) (pCut d L fa A hfa 1 2 _ (k0_off1_inb L 1 2) (k0_off1_eq L 1 2)) (pCut d L fa A hfa 2 2 _ (k0_off1_inb L 2 2) (k0_off1_eq L 2 2))) $$ Hb0
  icases H with ⟨%f2, %hf2, Hb0⟩
  ihave H := (forgetL d L b2 (Memref.isWhole_whole _) _ (tile_wp.sl.dma3_1 d L fb) (cutN B (lOff L) 2) (lCut d L fb B hfb 2 _ (k0_off2_inb L 2) (k0_off2_eq L 2))) $$ Hb2
  icases H with ⟨%g2, %hg2, Hb2⟩
  sl_for (loopI d L b0 b2 f2 g2 (cutP A (tOff L) 2) (cutN B (lOff L) 2) (chunks (cutP A (tOff L)) (cutN B (lOff L)) 2)) $$ [Hb0 Hb2]
  · intro k acc
    exact loopI_step d L b0 (Memref.isWhole_whole _) b2 (Memref.isWhole_whole _) f2 g2 _ _ hf2 hg2 _ k acc
  · unfold loopI
    isplitr
    · ipureintro; exact hacc2
    · isplitl [Hb0]
      · iexact Hb0
      · iexact Hb2
  iintro %acc Hl
  ihave H := (loopI_done d L b0 b2 f2 g2 (cutP A (tOff L)) (cutN B (lOff L)) 2 _ (by decide) acc) $$ Hl
  icases H with ⟨%hacc3, Hb0, Hb2⟩
  obtain ⟨x3, y3⟩ := acc
  sl_exec
  ihave H := (forgetP d L b1 _ (tile_wp.sl.dma0_2 d L fa) (tile_wp.sl.dma1_2 d L fa) (tile_wp.sl.dma2_2 d L fa) (cutP A (tOff L) 3) (pCut d L fa A hfa 0 3 _ (k0_off1_inb L 0 3) (k0_off1_eq L 0 3)) (pCut d L fa A hfa 1 3 _ (k0_off1_inb L 1 3) (k0_off1_eq L 1 3)) (pCut d L fa A hfa 2 3 _ (k0_off1_inb L 2 3) (k0_off1_eq L 2 3))) $$ Hb1
  icases H with ⟨%f3, %hf3, Hb1⟩
  ihave H := (forgetL d L b3 (Memref.isWhole_whole _) _ (tile_wp.sl.dma3_2 d L fb) (cutN B (lOff L) 3) (lCut d L fb B hfb 3 _ (k0_off2_inb L 3) (k0_off2_eq L 3))) $$ Hb3
  icases H with ⟨%g3, %hg3, Hb3⟩
  sl_for (loopI d L b1 b3 f3 g3 (cutP A (tOff L) 3) (cutN B (lOff L) 3) (chunks (cutP A (tOff L)) (cutN B (lOff L)) 3)) $$ [Hb1 Hb3]
  · intro k acc
    exact loopI_step d L b1 (Memref.isWhole_whole _) b3 (Memref.isWhole_whole _) f3 g3 _ _ hf3 hg3 _ k acc
  · unfold loopI
    isplitr
    · ipureintro; exact hacc3
    · isplitl [Hb1]
      · iexact Hb1
      · iexact Hb3
  iintro %acc Hl
  ihave H := (loopI_done d L b1 b3 f3 g3 (cutP A (tOff L)) (cutN B (lOff L)) 3 _ (by decide) acc) $$ Hl
  icases H with ⟨%hacc4, Hb1, Hb3⟩
  obtain ⟨x4, y4⟩ := acc
  sl_exec
  ihave H := (forgetP d L b0 _ (tile_wp.sl.dma0_3 d L fa) (tile_wp.sl.dma1_3 d L fa) (tile_wp.sl.dma2_3 d L fa) (cutP A (tOff L) 4) (pCut d L fa A hfa 0 4 _ (k0_off1_inb L 0 4) (k0_off1_eq L 0 4)) (pCut d L fa A hfa 1 4 _ (k0_off1_inb L 1 4) (k0_off1_eq L 1 4)) (pCut d L fa A hfa 2 4 _ (k0_off1_inb L 2 4) (k0_off1_eq L 2 4))) $$ Hb0
  icases H with ⟨%f4, %hf4, Hb0⟩
  ihave H := (forgetL d L b2 (Memref.isWhole_whole _) _ (tile_wp.sl.dma3_3 d L fb) (cutN B (lOff L) 4) (lCut d L fb B hfb 4 _ (k0_off2_inb L 4) (k0_off2_eq L 4))) $$ Hb2
  icases H with ⟨%g4, %hg4, Hb2⟩
  sl_for (loopI d L b0 b2 f4 g4 (cutP A (tOff L) 4) (cutN B (lOff L) 4) (chunks (cutP A (tOff L)) (cutN B (lOff L)) 4)) $$ [Hb0 Hb2]
  · intro k acc
    exact loopI_step d L b0 (Memref.isWhole_whole _) b2 (Memref.isWhole_whole _) f4 g4 _ _ hf4 hg4 _ k acc
  · unfold loopI
    isplitr
    · ipureintro; exact hacc4
    · isplitl [Hb0]
      · iexact Hb0
      · iexact Hb2
  iintro %acc Hl
  ihave H := (loopI_done d L b0 b2 f4 g4 (cutP A (tOff L)) (cutN B (lOff L)) 4 _ (by decide) acc) $$ Hl
  icases H with ⟨%hacc5, Hb0, Hb2⟩
  obtain ⟨x5, y5⟩ := acc
  sl_exec
  sl_step
  ihave Ho := (Entails.of_eq (outWin_congr d L fo _ (k0_off13_inb L) _ (k0_off13_eq L) (tile_wp.sl.dma4_1 d L fs x5 y5) fx X hfx
    (fun j => (stage_fst d L fs _ _ j).trans ((congrFun (show _ = x5 from funext fun i => congrArg _ (Shape.reshapeEquiv_self _ i)) j).trans ((congrFun (fst_of_eq hacc5) j).trans (hX j)))) (oWin L) rfl)) $$ Ho
  ihave Ho' := (Entails.of_eq (outWin_congr d L fo _ (k0_off14_inb L) _ (k0_off14_eq L) (tile_wp.sl.dma4_2 d L fs x5 y5) fx X hfx
    (fun j => (stage_snd d L fs _ _ j).trans ((congrFun (show _ = y5 from funext fun i => congrArg _ (Shape.reshapeEquiv_self _ i)) j).trans ((congrFun (snd_of_eq hacc5) j).trans (hX' j)))) (oWin' L) rfl)) $$ Ho'
  isplitl [P00 P10 P20 L0 P01 P11 P21 L1 P02 P12 P22 L2 P03 P13 P23 L3 P04 P14 P24 L4 Ho Ho']
  · isplitl [P00 P10 P20 L0]
    · isplitl [P00]; · iexact P00
      isplitl [P10]; · iexact P10
      isplitl [P20]; · iexact P20
      iexact L0
    isplitl [P01 P11 P21 L1]
    · isplitl [P01]; · iexact P01
      isplitl [P11]; · iexact P11
      isplitl [P21]; · iexact P21
      iexact L1
    isplitl [P02 P12 P22 L2]
    · isplitl [P02]; · iexact P02
      isplitl [P12]; · iexact P12
      isplitl [P22]; · iexact P22
      iexact L2
    isplitl [P03 P13 P23 L3]
    · isplitl [P03]; · iexact P03
      isplitl [P13]; · iexact P13
      isplitl [P23]; · iexact P23
      iexact L3
    isplitl [P04 P14 P24 L4]
    · isplitl [P04]; · iexact P04
      isplitl [P14]; · iexact P14
      isplitl [P24]; · iexact P24
      iexact L4
    isplitl [Ho]; · iexact Ho
    iexact Ho'
  isplitl [Hb0 Hb1 Hb2 Hb3 Hb4]
  · isplitl [Hb0]; · iexists _; iexact Hb0
    isplitl [Hb1]; · iexists _; iexact Hb1
    isplitl [Hb2]; · iexists _; iexact Hb2
    isplitl [Hb3]; · iexists _; iexact Hb3
    iexists _; iexact Hb4
  isplitl [S5 S6 R0 R1]
  · isplitl [S5]; · iexact S5
    isplitl [S6]; · iexact S6
    isplitl [R0]; · iexact R0
    iexact R1
  iexists _; isplitr
  swap; · iexact HO
  ipureintro; intro p hp
  repeat first
    | exact .inl hp
    | (rcases Finset.mem_insert.mp hp with hp | hp; · exact .inr (hp ▸ rfl))

end Tile

end Cert.Proof.KI.C0

end
-- ==== Proof.KIBody0.lean ====
module

public import proofs.«01_k».proof.Proof.KITile0

@[expose] public section

set_option maxRecDepth 16384

noncomputable section

namespace Cert.Proof.KI.C0

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F] [Named F]

local notation "𝕄" => MT nD τ sig (HIx 2) (Elt F) ℕ UU ℕ

section Tile

local notation "a2" => (Memref.whole Cert.KernelIdeal.main_v2_scv : Memref Cert.KernelIdeal.sig Kind.scVector Space.hbm Cert.KernelIdeal.S983040 EltTy.f32)
local notation "a3" => (Memref.whole Cert.KernelIdeal.main_arg1_scv : Memref Cert.KernelIdeal.sig Kind.scVector Space.hbm Cert.KernelIdeal.S1048576 EltTy.i32)
local notation "a4" => (Memref.whole Cert.KernelIdeal.main_v3_scv : Memref Cert.KernelIdeal.sig Kind.scVector Space.hbm Cert.KernelIdeal.S1024 EltTy.f32)
local notation "b0" => (Memref.whole Cert.KernelIdeal.cc0_scratch0 : Memref Cert.KernelIdeal.sig Kind.scVector Space.vmem Cert.KernelIdeal.S6144 EltTy.f32)
local notation "b1" => (Memref.whole Cert.KernelIdeal.cc0_scratch1 : Memref Cert.KernelIdeal.sig Kind.scVector Space.vmem Cert.KernelIdeal.S6144 EltTy.f32)
local notation "b2" => (Memref.whole Cert.KernelIdeal.cc0_scratch2 : Memref Cert.KernelIdeal.sig Kind.scVector Space.vmem Cert.KernelIdeal.S2048 EltTy.i32)
local notation "b3" => (Memref.whole Cert.KernelIdeal.cc0_scratch3 : Memref Cert.KernelIdeal.sig Kind.scVector Space.vmem Cert.KernelIdeal.S2048 EltTy.i32)
local notation "b4" => (Memref.whole Cert.KernelIdeal.cc0_scratch4 : Memref Cert.KernelIdeal.sig Kind.scVector Space.vmem Cert.KernelIdeal.S32 EltTy.f32)

variable (d : Dev nD) (L : grid0.Coords)

theorem bigSep_take2 {I : Type} [DecidableEq I] {s : Finset I} (Φ : I → sProp 𝕄) {a b : I} (ha : a ∈ s) (hb : b ∈ s) (hab : b ≠ a) :
    bigSep s Φ = iprop(Φ a ∗ Φ b ∗ bigSep ((s.erase a).erase b) Φ) := by
  rw [SparseCore.bigSep_erase' ha, SparseCore.bigSep_erase' (Finset.mem_erase.mpr ⟨hab, hb⟩)]

theorem assoc4 (A B C D E : sProp 𝕄) : iprop(A ∗ B ∗ C ∗ D ∗ E) = iprop((A ∗ B ∗ C ∗ D) ∗ E) := by
  simp only [show ∀ P Q R : sProp 𝕄, iprop((P ∗ Q) ∗ R) = iprop(P ∗ Q ∗ R) from fun P Q R => BI.Entails.antisymm BI.sep_assoc BI.sep_assoc']
theorem assoc5 (A B C D E G : sProp 𝕄) : iprop(A ∗ B ∗ C ∗ D ∗ E ∗ G) = iprop((A ∗ B ∗ C ∗ D ∗ E) ∗ G) := by
  simp only [show ∀ P Q R : sProp 𝕄, iprop((P ∗ Q) ∗ R) = iprop(P ∗ Q ∗ R) from fun P Q R => BI.Entails.antisymm BI.sep_assoc BI.sep_assoc']

abbrev cell (s : DmaSem sig) : GSem nD τ sig := (thr d L, .dma s)
theorem cell_mem (s : DmaSem sig) (h : (SemLoc.dma s : SemLoc sig).isScoped .scVector = true) : cell d L s ∈ ownCells (thr d L) :=
  (mem_ownCells (g := cell d L s)).mpr ⟨rfl, h⟩
theorem cell_ne {s t : DmaSem sig} (h : s ≠ t) : cell d L s ≠ cell d L t := fun e => h (SemLoc.dma.inj (Prod.mk.inj e).2)

/-- The cells a tile's copies count on are among its own, and the rest. -/
theorem ownSems0_V :
    ∃ R : sProp 𝕄, (ownSems0 (thr d L) : sProp 𝕄)
      = iprop((semVal (cell d L cc0_scratch5.sem) 0 ∗ semVal (cell d L cc0_scratch6.sem) 0 ∗ semVal (cell d L cc0_scoped0.sem) 0 ∗ semVal (cell d L cc0_scoped1.sem) 0) ∗ R) := by
  refine ⟨bigSep (((((ownCells (thr d L)).erase (cell d L cc0_scratch5.sem)).erase (cell d L cc0_scratch6.sem)).erase (cell d L cc0_scoped0.sem)).erase
    (cell d L cc0_scoped1.sem)) fun g => semVal g 0, ?_⟩
  have n1 : cell d L cc0_scratch6.sem ≠ cell d L cc0_scratch5.sem := cell_ne d L (by decide)
  have n2 : cell d L cc0_scoped0.sem ≠ cell d L cc0_scratch5.sem := cell_ne d L (by decide)
  have n3 : cell d L cc0_scoped0.sem ≠ cell d L cc0_scratch6.sem := cell_ne d L (by decide)
  have n4 : cell d L cc0_scoped1.sem ≠ cell d L cc0_scratch5.sem := cell_ne d L (by decide)
  have n5 : cell d L cc0_scoped1.sem ≠ cell d L cc0_scratch6.sem := cell_ne d L (by decide)
  have n6 : cell d L cc0_scoped1.sem ≠ cell d L cc0_scoped0.sem := cell_ne d L (by decide)
  unfold SparseCore.Cfg.ownSems0
  rw [bigSep_take2 _ (cell_mem d L cc0_scratch5.sem (by decide)) (cell_mem d L cc0_scratch6.sem (by decide)) n1,
    bigSep_take2 _ (s := ((ownCells (thr d L)).erase (cell d L cc0_scratch5.sem)).erase (cell d L cc0_scratch6.sem))
      (Finset.mem_erase.mpr ⟨n3, Finset.mem_erase.mpr ⟨n2, cell_mem d L cc0_scoped0.sem (by decide)⟩⟩)
      (Finset.mem_erase.mpr ⟨n5, Finset.mem_erase.mpr ⟨n4, cell_mem d L cc0_scoped1.sem (by decide)⟩⟩) n6]
  exact assoc4 _ _ _ _ _

abbrev bref (r : Ref sig .scVector) := (Proc.scVector (cV L) (jV L)).devRef r
theorem bref_ne {r t : Ref sig .scVector} (h : r ≠ t) : bref L r ≠ bref L t := fun e => h (Proc.devRef_injective _ e)

abbrev fiveBufs : sProp 𝕄 :=
  iprop((∃ f : Buf (Elt F) ((b0).view.loc (thr d L)), (b0).view.loc (thr d L) ↦{fullShare} f) ∗ (∃ f : Buf (Elt F) ((b1).view.loc (thr d L)), (b1).view.loc (thr d L) ↦{fullShare} f)
    ∗ (∃ f : Buf (Elt F) ((b2).view.loc (thr d L)), (b2).view.loc (thr d L) ↦{fullShare} f) ∗ (∃ f : Buf (Elt F) ((b3).view.loc (thr d L)), (b3).view.loc (thr d L) ↦{fullShare} f)
    ∗ (∃ f : Buf (Elt F) ((b4).view.loc (thr d L)), (b4).view.loc (thr d L) ↦{fullShare} f))
/-- A tile's scratch buffers are among its own, and the rest. -/
theorem ownBufs_V : ∃ R : sProp 𝕄, (ownBufs (thr d L) : sProp 𝕄) = iprop(fiveBufs d L ∗ R) := by
  refine ⟨bigSep ((((((ownRefs (τ := τ) (.scVector (cV L) (jV L))).erase (bref L cc0_scratch0)).erase (bref L cc0_scratch1)).erase (bref L cc0_scratch2)).erase
    (bref L cc0_scratch3)).erase (bref L cc0_scratch4)) fun b => iprop(∃ f, ((d, b) : Loc nD τ sig) ↦{fullShare} f), ?_⟩
  have hm (r : Ref sig .scVector) (h : (Proc.scVector (cV L) (jV L)).devRef r ∈ ownRefs (τ := τ) (.scVector (cV L) (jV L))) : bref L r ∈ ownRefs (τ := τ) (.scVector (cV L) (jV L)) := h
  have m0 := SparseCore.Cfg.mem_ownRefs_of_owner (p := Proc.scVector (cV L) (jV L)) (b := bref L cc0_scratch0) rfl
  have m1 := SparseCore.Cfg.mem_ownRefs_of_owner (p := Proc.scVector (cV L) (jV L)) (b := bref L cc0_scratch1) rfl
  have m2 := SparseCore.Cfg.mem_ownRefs_of_owner (p := Proc.scVector (cV L) (jV L)) (b := bref L cc0_scratch2) rfl
  have m3 := SparseCore.Cfg.mem_ownRefs_of_owner (p := Proc.scVector (cV L) (jV L)) (b := bref L cc0_scratch3) rfl
  have m4 := SparseCore.Cfg.mem_ownRefs_of_owner (p := Proc.scVector (cV L) (jV L)) (b := bref L cc0_scratch4) rfl
  have e1 := Finset.mem_erase.mpr ⟨bref_ne L (show (cc0_scratch1 : Ref sig .scVector) ≠ cc0_scratch0 by decide), m1⟩
  have e2 := Finset.mem_erase.mpr ⟨bref_ne L (show (cc0_scratch2 : Ref sig .scVector) ≠ cc0_scratch1 by decide),
    Finset.mem_erase.mpr ⟨bref_ne L (show (cc0_scratch2 : Ref sig .scVector) ≠ cc0_scratch0 by decide), m2⟩⟩
  have e3 := Finset.mem_erase.mpr ⟨bref_ne L (show (cc0_scratch3 : Ref sig .scVector) ≠ cc0_scratch2 by decide),
    Finset.mem_erase.mpr ⟨bref_ne L (show (cc0_scratch3 : Ref sig .scVector) ≠ cc0_scratch1 by decide),
    Finset.mem_erase.mpr ⟨bref_ne L (show (cc0_scratch3 : Ref sig .scVector) ≠ cc0_scratch0 by decide), m3⟩⟩⟩
  have e4 := Finset.mem_erase.mpr ⟨bref_ne L (show (cc0_scratch4 : Ref sig .scVector) ≠ cc0_scratch3 by decide),
    Finset.mem_erase.mpr ⟨bref_ne L (show (cc0_scratch4 : Ref sig .scVector) ≠ cc0_scratch2 by decide),
    Finset.mem_erase.mpr ⟨bref_ne L (show (cc0_scratch4 : Ref sig .scVector) ≠ cc0_scratch1 by decide),
    Finset.mem_erase.mpr ⟨bref_ne L (show (cc0_scratch4 : Ref sig .scVector) ≠ cc0_scratch0 by decide), m4⟩⟩⟩⟩
  unfold SparseCore.Cfg.ownBufs
  refine (SparseCore.bigSep_erase' m0).trans ?_
  rw [SparseCore.bigSep_erase' e1, SparseCore.bigSep_erase' e2, SparseCore.bigSep_erase' e3, SparseCore.bigSep_erase' e4]
  exact assoc5 _ _ _ _ _ _

variable (fa : Buf (Elt F) ((a2).view.loc (thr d L))) (fb : Buf (Elt F) ((a3).view.loc (thr d L))) (fo : Buf (Elt F) ((a4).view.loc (thr d L)))

/-- A tile's whole task, from what its go-signal hands it to what its done-signal hands back. -/
theorem tile_body (fx : Buf (Elt F) ((a4).view.loc (thr d L))) (X : ℕ → F .f32) (hfx : ∀ j : S1024.Idx, fx j = X (j 0).val) (A : ℕ → F .f32) (hfa : ∀ j : S983040.Idx, fa j = A (j 0).val) (B : ℕ → BitVec 32) (hfb : ∀ j : S1048576.Idx, fb j = B (j 0).val)
    (hX : ∀ j : S16.Idx, (chunks (cutP A (tOff L)) (cutN B (lOff L)) 5).1 j = X (32 * (L 1).val + 16 * (L 0).val + (j 0).val))
    (hX' : ∀ j : S16.Idx, (chunks (cutP A (tOff L)) (cutN B (lOff L)) 5).2 j = X (32 * (L 1).val + 16 * (L 0).val + 512 + (j 0).val))
    (hF : (K (F := F)).Facts) (O : CellTallies nD τ sig (HIx 2)) (W : Waits sig (HIx 2)) (hO : ∀ g, O g none = 0) :
    iprop(levAts (K (F := F)).L (K (F := F)).lev ∗ emp ∗ tilePts d L fa fb fo ∗ scopedBufs (thr d L) ∗ scopedSems0 (thr d L) ∗ owes (thr d L) O W)
      ⊢ (wp frame (wpE (defs₀ (F := F)) 𝒱₀ (thr d L) none) Set.univ
          (cc0__focal_partial_body L a2 (Memref.isWhole_whole _) a3 (Memref.isWhole_whole _) a4 (Memref.isWhole_whole _)
            b0 (Memref.isWhole_whole _) b1 (Memref.isWhole_whole _) b2 (Memref.isWhole_whole _) b3 (Memref.isWhole_whole _) b4 (Memref.isWhole_whole _)
            cc0_scratch5 cc0_scratch6 cc0_scoped0 cc0_scoped1)
          fun _ => iprop(tilePts d L fa fb fx ∗ scopedBufs (thr d L) ∗ scopedSems0 (thr d L)
            ∗ ∃ W', ⌜∀ p ∈ W', p ∈ W ∨ p.2 = none⌝ ∗ owes (thr d L) O W') : sProp 𝕄) := by
  obtain ⟨R1, h1⟩ := ownSems0_V (F := F) d L
  obtain ⟨R2, h2⟩ := ownBufs_V (F := F) d L
  rw [(K (F := F)).scopedBufs_V hF d (cV L) (jV L), SparseCore.Cfg.scopedSems0_V (Val := Elt F) d (cV L) (jV L), h1, h2]
  iintro ⟨#Hlv, -, Hp, ⟨⟨⟨%fp0, Hb0⟩, ⟨%fp1, Hb1⟩, ⟨%fl0, Hb2⟩, ⟨%fl1, Hb3⟩, ⟨%fs, Hb4⟩⟩, HR2⟩, ⟨⟨S5, S6, R0, R1⟩, HR1⟩, HO⟩
  ihave Hmw := (show levAts (K (F := F)).L (K (F := F)).lev ⊢ Transfers.MayWaits (thr d L) (default : HIx 2) O from
    (K (F := F)).mayWaits_none (thr := thr d L) hO) $$ Hlv
  ihave Hwp := (tile_wp d L fa fb fo fx X hfx A hfa B hfb hX hX' O W trivial trivial fp0 fp1 fl0 fl1 fs) $$ [Hmw Hp Hb0 Hb1 Hb2 Hb3 Hb4 S5 S6 R0 R1 HO]
  · isplitl [Hmw]; · iexact Hmw
    isplitl [Hp]; · iexact Hp
    isplitl [Hb0]; · iexact Hb0
    isplitl [Hb1]; · iexact Hb1
    isplitl [Hb2]; · iexact Hb2
    isplitl [Hb3]; · iexact Hb3
    isplitl [Hb4]; · iexact Hb4
    isplitl [S5]; · iexact S5
    isplitl [S6]; · iexact S6
    isplitl [R0]; · iexact R0
    isplitl [R1]; · iexact R1
    iexact HO
  iapply (wp_wand_r frame _ _ (Q := fun _ => iprop(tilePts d L fa fb fx ∗ fiveBufs d L
    ∗ (semVal (thr d L, .dma cc0_scratch5.sem) 0 ∗ semVal (thr d L, .dma cc0_scratch6.sem) 0
              ∗ semVal (thr d L, .dma cc0_scoped0.sem) 0 ∗ semVal (thr d L, .dma cc0_scoped1.sem) 0)
            ∗ ∃ W', ⌜∀ p ∈ W', p ∈ W ∨ p.2 = none⌝ ∗ owes (thr d L) O W')))
  isplitl [Hwp]; · iexact Hwp
  iintro %u ⟨Hp, Hb, Hs, HO⟩
  isplitl [Hp]; · iexact Hp
  isplitl [Hb HR2]
  · isplitl [Hb]; · iexact Hb
    iexact HR2
  isplitl [Hs HR1]
  · isplitl [Hs]; · iexact Hs
    iexact HR1
  iexact HO

end Tile

end Cert.Proof.KI.C0

end
-- ==== Proof.KITile1.lean ====
module

public import proofs.«01_k».proof.Proof.KIRead

@[expose] public section

set_option maxRecDepth 16384

noncomputable section

namespace Cert.Proof.KI.C1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F] [Named F]

local notation "𝕄" => MT nD τ sig (HIx 2) (Elt F) ℕ UU ℕ

section Tile

local notation "a2" => (Memref.whole Cert.KernelIdeal.main_v5_scv : Memref Cert.KernelIdeal.sig Kind.scVector Space.hbm Cert.KernelIdeal.S983040 EltTy.f32)
local notation "a3" => (Memref.whole Cert.KernelIdeal.main_arg1_scv : Memref Cert.KernelIdeal.sig Kind.scVector Space.hbm Cert.KernelIdeal.S1048576 EltTy.i32)
local notation "a4" => (Memref.whole Cert.KernelIdeal.main_v6_scv : Memref Cert.KernelIdeal.sig Kind.scVector Space.hbm Cert.KernelIdeal.S1024 EltTy.f32)
local notation "b0" => (Memref.whole Cert.KernelIdeal.cc1_scratch0 : Memref Cert.KernelIdeal.sig Kind.scVector Space.vmem Cert.KernelIdeal.S6144 EltTy.f32)
local notation "b1" => (Memref.whole Cert.KernelIdeal.cc1_scratch1 : Memref Cert.KernelIdeal.sig Kind.scVector Space.vmem Cert.KernelIdeal.S6144 EltTy.f32)
local notation "b2" => (Memref.whole Cert.KernelIdeal.cc1_scratch2 : Memref Cert.KernelIdeal.sig Kind.scVector Space.vmem Cert.KernelIdeal.S2048 EltTy.i32)
local notation "b3" => (Memref.whole Cert.KernelIdeal.cc1_scratch3 : Memref Cert.KernelIdeal.sig Kind.scVector Space.vmem Cert.KernelIdeal.S2048 EltTy.i32)
local notation "b4" => (Memref.whole Cert.KernelIdeal.cc1_scratch4 : Memref Cert.KernelIdeal.sig Kind.scVector Space.vmem Cert.KernelIdeal.S32 EltTy.f32)

variable (d : Dev nD) (L : grid1.Coords)

abbrev thr (d : Dev nD) (L : grid1.Coords) : Thread nD τ := V d (cV L) (jV L)

/-- A chunk of a class's row, and of the labels, as the tile slices it. -/
abbrev pWin (o : Fin 1 → ℕ) (h : ∀ a, o a + S2048.size a ≤ S983040.size a) : Memref sig .scVector .hbm S2048 .f32 :=
  (a2).slice (Rect.unit (s := S983040) o S2048.size h) (fun _ => rfl)
abbrev lWin (o : Fin 1 → ℕ) (h : ∀ a, o a + S2048.size a ≤ S1048576.size a) : Memref sig .scVector .hbm S2048 .i32 :=
  (a3).slice (Rect.unit (s := S1048576) o S2048.size h) (fun _ => rfl)
abbrev oWin (L : grid1.Coords) : Memref sig .scVector .hbm S16 .f32 :=
  (a4).slice (Rect.unit (s := S1024) (k1_off13 L) S16.size (k1_off13_inb L)) (fun _ => rfl)
abbrev oWin' (L : grid1.Coords) : Memref sig .scVector .hbm S16 .f32 :=
  (a4).slice (Rect.unit (s := S1024) (k1_off14 L) S16.size (k1_off14_inb L)) (fun _ => rfl)

variable (fa : Buf (Elt F) ((a2).view.loc (thr d L))) (fb : Buf (Elt F) ((a3).view.loc (thr d L))) (fo : Buf (Elt F) ((a4).view.loc (thr d L)))

abbrev pPts (o : Fin 1 → ℕ) (h : ∀ a, o a + S2048.size a ≤ S983040.size a) : sProp 𝕄 :=
  (pWin o h).view.loc (thr d L) ↦[(pWin o h).view.set]{fullShare} fa
abbrev lPts (o : Fin 1 → ℕ) (h : ∀ a, o a + S2048.size a ≤ S1048576.size a) : sProp 𝕄 :=
  (lWin o h).view.loc (thr d L) ↦[(lWin o h).view.set]{fullShare} fb
/-- The four windows a chunk's copies read. -/
abbrev chunkPts (b : BitVec 32) (h0 : ∀ a, k1_off1 L 0#32 b a + S2048.size a ≤ S983040.size a) (h1 : ∀ a, k1_off1 L 327680#32 b a + S2048.size a ≤ S983040.size a)
    (h2 : ∀ a, k1_off1 L 655360#32 b a + S2048.size a ≤ S983040.size a) (h3 : ∀ a, k1_off2 L b a + S2048.size a ≤ S1048576.size a) : sProp 𝕄 :=
  iprop(pPts d L fa (k1_off1 L 0#32 b) h0 ∗ pPts d L fa (k1_off1 L 327680#32 b) h1 ∗ pPts d L fa (k1_off1 L 655360#32 b) h2 ∗ lPts d L fb (k1_off2 L b) h3)

theorem pRead (A : ℕ → F .f32) (hfa : ∀ j : S983040.Idx, fa j = A (j 0).val) (o : Fin 1 → ℕ) (h : ∀ a, o a + S2048.size a ≤ S983040.size a) (n : ℕ) (ho : o = ![n]) (j : S2048.Idx) :
    View.read (Elt F) (pWin o h).view fa j = A (n + (j 0).val) := by
  subst ho
  refine (hfa _).trans (congrArg A ?_)
  show n + 1 * (j 0).val = _
  omega
theorem lRead (B : ℕ → BitVec 32) (hfb : ∀ j : S1048576.Idx, fb j = B (j 0).val) (o : Fin 1 → ℕ) (h : ∀ a, o a + S2048.size a ≤ S1048576.size a) (n : ℕ) (ho : o = ![n]) (j : S2048.Idx) :
    View.read (Elt F) (lWin o h).view fb j = B (n + (j 0).val) := by
  subst ho
  refine (hfb _).trans (congrArg B ?_)
  show n + 1 * (j 0).val = _
  omega

/-- Where the tile's points begin in the segment. -/
abbrev tOff (L : grid1.Coords) : ℕ := 20480 * (L 1).val + 10240 * (L 0).val
abbrev lOff (L : grid1.Coords) : ℕ := 20480 * (L 1).val + 10240 * (L 0).val + 327680

theorem pCut (A : ℕ → F .f32) (hfa : ∀ j : S983040.Idx, fa j = A (j 0).val) (c : Fin 3) (k : ℕ) (o : Fin 1 → ℕ) (h : ∀ a, o a + S2048.size a ≤ S983040.size a)
    (ho : o = ![327680 * c.val + 20480 * (L 1).val + 10240 * (L 0).val + 2048 * k]) (j : S2048.Idx) :
    View.read (Elt F) (pWin o h).view fa j = cutP A (tOff L) k c (j 0).val := by
  rw [pRead d L fa A hfa o h _ ho]
  unfold cutP; congr 1; unfold tOff; omega
theorem lCut (B : ℕ → BitVec 32) (hfb : ∀ j : S1048576.Idx, fb j = B (j 0).val) (k : ℕ) (o : Fin 1 → ℕ) (h : ∀ a, o a + S2048.size a ≤ S1048576.size a)
    (ho : o = ![20480 * (L 1).val + 10240 * (L 0).val + 2048 * k + 327680]) (j : S2048.Idx) :
    View.read (Elt F) (lWin o h).view fb j = cutN B (lOff L) k (j 0).val := by
  rw [lRead d L fb B hfb o h _ ho]
  refine congrArg B ?_; unfold lOff; omega

/-- The part of the result that a tile's window names, at what the tile left there. -/
theorem outWin_congr (o : Fin 1 → ℕ) (h : ∀ a, o a + S16.size a ≤ S1024.size a) (n : ℕ) (ho : o = ![n]) (w : S16.Idx → F .f32)
    (fx : Buf (Elt F) ((a4).view.loc (thr d L))) (X : ℕ → F .f32) (hfx : ∀ j : S1024.Idx, fx j = X (j 0).val) (hw : ∀ j : S16.Idx, w j = X (n + (j 0).val))
    (M : Memref sig .scVector .hbm S16 .f32) (hM : M = (a4).slice (Rect.unit (s := S1024) o S16.size h) (fun _ => rfl)) :
    (M.view.loc (thr d L) ↦[M.view.set]{fullShare} M.view.writes (Elt F) (hM ▸ fo) [⟨Rect.whole S16, w⟩] : sProp 𝕄)
      = (M.view.loc (thr d L) ↦[M.view.set]{fullShare} (hM ▸ fx)) := by
  subst hM ho
  refine pointsTo_congr fun i hi => ?_
  obtain ⟨x, -, rfl⟩ := Finset.mem_map.mp hi
  refine (View.read_writes_cons_hit_of_coords ((a4).slice (Rect.unit (s := S1024) ![n] S16.size h) (fun _ => rfl)).view fo (Rect.whole S16) w [] x x
    (fun a => by show (x a).val = 0 + 1 * (x a).val; omega)).trans ?_
  rw [hw x]
  refine ((hfx _).trans (congrArg X ?_)).symm
  show n + 1 * (x 0).val = _
  omega

/-- What the staging buffer's two halves read after the two stores. -/
theorem stage_fst (fs : Buf (Elt F) ((b4).view.loc (thr d L))) (x y : S16.Idx → F .f32) (j : S16.Idx) :
    View.read (Elt F) ((b4).slice (Rect.unit (s := S32) ![0] S16.size inb_S32_S16_0) (fun _ => rfl)).view
      ((b4).view.writes (Elt F) fs [⟨Rect.unit (s := S32) ![16] S16.size inb_S32_S16_16, y⟩, ⟨Rect.unit (s := S32) ![0] S16.size inb_S32_S16_0, x⟩]) j = x j := by
  have hj : (j 0).val < 16 := (j 0).isLt
  refine (View.read_writes_cons_miss (b4).view fs ⟨Rect.unit (s := S32) ![16] S16.size inb_S32_S16_16, y⟩ [⟨Rect.unit (s := S32) ![0] S16.size inb_S32_S16_0, x⟩]
    ((Rect.unit (s := S32) ![0] S16.size inb_S32_S16_0).emb j) ?_).trans (View.read_writes_cons_emb (b4).view fs (Rect.unit (s := S32) ![0] S16.size inb_S32_S16_0) x [] j)
  intro hm
  have h16 : 16 ≤ 0 + 1 * (j 0).val := (Rect.mem_set_unit (inb := inb_S32_S16_16).mp hm 0).1
  omega
theorem stage_snd (fs : Buf (Elt F) ((b4).view.loc (thr d L))) (x y : S16.Idx → F .f32) (j : S16.Idx) :
    View.read (Elt F) ((b4).slice (Rect.unit (s := S32) ![16] S16.size inb_S32_S16_16) (fun _ => rfl)).view
      ((b4).view.writes (Elt F) fs [⟨Rect.unit (s := S32) ![16] S16.size inb_S32_S16_16, y⟩, ⟨Rect.unit (s := S32) ![0] S16.size inb_S32_S16_0, x⟩]) j = y j :=
  View.read_writes_cons_emb (b4).view fs (Rect.unit (s := S32) ![16] S16.size inb_S32_S16_16) y [⟨Rect.unit (s := S32) ![0] S16.size inb_S32_S16_0, x⟩] j

theorem fst_of_eq {α β : Type} {a : α} {b : β} {p : α × β} (h : (a, b) = p) : a = p.1 := by subst h; rfl
theorem snd_of_eq {α β : Type} {a : α} {b : β} {p : α × β} (h : (a, b) = p) : b = p.2 := by subst h; rfl

/-- The windows a tile works on: five chunks of the three rows and of the labels, and its sixteen lanes of each half of the result. -/
abbrev tilePts (fo : Buf (Elt F) ((a4).view.loc (thr d L))) : sProp 𝕄 :=
  iprop(chunkPts d L fa fb 0#32 (k1_off1_inb L 0 0) (k1_off1_inb L 1 0) (k1_off1_inb L 2 0) (k1_off2_inb L 0) ∗ chunkPts d L fa fb 2048#32 (k1_off1_inb L 0 1) (k1_off1_inb L 1 1) (k1_off1_inb L 2 1) (k1_off2_inb L 1) ∗ chunkPts d L fa fb 4096#32 (k1_off1_inb L 0 2) (k1_off1_inb L 1 2) (k1_off1_inb L 2 2) (k1_off2_inb L 2) ∗ chunkPts d L fa fb 6144#32 (k1_off1_inb L 0 3) (k1_off1_inb L 1 3) (k1_off1_inb L 2 3) (k1_off2_inb L 3) ∗ chunkPts d L fa fb 8192#32 (k1_off1_inb L 0 4) (k1_off1_inb L 1 4) (k1_off1_inb L 2 4) (k1_off2_inb L 4)
    ∗ ((oWin L).view.loc (thr d L) ↦[(oWin L).view.set]{fullShare} fo) ∗ ((oWin' L).view.loc (thr d L) ↦[(oWin' L).view.set]{fullShare} fo))

set_option maxHeartbeats 4000000 in
theorem tile_wp (fx : Buf (Elt F) ((a4).view.loc (thr d L))) (X : ℕ → F .f32) (hfx : ∀ j : S1024.Idx, fx j = X (j 0).val) (A : ℕ → F .f32) (hfa : ∀ j : S983040.Idx, fa j = A (j 0).val) (B : ℕ → BitVec 32) (hfb : ∀ j : S1048576.Idx, fb j = B (j 0).val)
    (hX : ∀ j : S16.Idx, (chunks (cutP A (tOff L)) (cutN B (lOff L)) 5).1 j = X (32 * (L 1).val + 16 * (L 0).val + (j 0).val))
    (hX' : ∀ j : S16.Idx, (chunks (cutP A (tOff L)) (cutN B (lOff L)) 5).2 j = X (32 * (L 1).val + 16 * (L 0).val + 512 + (j 0).val)) (O : CellTallies nD τ sig (HIx 2)) (W : Waits sig (HIx 2))
    (_pl0 : Transfers.BatchOf (thr d L) (SemLoc.dma (sig := sig) cc1_scratch5.sem) 4 (windows := true))
    (_pl1 : Transfers.BatchOf (thr d L) (SemLoc.dma (sig := sig) cc1_scratch6.sem) 4 (windows := true))
    (fp0 : Buf (Elt F) ((b0).view.loc (thr d L))) (fp1 : Buf (Elt F) ((b1).view.loc (thr d L)))
    (fl0 : Buf (Elt F) ((b2).view.loc (thr d L))) (fl1 : Buf (Elt F) ((b3).view.loc (thr d L)))
    (fs : Buf (Elt F) ((b4).view.loc (thr d L))) :
    iprop(Transfers.MayWaits (thr d L) (default : HIx 2) O
        ∗ tilePts d L fa fb fo
        ∗ ((b0).view.loc (thr d L) ↦{fullShare} fp0) ∗ ((b1).view.loc (thr d L) ↦{fullShare} fp1)
        ∗ ((b2).view.loc (thr d L) ↦{fullShare} fl0) ∗ ((b3).view.loc (thr d L) ↦{fullShare} fl1)
        ∗ ((b4).view.loc (thr d L) ↦{fullShare} fs)
        ∗ semVal (thr d L, .dma cc1_scratch5.sem) 0 ∗ semVal (thr d L, .dma cc1_scratch6.sem) 0
        ∗ semVal (thr d L, .dma cc1_scoped0.sem) 0 ∗ semVal (thr d L, .dma cc1_scoped1.sem) 0
        ∗ owes (thr d L) O W)
      ⊢ (wp frame (wpE (defs₀ (F := F)) 𝒱₀ (thr d L) none) Set.univ
          (cc1__focal_partial_body L a2 (Memref.isWhole_whole _) a3 (Memref.isWhole_whole _) a4 (Memref.isWhole_whole _)
            b0 (Memref.isWhole_whole _) b1 (Memref.isWhole_whole _) b2 (Memref.isWhole_whole _) b3 (Memref.isWhole_whole _) b4 (Memref.isWhole_whole _)
            cc1_scratch5 cc1_scratch6 cc1_scoped0 cc1_scoped1)
          fun _ => iprop(tilePts d L fa fb fx
            ∗ ((∃ f : Buf (Elt F) ((b0).view.loc (thr d L)), (b0).view.loc (thr d L) ↦{fullShare} f) ∗ (∃ f : Buf (Elt F) ((b1).view.loc (thr d L)), (b1).view.loc (thr d L) ↦{fullShare} f)
              ∗ (∃ f : Buf (Elt F) ((b2).view.loc (thr d L)), (b2).view.loc (thr d L) ↦{fullShare} f) ∗ (∃ f : Buf (Elt F) ((b3).view.loc (thr d L)), (b3).view.loc (thr d L) ↦{fullShare} f)
              ∗ (∃ f : Buf (Elt F) ((b4).view.loc (thr d L)), (b4).view.loc (thr d L) ↦{fullShare} f))
            ∗ (semVal (thr d L, .dma cc1_scratch5.sem) 0 ∗ semVal (thr d L, .dma cc1_scratch6.sem) 0
              ∗ semVal (thr d L, .dma cc1_scoped0.sem) 0 ∗ semVal (thr d L, .dma cc1_scoped1.sem) 0)
            ∗ ∃ W', ⌜∀ p ∈ W', p ∈ W ∨ p.2 = none⌝ ∗ owes (thr d L) O W') : sProp 𝕄) := by
  rw [cc1__focal_partial_body_eq_skeleton]; unfold cc1__focal_partial_body_skel
  rw [k1_part31_eq_skeleton, k1_part32_eq_skeleton]
  unfold k1_part31_skel k1_part32_skel
  iintro ⟨#Hmw, ⟨⟨P00, P10, P20, L0⟩, ⟨P01, P11, P21, L1⟩, ⟨P02, P12, P22, L2⟩, ⟨P03, P13, P23, L3⟩, ⟨P04, P14, P24, L4⟩, Ho, Ho'⟩, Hb0, Hb1, Hb2, Hb3, Hb4, S5, S6, R0, R1, HO⟩
  sl_exec
  ihave H := (forgetP d L b0 _ (tile_wp.sl.dma0 d L fa) (tile_wp.sl.dma1 d L fa) (tile_wp.sl.dma2 d L fa) (cutP A (tOff L) 0) (pCut d L fa A hfa 0 0 _ (k1_off1_inb L 0 0) (k1_off1_eq L 0 0)) (pCut d L fa A hfa 1 0 _ (k1_off1_inb L 1 0) (k1_off1_eq L 1 0)) (pCut d L fa A hfa 2 0 _ (k1_off1_inb L 2 0) (k1_off1_eq L 2 0))) $$ Hb0
  icases H with ⟨%f0, %hf0, Hb0⟩
  ihave H := (forgetL d L b2 (Memref.isWhole_whole _) _ (tile_wp.sl.dma3 d L fb) (cutN B (lOff L) 0) (lCut d L fb B hfb 0 _ (k1_off2_inb L 0) (k1_off2_eq L 0))) $$ Hb2
  icases H with ⟨%g0, %hg0, Hb2⟩
  rw [wp_bind]
  sl_for (loopI d L b0 b2 f0 g0 (cutP A (tOff L) 0) (cutN B (lOff L) 0) (chunks (cutP A (tOff L)) (cutN B (lOff L)) 0)) $$ [Hb0 Hb2]
  · intro k acc
    exact loopI_step d L b0 (Memref.isWhole_whole _) b2 (Memref.isWhole_whole _) f0 g0 _ _ hf0 hg0 _ k acc
  · unfold loopI
    isplitr
    · ipureintro; rfl
    · isplitl [Hb0]
      · iexact Hb0
      · iexact Hb2
  iintro %acc Hl
  ihave H := (loopI_done d L b0 b2 f0 g0 (cutP A (tOff L)) (cutN B (lOff L)) 0 _ (by decide) acc) $$ Hl
  icases H with ⟨%hacc1, Hb0, Hb2⟩
  obtain ⟨x1, y1⟩ := acc
  sl_exec
  ihave H := (forgetP d L b1 _ (tile_wp.sl.dma4 d L fa) (tile_wp.sl.dma5 d L fa) (tile_wp.sl.dma6 d L fa) (cutP A (tOff L) 1) (pCut d L fa A hfa 0 1 _ (k1_off1_inb L 0 1) (k1_off1_eq L 0 1)) (pCut d L fa A hfa 1 1 _ (k1_off1_inb L 1 1) (k1_off1_eq L 1 1)) (pCut d L fa A hfa 2 1 _ (k1_off1_inb L 2 1) (k1_off1_eq L 2 1))) $$ Hb1
  icases H with ⟨%f1, %hf1, Hb1⟩
  ihave H := (forgetL d L b3 (Memref.isWhole_whole _) _ (tile_wp.sl.dma7 d L fb) (cutN B (lOff L) 1) (lCut d L fb B hfb 1 _ (k1_off2_inb L 1) (k1_off2_eq L 1))) $$ Hb3
  icases H with ⟨%g1, %hg1, Hb3⟩
  sl_for (loopI d L b1 b3 f1 g1 (cutP A (tOff L) 1) (cutN B (lOff L) 1) (chunks (cutP A (tOff L)) (cutN B (lOff L)) 1)) $$ [Hb1 Hb3]
  · intro k acc
    exact loopI_step d L b1 (Memref.isWhole_whole _) b3 (Memref.isWhole_whole _) f1 g1 _ _ hf1 hg1 _ k acc
  · unfold loopI
    isplitr
    · ipureintro; exact hacc1
    · isplitl [Hb1]
      · iexact Hb1
      · iexact Hb3
  iintro %acc Hl
  ihave H := (loopI_done d L b1 b3 f1 g1 (cutP A (tOff L)) (cutN B (lOff L)) 1 _ (by decide) acc) $$ Hl
  icases H with ⟨%hacc2, Hb1, Hb3⟩
  obtain ⟨x2, y2⟩ := acc
  sl_exec
  ihave H := (forgetP d L b0 _ (tile_wp.sl.dma0_1 d L fa) (tile_wp.sl.dma1_1 d L fa) (tile_wp.sl.dma2_1 d L fa) (cutP A (tOff L) 2) (pCut d L fa A hfa 0 2 _ (k1_off1_inb L 0 2) (k1_off1_eq L 0 2)) (pCut d L fa A hfa 1 2 _ (k1_off1_inb L 1 2) (k1_off1_eq L 1 2)) (pCut d L fa A hfa 2 2 _ (k1_off1_inb L 2 2) (k1_off1_eq L 2 2))) $$ Hb0
  icases H with ⟨%f2, %hf2, Hb0⟩
  ihave H := (forgetL d L b2 (Memref.isWhole_whole _) _ (tile_wp.sl.dma3_1 d L fb) (cutN B (lOff L) 2) (lCut d L fb B hfb 2 _ (k1_off2_inb L 2) (k1_off2_eq L 2))) $$ Hb2
  icases H with ⟨%g2, %hg2, Hb2⟩
  sl_for (loopI d L b0 b2 f2 g2 (cutP A (tOff L) 2) (cutN B (lOff L) 2) (chunks (cutP A (tOff L)) (cutN B (lOff L)) 2)) $$ [Hb0 Hb2]
  · intro k acc
    exact loopI_step d L b0 (Memref.isWhole_whole _) b2 (Memref.isWhole_whole _) f2 g2 _ _ hf2 hg2 _ k acc
  · unfold loopI
    isplitr
    · ipureintro; exact hacc2
    · isplitl [Hb0]
      · iexact Hb0
      · iexact Hb2
  iintro %acc Hl
  ihave H := (loopI_done d L b0 b2 f2 g2 (cutP A (tOff L)) (cutN B (lOff L)) 2 _ (by decide) acc) $$ Hl
  icases H with ⟨%hacc3, Hb0, Hb2⟩
  obtain ⟨x3, y3⟩ := acc
  sl_exec
  ihave H := (forgetP d L b1 _ (tile_wp.sl.dma0_2 d L fa) (tile_wp.sl.dma1_2 d L fa) (tile_wp.sl.dma2_2 d L fa) (cutP A (tOff L) 3) (pCut d L fa A hfa 0 3 _ (k1_off1_inb L 0 3) (k1_off1_eq L 0 3)) (pCut d L fa A hfa 1 3 _ (k1_off1_inb L 1 3) (k1_off1_eq L 1 3)) (pCut d L fa A hfa 2 3 _ (k1_off1_inb L 2 3) (k1_off1_eq L 2 3))) $$ Hb1
  icases H with ⟨%f3, %hf3, Hb1⟩
  ihave H := (forgetL d L b3 (Memref.isWhole_whole _) _ (tile_wp.sl.dma3_2 d L fb) (cutN B (lOff L) 3) (lCut d L fb B hfb 3 _ (k1_off2_inb L 3) (k1_off2_eq L 3))) $$ Hb3
  icases H with ⟨%g3, %hg3, Hb3⟩
  sl_for (loopI d L b1 b3 f3 g3 (cutP A (tOff L) 3) (cutN B (lOff L) 3) (chunks (cutP A (tOff L)) (cutN B (lOff L)) 3)) $$ [Hb1 Hb3]
  · intro k acc
    exact loopI_step d L b1 (Memref.isWhole_whole _) b3 (Memref.isWhole_whole _) f3 g3 _ _ hf3 hg3 _ k acc
  · unfold loopI
    isplitr
    · ipureintro; exact hacc3
    · isplitl [Hb1]
      · iexact Hb1
      · iexact Hb3
  iintro %acc Hl
  ihave H := (loopI_done d L b1 b3 f3 g3 (cutP A (tOff L)) (cutN B (lOff L)) 3 _ (by decide) acc) $$ Hl
  icases H with ⟨%hacc4, Hb1, Hb3⟩
  obtain ⟨x4, y4⟩ := acc
  sl_exec
  ihave H := (forgetP d L b0 _ (tile_wp.sl.dma0_3 d L fa) (tile_wp.sl.dma1_3 d L fa) (tile_wp.sl.dma2_3 d L fa) (cutP A (tOff L) 4) (pCut d L fa A hfa 0 4 _ (k1_off1_inb L 0 4) (k1_off1_eq L 0 4)) (pCut d L fa A hfa 1 4 _ (k1_off1_inb L 1 4) (k1_off1_eq L 1 4)) (pCut d L fa A hfa 2 4 _ (k1_off1_inb L 2 4) (k1_off1_eq L 2 4))) $$ Hb0
  icases H with ⟨%f4, %hf4, Hb0⟩
  ihave H := (forgetL d L b2 (Memref.isWhole_whole _) _ (tile_wp.sl.dma3_3 d L fb) (cutN B (lOff L) 4) (lCut d L fb B hfb 4 _ (k1_off2_inb L 4) (k1_off2_eq L 4))) $$ Hb2
  icases H with ⟨%g4, %hg4, Hb2⟩
  sl_for (loopI d L b0 b2 f4 g4 (cutP A (tOff L) 4) (cutN B (lOff L) 4) (chunks (cutP A (tOff L)) (cutN B (lOff L)) 4)) $$ [Hb0 Hb2]
  · intro k acc
    exact loopI_step d L b0 (Memref.isWhole_whole _) b2 (Memref.isWhole_whole _) f4 g4 _ _ hf4 hg4 _ k acc
  · unfold loopI
    isplitr
    · ipureintro; exact hacc4
    · isplitl [Hb0]
      · iexact Hb0
      · iexact Hb2
  iintro %acc Hl
  ihave H := (loopI_done d L b0 b2 f4 g4 (cutP A (tOff L)) (cutN B (lOff L)) 4 _ (by decide) acc) $$ Hl
  icases H with ⟨%hacc5, Hb0, Hb2⟩
  obtain ⟨x5, y5⟩ := acc
  sl_exec
  sl_step
  ihave Ho := (Entails.of_eq (outWin_congr d L fo _ (k1_off13_inb L) _ (k1_off13_eq L) (tile_wp.sl.dma4_1 d L fs x5 y5) fx X hfx
    (fun j => (stage_fst d L fs _ _ j).trans ((congrFun (show _ = x5 from funext fun i => congrArg _ (Shape.reshapeEquiv_self _ i)) j).trans ((congrFun (fst_of_eq hacc5) j).trans (hX j)))) (oWin L) rfl)) $$ Ho
  ihave Ho' := (Entails.of_eq (outWin_congr d L fo _ (k1_off14_inb L) _ (k1_off14_eq L) (tile_wp.sl.dma4_2 d L fs x5 y5) fx X hfx
    (fun j => (stage_snd d L fs _ _ j).trans ((congrFun (show _ = y5 from funext fun i => congrArg _ (Shape.reshapeEquiv_self _ i)) j).trans ((congrFun (snd_of_eq hacc5) j).trans (hX' j)))) (oWin' L) rfl)) $$ Ho'
  isplitl [P00 P10 P20 L0 P01 P11 P21 L1 P02 P12 P22 L2 P03 P13 P23 L3 P04 P14 P24 L4 Ho Ho']
  · isplitl [P00 P10 P20 L0]
    · isplitl [P00]; · iexact P00
      isplitl [P10]; · iexact P10
      isplitl [P20]; · iexact P20
      iexact L0
    isplitl [P01 P11 P21 L1]
    · isplitl [P01]; · iexact P01
      isplitl [P11]; · iexact P11
      isplitl [P21]; · iexact P21
      iexact L1
    isplitl [P02 P12 P22 L2]
    · isplitl [P02]; · iexact P02
      isplitl [P12]; · iexact P12
      isplitl [P22]; · iexact P22
      iexact L2
    isplitl [P03 P13 P23 L3]
    · isplitl [P03]; · iexact P03
      isplitl [P13]; · iexact P13
      isplitl [P23]; · iexact P23
      iexact L3
    isplitl [P04 P14 P24 L4]
    · isplitl [P04]; · iexact P04
      isplitl [P14]; · iexact P14
      isplitl [P24]; · iexact P24
      iexact L4
    isplitl [Ho]; · iexact Ho
    iexact Ho'
  isplitl [Hb0 Hb1 Hb2 Hb3 Hb4]
  · isplitl [Hb0]; · iexists _; iexact Hb0
    isplitl [Hb1]; · iexists _; iexact Hb1
    isplitl [Hb2]; · iexists _; iexact Hb2
    isplitl [Hb3]; · iexists _; iexact Hb3
    iexists _; iexact Hb4
  isplitl [S5 S6 R0 R1]
  · isplitl [S5]; · iexact S5
    isplitl [S6]; · iexact S6
    isplitl [R0]; · iexact R0
    iexact R1
  iexists _; isplitr
  swap; · iexact HO
  ipureintro; intro p hp
  repeat first
    | exact .inl hp
    | (rcases Finset.mem_insert.mp hp with hp | hp; · exact .inr (hp ▸ rfl))

end Tile

end Cert.Proof.KI.C1

end
-- ==== Proof.KIBody1.lean ====
module

public import proofs.«01_k».proof.Proof.KITile1

@[expose] public section

set_option maxRecDepth 16384

noncomputable section

namespace Cert.Proof.KI.C1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F] [Named F]

local notation "𝕄" => MT nD τ sig (HIx 2) (Elt F) ℕ UU ℕ

section Tile

local notation "a2" => (Memref.whole Cert.KernelIdeal.main_v5_scv : Memref Cert.KernelIdeal.sig Kind.scVector Space.hbm Cert.KernelIdeal.S983040 EltTy.f32)
local notation "a3" => (Memref.whole Cert.KernelIdeal.main_arg1_scv : Memref Cert.KernelIdeal.sig Kind.scVector Space.hbm Cert.KernelIdeal.S1048576 EltTy.i32)
local notation "a4" => (Memref.whole Cert.KernelIdeal.main_v6_scv : Memref Cert.KernelIdeal.sig Kind.scVector Space.hbm Cert.KernelIdeal.S1024 EltTy.f32)
local notation "b0" => (Memref.whole Cert.KernelIdeal.cc1_scratch0 : Memref Cert.KernelIdeal.sig Kind.scVector Space.vmem Cert.KernelIdeal.S6144 EltTy.f32)
local notation "b1" => (Memref.whole Cert.KernelIdeal.cc1_scratch1 : Memref Cert.KernelIdeal.sig Kind.scVector Space.vmem Cert.KernelIdeal.S6144 EltTy.f32)
local notation "b2" => (Memref.whole Cert.KernelIdeal.cc1_scratch2 : Memref Cert.KernelIdeal.sig Kind.scVector Space.vmem Cert.KernelIdeal.S2048 EltTy.i32)
local notation "b3" => (Memref.whole Cert.KernelIdeal.cc1_scratch3 : Memref Cert.KernelIdeal.sig Kind.scVector Space.vmem Cert.KernelIdeal.S2048 EltTy.i32)
local notation "b4" => (Memref.whole Cert.KernelIdeal.cc1_scratch4 : Memref Cert.KernelIdeal.sig Kind.scVector Space.vmem Cert.KernelIdeal.S32 EltTy.f32)

variable (d : Dev nD) (L : grid1.Coords)

theorem bigSep_take2 {I : Type} [DecidableEq I] {s : Finset I} (Φ : I → sProp 𝕄) {a b : I} (ha : a ∈ s) (hb : b ∈ s) (hab : b ≠ a) :
    bigSep s Φ = iprop(Φ a ∗ Φ b ∗ bigSep ((s.erase a).erase b) Φ) := by
  rw [SparseCore.bigSep_erase' ha, SparseCore.bigSep_erase' (Finset.mem_erase.mpr ⟨hab, hb⟩)]

theorem assoc4 (A B C D E : sProp 𝕄) : iprop(A ∗ B ∗ C ∗ D ∗ E) = iprop((A ∗ B ∗ C ∗ D) ∗ E) := by
  simp only [show ∀ P Q R : sProp 𝕄, iprop((P ∗ Q) ∗ R) = iprop(P ∗ Q ∗ R) from fun P Q R => BI.Entails.antisymm BI.sep_assoc BI.sep_assoc']
theorem assoc5 (A B C D E G : sProp 𝕄) : iprop(A ∗ B ∗ C ∗ D ∗ E ∗ G) = iprop((A ∗ B ∗ C ∗ D ∗ E) ∗ G) := by
  simp only [show ∀ P Q R : sProp 𝕄, iprop((P ∗ Q) ∗ R) = iprop(P ∗ Q ∗ R) from fun P Q R => BI.Entails.antisymm BI.sep_assoc BI.sep_assoc']

abbrev cell (s : DmaSem sig) : GSem nD τ sig := (thr d L, .dma s)
theorem cell_mem (s : DmaSem sig) (h : (SemLoc.dma s : SemLoc sig).isScoped .scVector = true) : cell d L s ∈ ownCells (thr d L) :=
  (mem_ownCells (g := cell d L s)).mpr ⟨rfl, h⟩
theorem cell_ne {s t : DmaSem sig} (h : s ≠ t) : cell d L s ≠ cell d L t := fun e => h (SemLoc.dma.inj (Prod.mk.inj e).2)

/-- The cells a tile's copies count on are among its own, and the rest. -/
theorem ownSems0_V :
    ∃ R : sProp 𝕄, (ownSems0 (thr d L) : sProp 𝕄)
      = iprop((semVal (cell d L cc1_scratch5.sem) 0 ∗ semVal (cell d L cc1_scratch6.sem) 0 ∗ semVal (cell d L cc1_scoped0.sem) 0 ∗ semVal (cell d L cc1_scoped1.sem) 0) ∗ R) := by
  refine ⟨bigSep (((((ownCells (thr d L)).erase (cell d L cc1_scratch5.sem)).erase (cell d L cc1_scratch6.sem)).erase (cell d L cc1_scoped0.sem)).erase
    (cell d L cc1_scoped1.sem)) fun g => semVal g 0, ?_⟩
  have n1 : cell d L cc1_scratch6.sem ≠ cell d L cc1_scratch5.sem := cell_ne d L (by decide)
  have n2 : cell d L cc1_scoped0.sem ≠ cell d L cc1_scratch5.sem := cell_ne d L (by decide)
  have n3 : cell d L cc1_scoped0.sem ≠ cell d L cc1_scratch6.sem := cell_ne d L (by decide)
  have n4 : cell d L cc1_scoped1.sem ≠ cell d L cc1_scratch5.sem := cell_ne d L (by decide)
  have n5 : cell d L cc1_scoped1.sem ≠ cell d L cc1_scratch6.sem := cell_ne d L (by decide)
  have n6 : cell d L cc1_scoped1.sem ≠ cell d L cc1_scoped0.sem := cell_ne d L (by decide)
  unfold SparseCore.Cfg.ownSems0
  rw [bigSep_take2 _ (cell_mem d L cc1_scratch5.sem (by decide)) (cell_mem d L cc1_scratch6.sem (by decide)) n1,
    bigSep_take2 _ (s := ((ownCells (thr d L)).erase (cell d L cc1_scratch5.sem)).erase (cell d L cc1_scratch6.sem))
      (Finset.mem_erase.mpr ⟨n3, Finset.mem_erase.mpr ⟨n2, cell_mem d L cc1_scoped0.sem (by decide)⟩⟩)
      (Finset.mem_erase.mpr ⟨n5, Finset.mem_erase.mpr ⟨n4, cell_mem d L cc1_scoped1.sem (by decide)⟩⟩) n6]
  exact assoc4 _ _ _ _ _

abbrev bref (r : Ref sig .scVector) := (Proc.scVector (cV L) (jV L)).devRef r
theorem bref_ne {r t : Ref sig .scVector} (h : r ≠ t) : bref L r ≠ bref L t := fun e => h (Proc.devRef_injective _ e)

abbrev fiveBufs : sProp 𝕄 :=
  iprop((∃ f : Buf (Elt F) ((b0).view.loc (thr d L)), (b0).view.loc (thr d L) ↦{fullShare} f) ∗ (∃ f : Buf (Elt F) ((b1).view.loc (thr d L)), (b1).view.loc (thr d L) ↦{fullShare} f)
    ∗ (∃ f : Buf (Elt F) ((b2).view.loc (thr d L)), (b2).view.loc (thr d L) ↦{fullShare} f) ∗ (∃ f : Buf (Elt F) ((b3).view.loc (thr d L)), (b3).view.loc (thr d L) ↦{fullShare} f)
    ∗ (∃ f : Buf (Elt F) ((b4).view.loc (thr d L)), (b4).view.loc (thr d L) ↦{fullShare} f))
/-- A tile's scratch buffers are among its own, and the rest. -/
theorem ownBufs_V : ∃ R : sProp 𝕄, (ownBufs (thr d L) : sProp 𝕄) = iprop(fiveBufs d L ∗ R) := by
  refine ⟨bigSep ((((((ownRefs (τ := τ) (.scVector (cV L) (jV L))).erase (bref L cc1_scratch0)).erase (bref L cc1_scratch1)).erase (bref L cc1_scratch2)).erase
    (bref L cc1_scratch3)).erase (bref L cc1_scratch4)) fun b => iprop(∃ f, ((d, b) : Loc nD τ sig) ↦{fullShare} f), ?_⟩
  have hm (r : Ref sig .scVector) (h : (Proc.scVector (cV L) (jV L)).devRef r ∈ ownRefs (τ := τ) (.scVector (cV L) (jV L))) : bref L r ∈ ownRefs (τ := τ) (.scVector (cV L) (jV L)) := h
  have m0 := SparseCore.Cfg.mem_ownRefs_of_owner (p := Proc.scVector (cV L) (jV L)) (b := bref L cc1_scratch0) rfl
  have m1 := SparseCore.Cfg.mem_ownRefs_of_owner (p := Proc.scVector (cV L) (jV L)) (b := bref L cc1_scratch1) rfl
  have m2 := SparseCore.Cfg.mem_ownRefs_of_owner (p := Proc.scVector (cV L) (jV L)) (b := bref L cc1_scratch2) rfl
  have m3 := SparseCore.Cfg.mem_ownRefs_of_owner (p := Proc.scVector (cV L) (jV L)) (b := bref L cc1_scratch3) rfl
  have m4 := SparseCore.Cfg.mem_ownRefs_of_owner (p := Proc.scVector (cV L) (jV L)) (b := bref L cc1_scratch4) rfl
  have e1 := Finset.mem_erase.mpr ⟨bref_ne L (show (cc1_scratch1 : Ref sig .scVector) ≠ cc1_scratch0 by decide), m1⟩
  have e2 := Finset.mem_erase.mpr ⟨bref_ne L (show (cc1_scratch2 : Ref sig .scVector) ≠ cc1_scratch1 by decide),
    Finset.mem_erase.mpr ⟨bref_ne L (show (cc1_scratch2 : Ref sig .scVector) ≠ cc1_scratch0 by decide), m2⟩⟩
  have e3 := Finset.mem_erase.mpr ⟨bref_ne L (show (cc1_scratch3 : Ref sig .scVector) ≠ cc1_scratch2 by decide),
    Finset.mem_erase.mpr ⟨bref_ne L (show (cc1_scratch3 : Ref sig .scVector) ≠ cc1_scratch1 by decide),
    Finset.mem_erase.mpr ⟨bref_ne L (show (cc1_scratch3 : Ref sig .scVector) ≠ cc1_scratch0 by decide), m3⟩⟩⟩
  have e4 := Finset.mem_erase.mpr ⟨bref_ne L (show (cc1_scratch4 : Ref sig .scVector) ≠ cc1_scratch3 by decide),
    Finset.mem_erase.mpr ⟨bref_ne L (show (cc1_scratch4 : Ref sig .scVector) ≠ cc1_scratch2 by decide),
    Finset.mem_erase.mpr ⟨bref_ne L (show (cc1_scratch4 : Ref sig .scVector) ≠ cc1_scratch1 by decide),
    Finset.mem_erase.mpr ⟨bref_ne L (show (cc1_scratch4 : Ref sig .scVector) ≠ cc1_scratch0 by decide), m4⟩⟩⟩⟩
  unfold SparseCore.Cfg.ownBufs
  refine (SparseCore.bigSep_erase' m0).trans ?_
  rw [SparseCore.bigSep_erase' e1, SparseCore.bigSep_erase' e2, SparseCore.bigSep_erase' e3, SparseCore.bigSep_erase' e4]
  exact assoc5 _ _ _ _ _ _

variable (fa : Buf (Elt F) ((a2).view.loc (thr d L))) (fb : Buf (Elt F) ((a3).view.loc (thr d L))) (fo : Buf (Elt F) ((a4).view.loc (thr d L)))

/-- A tile's whole task, from what its go-signal hands it to what its done-signal hands back. -/
theorem tile_body (fx : Buf (Elt F) ((a4).view.loc (thr d L))) (X : ℕ → F .f32) (hfx : ∀ j : S1024.Idx, fx j = X (j 0).val) (A : ℕ → F .f32) (hfa : ∀ j : S983040.Idx, fa j = A (j 0).val) (B : ℕ → BitVec 32) (hfb : ∀ j : S1048576.Idx, fb j = B (j 0).val)
    (hX : ∀ j : S16.Idx, (chunks (cutP A (tOff L)) (cutN B (lOff L)) 5).1 j = X (32 * (L 1).val + 16 * (L 0).val + (j 0).val))
    (hX' : ∀ j : S16.Idx, (chunks (cutP A (tOff L)) (cutN B (lOff L)) 5).2 j = X (32 * (L 1).val + 16 * (L 0).val + 512 + (j 0).val))
    (hF : (K (F := F)).Facts) (O : CellTallies nD τ sig (HIx 2)) (W : Waits sig (HIx 2)) (hO : ∀ g, O g none = 0) :
    iprop(levAts (K (F := F)).L (K (F := F)).lev ∗ emp ∗ tilePts d L fa fb fo ∗ scopedBufs (thr d L) ∗ scopedSems0 (thr d L) ∗ owes (thr d L) O W)
      ⊢ (wp frame (wpE (defs₀ (F := F)) 𝒱₀ (thr d L) none) Set.univ
          (cc1__focal_partial_body L a2 (Memref.isWhole_whole _) a3 (Memref.isWhole_whole _) a4 (Memref.isWhole_whole _)
            b0 (Memref.isWhole_whole _) b1 (Memref.isWhole_whole _) b2 (Memref.isWhole_whole _) b3 (Memref.isWhole_whole _) b4 (Memref.isWhole_whole _)
            cc1_scratch5 cc1_scratch6 cc1_scoped0 cc1_scoped1)
          fun _ => iprop(tilePts d L fa fb fx ∗ scopedBufs (thr d L) ∗ scopedSems0 (thr d L)
            ∗ ∃ W', ⌜∀ p ∈ W', p ∈ W ∨ p.2 = none⌝ ∗ owes (thr d L) O W') : sProp 𝕄) := by
  obtain ⟨R1, h1⟩ := ownSems0_V (F := F) d L
  obtain ⟨R2, h2⟩ := ownBufs_V (F := F) d L
  rw [(K (F := F)).scopedBufs_V hF d (cV L) (jV L), SparseCore.Cfg.scopedSems0_V (Val := Elt F) d (cV L) (jV L), h1, h2]
  iintro ⟨#Hlv, -, Hp, ⟨⟨⟨%fp0, Hb0⟩, ⟨%fp1, Hb1⟩, ⟨%fl0, Hb2⟩, ⟨%fl1, Hb3⟩, ⟨%fs, Hb4⟩⟩, HR2⟩, ⟨⟨S5, S6, R0, R1⟩, HR1⟩, HO⟩
  ihave Hmw := (show levAts (K (F := F)).L (K (F := F)).lev ⊢ Transfers.MayWaits (thr d L) (default : HIx 2) O from
    (K (F := F)).mayWaits_none (thr := thr d L) hO) $$ Hlv
  ihave Hwp := (tile_wp d L fa fb fo fx X hfx A hfa B hfb hX hX' O W trivial trivial fp0 fp1 fl0 fl1 fs) $$ [Hmw Hp Hb0 Hb1 Hb2 Hb3 Hb4 S5 S6 R0 R1 HO]
  · isplitl [Hmw]; · iexact Hmw
    isplitl [Hp]; · iexact Hp
    isplitl [Hb0]; · iexact Hb0
    isplitl [Hb1]; · iexact Hb1
    isplitl [Hb2]; · iexact Hb2
    isplitl [Hb3]; · iexact Hb3
    isplitl [Hb4]; · iexact Hb4
    isplitl [S5]; · iexact S5
    isplitl [S6]; · iexact S6
    isplitl [R0]; · iexact R0
    isplitl [R1]; · iexact R1
    iexact HO
  iapply (wp_wand_r frame _ _ (Q := fun _ => iprop(tilePts d L fa fb fx ∗ fiveBufs d L
    ∗ (semVal (thr d L, .dma cc1_scratch5.sem) 0 ∗ semVal (thr d L, .dma cc1_scratch6.sem) 0
              ∗ semVal (thr d L, .dma cc1_scoped0.sem) 0 ∗ semVal (thr d L, .dma cc1_scoped1.sem) 0)
            ∗ ∃ W', ⌜∀ p ∈ W', p ∈ W ∨ p.2 = none⌝ ∗ owes (thr d L) O W')))
  isplitl [Hwp]; · iexact Hwp
  iintro %u ⟨Hp, Hb, Hs, HO⟩
  isplitl [Hp]; · iexact Hp
  isplitl [Hb HR2]
  · isplitl [Hb]; · iexact Hb
    iexact HR2
  isplitl [Hs HR1]
  · isplitl [Hs]; · iexact Hs
    iexact HR1
  iexact HO

end Tile

end Cert.Proof.KI.C1

end
-- ==== Proof.KITC.lean ====
/-
  The two TensorCore kernels' bodies, run over their staging buffers.
-/
module

public import proofs.«01_k».proof.Proof.KIBase
public import Idealize.ShloMosaic.Lib.VecWindow

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Window BodyObligation cellOf)

variable {F : FTy → Type}
variable [FloatOps F] [Named F]

local notation "𝕄" => MT nD τ sig (HIx 2) (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The reduction kernel: what it leaves in the result's buffer. -/
theorem reduce_wp (c : Dev nD) (M0 : Memref sig .tc .vmem S8x128 .f32) (h0 : M0.IsWhole) (M1 : Memref sig .tc .vmem S8x128 .f32) (h1 : M1.IsWhole)
    (M2 : Memref sig .tc .vmem S1x1 .f32) (h2 : M2.IsWhole) (M3 : Memref sig .tc .vmem S1x1 .f32) (h3 : M3.IsWhole) (M4 : Memref sig .tc .vmem S1x1 .f32) (h4 : M4.IsWhole)
    (f0 : Bf (F := F) c M0) (f1 : Bf (F := F) c M1) (f2 : Bf (F := F) c M2) (f3 : Bf (F := F) c M3) (f4 : Bf (F := F) c M4) (E : Set ℕ) (Q : PUnit → sProp 𝕄) :
    iprop(pt c M0 f0 ∗ pt c M1 f1 ∗ pt c M2 f2 ∗ pt c M3 f3 ∗ pt c M4 f4
      ∗ (∀ g : Bf (F := F) c M4, iprop(⌜M4.view.read (Elt F) g = k3_pay1 (M2.view.read (Elt F) f2) (M3.view.read (Elt F) f3) (M0.view.read (Elt F) f0) (M1.view.read (Elt F) f1)⌝
          ∗ pt c M0 f0 ∗ pt c M1 f1 ∗ pt c M2 f2 ∗ pt c M3 f3 ∗ pt c M4 g) -∗ Q ⟨⟩))
      ⊢ wp frame (wpE (defs₀ (F := F)) 𝒱₀ c none) E (cc3__reduce_tc_body M0 h0 M1 h1 M2 h2 M3 h3 M4 h4) Q := by
  rw [cc3__reduce_tc_body_eq_skeleton]
  iintro ⟨H0, H1, H2, H3, H4, Hk⟩
  sl_exec!
  sl_step
  iapply Hk
  isplitr
  swap
  · isplitl [H0]; · iexact H0
    isplitl [H1]; · iexact H1
    isplitl [H2]; · iexact H2
    isplitl [H3]; · iexact H3
    iexact H4
  ipureintro
  refine (View.read_writes_full _ _ _ _ _).trans ?_
  rw [View.readAt_full, View.readAt_full, View.readAt_full, View.readAt_full]

/-- The focal kernel at the first point. -/
theorem focal_wp (c : Dev nD) (i : grid2.Coords) (M0 : Memref sig .tc .vmem S3x16384 .f32) (h0 : M0.IsWhole) (M1 : Memref sig .tc .vmem S1x16384 .i32) (h1 : M1.IsWhole)
    (M2 : Memref sig .tc .vmem S1x1 .f32) (h2 : M2.IsWhole) (M3 : Memref sig .tc .vmem S1x1 .f32) (h3 : M3.IsWhole)
    (f0 : Bf (F := F) c M0) (f1 : Bf (F := F) c M1) (f2 : Bf (F := F) c M2) (f3 : Bf (F := F) c M3) (E : Set ℕ) (Q : PUnit → sProp 𝕄) :
    iprop(pt c M0 f0 ∗ pt c M1 f1 ∗ pt c M2 f2 ∗ pt c M3 f3
      ∗ (∀ g2 : Bf (F := F) c M2, ∀ g3 : Bf (F := F) c M3,
        iprop(⌜M2.view.read (Elt F) g2 = k2_pay1 (k2_pay6 (M0.view.read (Elt F) f0) (M1.view.read (Elt F) f1)) (if (i 0).val = 0 then k2_pay3 else M2.view.read (Elt F) f2)⌝
          ∗ ⌜M3.view.read (Elt F) g3 = k2_pay2 (k2_pay5 (M1.view.read (Elt F) f1)) (if (i 0).val = 0 then k2_pay4 else M3.view.read (Elt F) f3)⌝
          ∗ pt c M0 f0 ∗ pt c M1 f1 ∗ pt c M2 g2 ∗ pt c M3 g3) -∗ Q ⟨⟩))
      ⊢ wp frame (wpE (defs₀ (F := F)) 𝒱₀ c none) E (cc2__focal_tc_body i M0 h0 M1 h1 M2 h2 M3 h3) Q := by
  rw [cc2__focal_tc_body_eq_skeleton]
  unfold cc2__focal_tc_body_skel
  rw [k2_part1_eq_skeleton]
  unfold k2_part1_skel
  by_cases hi : (i 0).val = 0
  · have hc : Scalar.cmpi .ne (Scalar.extui (Scalar.cmpi .eq (BitVec.ofNat 32 (i 0).val) 0#32 : BitVec 1) : BitVec 32) 0#32 = 1#1 := by
      rw [hi]; decide
    rw [if_pos hi, if_pos hi]
    simp only [hc, ↓reduceDIte]
    iintro ⟨H0, H1, H2, H3, Hk⟩
    sl_exec!
    sl_step
    iapply Hk
    isplitr
    swap
    · isplitr
      swap
      · isplitl [H0]; · iexact H0
        isplitl [H1]; · iexact H1
        isplitl [H2]; · iexact H2
        iexact H3
      ipureintro
      refine (View.read_writes_full _ _ _ _ _).trans ?_
      show k2_pay2 (k2_pay5 _) _ = _
      exact congrArg₂ k2_pay2 (congrArg k2_pay5 (View.readAt_full _ _ _)) (View.readCov_full _ _ _ _ _)
    ipureintro
    refine (View.read_writes_full _ _ _ _ _).trans ?_
    exact congrArg₂ k2_pay1 (congrArg₂ k2_pay6 (View.readAt_full _ _ _) (View.readAt_full _ _ _)) (View.readCov_full _ _ _ _ _)
  · have hc : ¬ Scalar.cmpi .ne (Scalar.extui (Scalar.cmpi .eq (BitVec.ofNat 32 (i 0).val) 0#32 : BitVec 1) : BitVec 32) 0#32 = 1#1 := by
      have hlt : (i 0).val < 24 := (i 0).isLt
      generalize (i 0).val = n at hi hlt
      interval_cases n <;> first | exact absurd rfl hi | decide
    rw [if_neg hi, if_neg hi]
    simp only [hc, ↓reduceDIte]
    iintro ⟨H0, H1, H2, H3, Hk⟩
    sl_exec!
    sl_step
    iapply Hk
    isplitr
    swap
    · isplitr
      swap
      · isplitl [H0]; · iexact H0
        isplitl [H1]; · iexact H1
        isplitl [H2]; · iexact H2
        iexact H3
      ipureintro
      refine (View.read_writes_full _ _ _ _ _).trans ?_
      show k2_pay2 (k2_pay5 _) _ = _
      exact congrArg₂ k2_pay2 (congrArg k2_pay5 (View.readAt_full _ _ _)) (View.readAt_full _ _ _)
    ipureintro
    refine (View.read_writes_full _ _ _ _ _).trans ?_
    exact congrArg₂ k2_pay1 (congrArg₂ k2_pay6 (View.readAt_full _ _ _) (View.readAt_full _ _ _)) (View.readAt_full _ _ _)

end Cert.Proof.KI

end
-- ==== Proof.KIDat.lean ====
/-
  The two TensorCore kernels' regions: their proof data, their body obligations, and each region as one step over
  every unscoped buffer held at a valuation.
-/
module

public import proofs.«01_k».proof.Proof.KITC
public import Idealize.ShloMosaic.Lib.Pipeline.RegionArraysS
public import Idealize.ShloMosaic.Lib.Pipeline.Frame

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Window BodyObligation cellOf)

variable {F : FTy → Type}
variable [FloatOps F] [Named F]

local notation "𝕄" => MT nD τ sig (HIx 2) (Elt F) ℕ UU ℕ

theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

/-- The focal kernel over staging buffers owned at their contents. -/
theorem focal_owns (c : Dev nD) (i : grid2.Coords) (M0 : Memref sig .tc .vmem S3x16384 .f32) (h0 : M0.IsWhole) (M1 : Memref sig .tc .vmem S1x16384 .i32) (h1 : M1.IsWhole)
    (M2 : Memref sig .tc .vmem S1x1 .f32) (h2 : M2.IsWhole) (M3 : Memref sig .tc .vmem S1x1 .f32) (h3 : M3.IsWhole)
    (X0 : Vec F S3x16384 .f32) (X1 : Vec F S1x16384 .i32) (X2 X3 : Vec F S1x1 .f32) (E : Set ℕ) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3
      ∗ (iprop(owns (c : Thread nD τ) M0 fullShare X0 ∗ owns (c : Thread nD τ) M1 fullShare X1
          ∗ owns (c : Thread nD τ) M2 fullShare (k2_pay1 (k2_pay6 X0 X1) (if (i 0).val = 0 then k2_pay3 else X2))
          ∗ owns (c : Thread nD τ) M3 fullShare (k2_pay2 (k2_pay5 X1) (if (i 0).val = 0 then k2_pay4 else X3))) -∗ Q ⟨⟩))
      ⊢ wp frame (wpE (defs₀ (F := F)) 𝒱₀ c none) E (cc2__focal_tc_body i M0 h0 M1 h1 M2 h2 M3 h3) Q := by
  rw [owns_pt c M0 h0, owns_pt c M1 h1, owns_pt c M2 h2, owns_pt c M3 h3, owns_pt c M2 h2, owns_pt c M3 h3]
  iintro ⟨⟨%f0, %e0, H0⟩, ⟨%f1, %e1, H1⟩, ⟨%f2, %e2, H2⟩, ⟨%f3, %e3, H3⟩, Hk⟩
  subst e0 e1 e2 e3
  iapply (focal_wp c i M0 h0 M1 h1 M2 h2 M3 h3 f0 f1 f2 f3 E Q)
  isplitl [H0]; · iexact H0
  isplitl [H1]; · iexact H1
  isplitl [H2]; · iexact H2
  isplitl [H3]; · iexact H3
  iintro %g2 %g3 ⟨%e2, %e3, H0, H1, H2, H3⟩
  iapply Hk
  isplitl [H0]; · iexists f0; isplitr; (· ipureintro; rfl); iexact H0
  isplitl [H1]; · iexists f1; isplitr; (· ipureintro; rfl); iexact H1
  isplitl [H2]; · iexists g2; isplitr; (· ipureintro; exact e2); iexact H2
  iexists g3; isplitr; (· ipureintro; exact e3); iexact H3

/-- The reduction kernel over staging buffers owned at their contents. -/
theorem reduce_owns (c : Dev nD) (M0 : Memref sig .tc .vmem S8x128 .f32) (h0 : M0.IsWhole) (M1 : Memref sig .tc .vmem S8x128 .f32) (h1 : M1.IsWhole)
    (M2 : Memref sig .tc .vmem S1x1 .f32) (h2 : M2.IsWhole) (M3 : Memref sig .tc .vmem S1x1 .f32) (h3 : M3.IsWhole) (M4 : Memref sig .tc .vmem S1x1 .f32) (h4 : M4.IsWhole)
    (X0 X1 : Vec F S8x128 .f32) (X2 X3 X4 : Vec F S1x1 .f32) (E : Set ℕ) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3
      ∗ owns (c : Thread nD τ) M4 fullShare X4
      ∗ (iprop(owns (c : Thread nD τ) M0 fullShare X0 ∗ owns (c : Thread nD τ) M1 fullShare X1 ∗ owns (c : Thread nD τ) M2 fullShare X2 ∗ owns (c : Thread nD τ) M3 fullShare X3
          ∗ owns (c : Thread nD τ) M4 fullShare (k3_pay1 X2 X3 X0 X1)) -∗ Q ⟨⟩))
      ⊢ wp frame (wpE (defs₀ (F := F)) 𝒱₀ c none) E (cc3__reduce_tc_body M0 h0 M1 h1 M2 h2 M3 h3 M4 h4) Q := by
  rw [owns_pt c M0 h0, owns_pt c M1 h1, owns_pt c M2 h2, owns_pt c M3 h3, owns_pt c M4 h4, owns_pt c M4 h4]
  iintro ⟨⟨%f0, %e0, H0⟩, ⟨%f1, %e1, H1⟩, ⟨%f2, %e2, H2⟩, ⟨%f3, %e3, H3⟩, ⟨%f4, %e4, H4⟩, Hk⟩
  subst e0 e1 e2 e3 e4
  iapply (reduce_wp c M0 h0 M1 h1 M2 h2 M3 h3 M4 h4 f0 f1 f2 f3 f4 E Q)
  isplitl [H0]; · iexact H0
  isplitl [H1]; · iexact H1
  isplitl [H2]; · iexact H2
  isplitl [H3]; · iexact H3
  isplitl [H4]; · iexact H4
  iintro %g4 ⟨%e4, H0, H1, H2, H3, H4⟩
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  iexists g4; isplitr; (· ipureintro; exact e4); iexact H4

/-! ## The accumulators -/

/-- The loss of the first `n + 1` blocks, summed. -/
def accL (x : ℕ → Vec F S3x16384 .f32) (l : ℕ → Vec F S1x16384 .i32) : ℕ → FVec F S1x1 .f32
  | 0 => k2_pay1 (k2_pay6 (x 0) (l 0)) k2_pay3
  | n + 1 => k2_pay1 (k2_pay6 (x (n + 1)) (l (n + 1))) (accL x l n)

/-- The labelled points of the first `n + 1` blocks, counted. -/
def accP (l : ℕ → Vec F S1x16384 .i32) : ℕ → FVec F S1x1 .f32
  | 0 => k2_pay2 (k2_pay5 (l 0)) k2_pay4
  | n + 1 => k2_pay2 (k2_pay5 (l (n + 1))) (accP l n)

/-- Point `n` of the grid. -/
def pnt (n : ℕ) : Fin cfg2.N := ⟨n % 24, (N_2).symm ▸ Nat.mod_lt _ (by decide)⟩

theorem pnt_val (t : Fin cfg2.N) : pnt t.val = t := Fin.ext (Nat.mod_eq_of_lt (N_2 ▸ t.isLt))

theorem coords2 : ∀ t : Fin cfg2.N, (grid2.coords t 0).val = t.val :=
  (by decide +kernel : ∀ t : Fin grid2.N, (grid2.coords t 0).val = t.val)

variable (W : Valuation τ sig (Elt F))

/-- The blocks the focal kernel stages at point `n`. -/
def blkP (n : ℕ) : Vec F S3x16384 .f32 := ((cfg2.win 0).blk (pnt n)).view.read (Elt F) (W (Proc.devRef .tc main_v0))
def blkL (n : ℕ) : Vec F S1x16384 .i32 := ((cfg2.win 1).blk (pnt n)).view.read (Elt F) (W (Proc.devRef .tc main_v7))

abbrev Φ2 (c : Dev nD) : sProp 𝕄 := Pipeline.scopedRest (Ix := HIx 2) (Name := ℕ) (U := UU) (Lvl := ℕ) (Val := Elt F) spec2 c
abbrev Φ3 (c : Dev nD) : sProp 𝕄 := Pipeline.scopedRest (Ix := HIx 2) (Name := ℕ) (U := UU) (Lvl := ℕ) (Val := Elt F) spec3 c

/-- The focal region's proof data. -/
def dat2 (c : Dev nD) : Dat τ (Elt F) (HIx 2) ℕ UU ℕ cfg2 c where
  A w := W (Proc.devRef .tc (Pipeline.arrRef spec2 w))
  after w t := match w with
    | ⟨0, _⟩ => blkP W t.val
    | ⟨1, _⟩ => blkL W t.val
    | ⟨2, _⟩ => accL (blkP W) (blkL W) t.val
    | ⟨3, _⟩ => accP (blkL W) t.val
  Φ _ := Φ2 c
  q _ := fullShare
  owed _ := 0

/-- The reduction region's proof data. -/
def dat3 (c : Dev nD) : Dat τ (Elt F) (HIx 2) ℕ UU ℕ cfg3 c where
  A w := W (Proc.devRef .tc (Pipeline.arrRef spec3 w))
  after w _ := match w with
    | ⟨0, _⟩ => W (Proc.devRef .tc main_v9)
    | ⟨1, _⟩ => W (Proc.devRef .tc main_v10)
    | ⟨2, _⟩ => W (Proc.devRef .tc main_v8_0)
    | ⟨3, _⟩ => W (Proc.devRef .tc main_v8_1)
    | ⟨4, _⟩ => k3_pay1 (W (Proc.devRef .tc main_v8_0)) (W (Proc.devRef .tc main_v8_1)) (W (Proc.devRef .tc main_v9)) (W (Proc.devRef .tc main_v10))
  Φ _ := Φ3 c
  q _ := fullShare
  owed _ := 0

theorem before2_0 (c : Dev nD) (t : Fin cfg2.N) (d) : (dat2 W c).before 0 t d = blkP W t.val := by
  unfold Dat.before; rw [if_pos (fetch2_0 t)]
  unfold blkP; rw [pnt_val]; rfl
theorem before2_1 (c : Dev nD) (t : Fin cfg2.N) (d) : (dat2 W c).before 1 t d = blkL W t.val := by
  unfold Dat.before; rw [if_pos (fetch2_1 t)]
  unfold blkL; rw [pnt_val]; rfl

theorem noflush (t : Fin cfg2.N) (ht : t.val ≠ 0) : ¬ (t.val - 1) % 24 = 23 := by
  have : t.val < 24 := N_2 ▸ t.isLt
  omega

theorem before2_2 (c : Dev nD) (t : Fin cfg2.N) (ht : t.val ≠ 0) (d) : (dat2 W c).before 2 t d = accL (blkP W) (blkL W) (t.val - 1) :=
  (dat2 W c).before_out_kept 2 rfl t ht (Bool.eq_false_iff.mpr fun h => noflush t ht ((flush2_2 _).mp h)) (fun _ => rfl) (fun _ _ => rfl) d
theorem before2_3 (c : Dev nD) (t : Fin cfg2.N) (ht : t.val ≠ 0) (d) : (dat2 W c).before 3 t d = accP (blkL W) (t.val - 1) :=
  (dat2 W c).before_out_kept 3 rfl t ht (Bool.eq_false_iff.mpr fun h => noflush t ht ((flush2_3 _).mp h)) (fun _ => rfl) (fun _ _ => rfl) d

/-- What the body leaves of the first accumulator, of what it found. -/
theorem step2_2 (c : Dev nD) (t : Fin cfg2.N) (d) :
    k2_pay1 (k2_pay6 (blkP W t.val) (blkL W t.val)) (if (grid2.coords t 0).val = 0 then k2_pay3 else (dat2 W c).before 2 t d) = accL (blkP W) (blkL W) t.val := by
  rw [coords2]
  by_cases h : t.val = 0
  · rw [if_pos h, h]; rfl
  · rw [if_neg h, before2_2 W c t h]
    obtain ⟨n, hn⟩ := Nat.exists_eq_succ_of_ne_zero h
    rw [hn]; rfl
theorem step2_3 (c : Dev nD) (t : Fin cfg2.N) (d) :
    k2_pay2 (k2_pay5 (blkL W t.val)) (if (grid2.coords t 0).val = 0 then k2_pay4 else (dat2 W c).before 3 t d) = accP (blkL W) t.val := by
  rw [coords2]
  by_cases h : t.val = 0
  · rw [if_pos h, h]; rfl
  · rw [if_neg h, before2_3 W c t h]
    obtain ⟨n, hn⟩ := Nat.exists_eq_succ_of_ne_zero h
    rw [hn]; rfl

theorem body2 (c : Dev nD) : BodyObligation (dat2 W c) (defs₀ (F := F)) 𝒱₀ none Set.univ := fun t => by
  rw [bigSep_W2, bigSep_W2]
  rw [show (dat2 W c).Φ t.castSucc = Φ2 c from rfl, show (dat2 W c).Φ t.succ = Φ2 c from rfl,
    show (dat2 W c).owesAt none t.succ = (dat2 W c).owesAt none t.castSucc from rfl]
  iintro ⟨HΦ, Howes, ⟨%d0, H0⟩, ⟨%d1, H1⟩, ⟨%d2, H2⟩, ⟨%d3, H3⟩⟩
  rw [before2_0, before2_1]
  iapply (focal_owns c (grid2.coords t) (stage2_0 (cfg2.slots t 0)) (hstage2_0 ((cfg2.slots t 0).cast nbuf2_0)) (stage2_1 (cfg2.slots t 1)) (hstage2_1 ((cfg2.slots t 1).cast nbuf2_1))
    (stage2_2 (cfg2.slots t 2)) (hstage2_2 ((cfg2.slots t 2).cast nbuf2_2)) (stage2_3 (cfg2.slots t 3)) (hstage2_3 ((cfg2.slots t 3).cast nbuf2_3))
    (blkP W t.val) (blkL W t.val) ((dat2 W c).before 2 t d2) ((dat2 W c).before 3 t d3) Set.univ _)
  isplitl [H0]; · iexact H0
  isplitl [H1]; · iexact H1
  isplitl [H2]; · iexact H2
  isplitl [H3]; · iexact H3
  rw [step2_2, step2_3]
  iintro ⟨H0, H1, H2, H3⟩
  isplitl [HΦ]; · iexact HΦ
  isplitl [Howes]; · iexact Howes
  isplitl [H0]; · iexact H0
  isplitl [H1]; · iexact H1
  isplitl [H2]; · iexact H2
  iexact H3

theorem before3_0 (c : Dev nD) (d) : (dat3 W c).before 0 t3_0 d = W (Proc.devRef .tc main_v9) := by
  unfold Dat.before; rw [if_pos (fetch3_0 t3_0)]
  funext j; refine congrArg (W (Proc.devRef .tc main_v9)) (funext fun a => Fin.ext ?_)
  fin_cases a <;> first | exact (Nat.zero_add _).trans (Nat.one_mul _) | (show 0 * _ + 1 * _ = _; rw [Nat.zero_mul, Nat.zero_add, Nat.one_mul])
theorem before3_1 (c : Dev nD) (d) : (dat3 W c).before 1 t3_0 d = W (Proc.devRef .tc main_v10) := by
  unfold Dat.before; rw [if_pos (fetch3_1 t3_0)]
  funext j; refine congrArg (W (Proc.devRef .tc main_v10)) (funext fun a => Fin.ext ?_)
  fin_cases a <;> first | exact (Nat.zero_add _).trans (Nat.one_mul _) | (show 0 * _ + 1 * _ = _; rw [Nat.zero_mul, Nat.zero_add, Nat.one_mul])
theorem before3_2 (c : Dev nD) (d) : (dat3 W c).before 2 t3_0 d = W (Proc.devRef .tc main_v8_0) := by
  unfold Dat.before; rw [if_pos (fetch3_2 t3_0)]
  funext j; refine congrArg (W (Proc.devRef .tc main_v8_0)) (funext fun a => Fin.ext ?_)
  fin_cases a <;> first | exact (Nat.zero_add _).trans (Nat.one_mul _) | (show 0 * _ + 1 * _ = _; rw [Nat.zero_mul, Nat.zero_add, Nat.one_mul])
theorem before3_3 (c : Dev nD) (d) : (dat3 W c).before 3 t3_0 d = W (Proc.devRef .tc main_v8_1) := by
  unfold Dat.before; rw [if_pos (fetch3_3 t3_0)]
  funext j; refine congrArg (W (Proc.devRef .tc main_v8_1)) (funext fun a => Fin.ext ?_)
  fin_cases a <;> first | exact (Nat.zero_add _).trans (Nat.one_mul _) | (show 0 * _ + 1 * _ = _; rw [Nat.zero_mul, Nat.zero_add, Nat.one_mul])

theorem body3 (c : Dev nD) : BodyObligation (dat3 W c) (defs₀ (F := F)) 𝒱₀ none Set.univ := fun t => by
  obtain rfl := fin_N3 t
  rw [bigSep_W3, bigSep_W3]
  rw [show (dat3 W c).Φ t3_0.castSucc = Φ3 c from rfl, show (dat3 W c).Φ t3_0.succ = Φ3 c from rfl,
    show (dat3 W c).owesAt none t3_0.succ = (dat3 W c).owesAt none t3_0.castSucc from rfl]
  iintro ⟨HΦ, Howes, ⟨%d0, H0⟩, ⟨%d1, H1⟩, ⟨%d2, H2⟩, ⟨%d3, H3⟩, ⟨%d4, H4⟩⟩
  rw [before3_0, before3_1, before3_2, before3_3]
  iapply (reduce_owns c (stage3_0 0) (hstage3_0 0) (stage3_1 0) (hstage3_1 0) (stage3_2 0) (hstage3_2 0) (stage3_3 0) (hstage3_3 0) (stage3_4 0) (hstage3_4 0)
    (W (Proc.devRef .tc main_v9)) (W (Proc.devRef .tc main_v10)) (W (Proc.devRef .tc main_v8_0)) (W (Proc.devRef .tc main_v8_1)) ((dat3 W c).before 4 t3_0 d4) Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-! ## The regions -/

theorem keepL (P : sProp 𝕄) : iprop(P ∗ emp) ⊢ P := by iintro ⟨H, -⟩; iexact H
theorem keepR (P : sProp 𝕄) : P ⊢ iprop(P ∗ emp) := by iintro H; isplitl [H]; (· iexact H); iempintro

/-- The proof data of both pipelines; the one not entered is given any. -/
abbrev adm (p : Fin 2) : (pcfgs (F := F) p).Adm := (cfgs p).toPCfg_adm

/-- The first region's family: the focal pipeline entered at `W`. -/
def pdats (W₀ W₁ : Valuation τ sig (Elt F)) : (p : Fin 2) → (c : Dev nD) → Dat τ (Elt F) (HIx 2) ℕ UU ℕ (Pipeline.pin (pcfgs (F := F)) adm p) c
  | ⟨0, _⟩ => fun c => dat2 W₀ c
  | ⟨1, _⟩ => fun c => dat3 W₁ c

/-- The buffers the thread state holds. -/
abbrev uc : Finset (DevRef τ sig) := Pipeline.ucRefs τ sig

variable (W₀ W₁ : Valuation τ sig (Elt F))

theorem cut (p : Fin 2) : Pipeline.LevelCut (nD := nD) (pcfgs (F := F)) adm (none : HIx 2) (K (F := F)).L (K (F := F)).lev p (fun _ => 0) fun _ => 0 where
  hι _ _ _ := Finset.mem_univ _
  hιb _ _ _ := le_refl _
  hD _ _ _ h := absurd h (lt_irrefl _)

set_option backward.isDefEq.respectTransparency.types false in
def region2 : Pipeline.RegionSeg (pcfgs (F := F)) adm (pdats W₀ W₁) none defs₀ 𝒱₀ (K (F := F)).L (K (F := F)).lev 0 :=
  Pipeline.RegionSeg.ofHeldIn (pcfgs (F := F)) adm (pdats W₀ W₁) none defs₀ 𝒱₀ (K (F := F)).L (K (F := F)).lev 0 (fun _ => 0) uc (fun _ => BI.emp) (fun _ => BI.emp)
    launch2.toP rfl (fun c => (body2 W₀ c).loose) (fun _ _ => rfl) (fun _ => rfl) (fun c w => (dat2 W₀ c).share_full (fun _ => rfl) w)
    (fun c => keepL (Φ2 c)) (fun c => keepR (Φ2 c)) (fun _ => 0) (cut 0) (fun _ => BI.emp) (fun _ => W₀) (fun _ _ => rfl)

set_option backward.isDefEq.respectTransparency.types false in
def region3 : Pipeline.RegionSeg (pcfgs (F := F)) adm (pdats W₀ W₁) none defs₀ 𝒱₀ (K (F := F)).L (K (F := F)).lev 1 :=
  Pipeline.RegionSeg.ofHeldIn (pcfgs (F := F)) adm (pdats W₀ W₁) none defs₀ 𝒱₀ (K (F := F)).L (K (F := F)).lev 1 (fun _ => 0) uc (fun _ => BI.emp) (fun _ => BI.emp)
    launch3.toP rfl (fun c => (body3 W₁ c).loose) (fun _ _ => rfl) (fun _ => rfl) (fun c w => (dat3 W₁ c).share_full (fun _ => rfl) w)
    (fun c => keepL (Φ3 c)) (fun c => keepR (Φ3 c)) (fun _ => 0) (cut 1) (fun _ => BI.emp) (fun _ => W₁) (fun _ _ => rfl)

end Cert.Proof.KI

end
-- ==== Proof.KIPay.lean ====
/-
  What the two SparseCore calls carry: the arrays' contents along @main, each tile's share of them, and the tiles' obligations.
-/
module

public import proofs.«01_k».proof.Proof.KIBody0
public import proofs.«01_k».proof.Proof.KIBody1
public import proofs.«01_k».proof.Proof.KIDat

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F] [Named F]

local notation "𝕄" => MT nD τ sig (HIx 2) (Elt F) ℕ UU ℕ

/-! ## The arrays along @main -/

/-- An array of one axis as a function of the place. -/
def ext (a : S983040.Idx → F .f32) (n : ℕ) : F .f32 := a fun x => ⟨n % 983040, by fin_cases x; exact Nat.mod_lt _ (by decide)⟩
def extL (b : S1048576.Idx → BitVec 32) (n : ℕ) : BitVec 32 := b fun x => ⟨n % 1048576, by fin_cases x; exact Nat.mod_lt _ (by decide)⟩
def lane (n : ℕ) : S16.Idx := fun x => ⟨n % 16, by fin_cases x; exact Nat.mod_lt _ (by decide)⟩

omit [FloatOps F] [Named F] in
theorem ext_eq (a : S983040.Idx → F .f32) (j : S983040.Idx) : a j = ext a (j 0).val :=
  congrArg a (funext fun x => by fin_cases x; refine Fin.ext ?_; show (j 0).val = (j 0).val % 983040; exact (Nat.mod_eq_of_lt (j 0).isLt).symm)
theorem extL_eq (b : S1048576.Idx → BitVec 32) (j : S1048576.Idx) : b j = extL b (j 0).val :=
  congrArg b (funext fun x => by fin_cases x; refine Fin.ext ?_; show (j 0).val = (j 0).val % 1048576; exact (Nat.mod_eq_of_lt (j 0).isLt).symm)
theorem lane_eq (j : S16.Idx) (n : ℕ) : lane (16 * n + (j 0).val) = j :=
  funext fun x => by
    fin_cases x
    have h : (j 0).val < 16 := (j 0).isLt
    refine Fin.ext ?_
    show (16 * n + (j 0).val) % 16 = (j 0).val
    omega

/-- What tile `w` of a call leaves of its points: its lanes' weighted losses and counts. -/
def tileOut (a : S983040.Idx → F .f32) (b : S1048576.Idx → BitVec 32) (base w : ℕ) : FVec F S16 .f32 × FVec F S16 .f32 :=
  chunks (cutP (ext a) (10240 * w)) (cutN (extL b) (10240 * w + base)) 5
/-- Word `n` of a call's output: the losses of the tiles' lanes, then their counts. -/
def outAt (a : S983040.Idx → F .f32) (b : S1048576.Idx → BitVec 32) (base n : ℕ) : F .f32 :=
  if n < 512 then (tileOut a b base (n / 16)).1 (lane n) else (tileOut a b base ((n - 512) / 16)).2 (lane (n - 512))
def outOf (a : S983040.Idx → F .f32) (b : S1048576.Idx → BitVec 32) (base : ℕ) : S1024.Idx → F .f32 := fun j => outAt a b base (j 0).val

theorem outAt_fst (a : S983040.Idx → F .f32) (b : S1048576.Idx → BitVec 32) (base w : ℕ) (hw : w < 32) (j : S16.Idx) :
    outAt a b base (16 * w + (j 0).val) = (tileOut a b base w).1 j := by
  have h : (j 0).val < 16 := (j 0).isLt
  unfold outAt
  rw [if_pos (by omega), lane_eq, show (16 * w + (j 0).val) / 16 = w by omega]
theorem outAt_snd (a : S983040.Idx → F .f32) (b : S1048576.Idx → BitVec 32) (base w : ℕ) (j : S16.Idx) :
    outAt a b base (16 * w + 512 + (j 0).val) = (tileOut a b base w).2 j := by
  have h : (j 0).val < 16 := (j 0).isLt
  unfold outAt
  rw [if_neg (by omega), show 16 * w + 512 + (j 0).val - 512 = 16 * w + (j 0).val by omega, lane_eq, show (16 * w + (j 0).val) / 16 = w by omega]

abbrev opT : HloOp τ sig (Elt F) := StableHlo.unary main_arg0 main_v0 ((transpose S3x1048576 [1, 0] · transposes_S1048576x3_S3x1048576_1_0) : (⟨S1048576x3, .f32⟩ : BufTy).Contents (Elt F) → (⟨S3x1048576, .f32⟩ : BufTy).Contents (Elt F))
abbrev opA : HloOp τ sig (Elt F) := StableHlo.unary main_v0 main_v1 ((extractStridedSlice S3x327680 ![0, 0] · slices_S3x1048576_S3x327680_0_0) : (⟨S3x1048576, .f32⟩ : BufTy).Contents (Elt F) → (⟨S3x327680, .f32⟩ : BufTy).Contents (Elt F))
abbrev opB : HloOp τ sig (Elt F) := StableHlo.reshape main_v1 main_v2 (rfl : (.f32 : EltTy) = .f32) shapeCasts_S3x327680_S983040
abbrev opC : HloOp τ sig (Elt F) := StableHlo.unary main_v0 main_v4 ((extractStridedSlice S3x327680 ![0, 327680] · slices_S3x1048576_S3x327680_0_327680) : (⟨S3x1048576, .f32⟩ : BufTy).Contents (Elt F) → (⟨S3x327680, .f32⟩ : BufTy).Contents (Elt F))
abbrev opD : HloOp τ sig (Elt F) := StableHlo.reshape main_v4 main_v5 (rfl : (.f32 : EltTy) = .f32) shapeCasts_S3x327680_S983040
abbrev opE : HloOp τ sig (Elt F) := StableHlo.reshape main_arg1 main_v7 (rfl : (.i32 : EltTy) = .i32) shapeCasts_S1048576_S1x1048576
abbrev opF : HloOp τ sig (Elt F) := StableHlo.reshape main_v3 main_v9 (rfl : (.f32 : EltTy) = .f32) shapeCasts_S1024_S8x128
abbrev opG : HloOp τ sig (Elt F) := StableHlo.reshape main_v6 main_v10 (rfl : (.f32 : EltTy) = .f32) shapeCasts_S1024_S8x128
abbrev opH : HloOp τ sig (Elt F) := StableHlo.reshape main_v11 main_v12 (rfl : (.f32 : EltTy) = .f32) shapeCasts_S1x1_S_

variable (m : (ℓ : Loc nD τ sig) → Buf (Elt F) ℓ) (d : Dev nD)

/-- The device's arrays: at launch; as each call finds them and leaves them; as each region does; at the end. -/
def V0 : Valuation τ sig (Elt F) := fun b => m (d, b)
def V1 : Valuation τ sig (Elt F) := opB.result (opA.result (opT.result (V0 m d)))
def V2 : Valuation τ sig (Elt F) := Function.update (V1 m d) (Proc.devRef .tc main_v3) (outOf (V1 m d (Proc.devRef .tc main_v2)) (V1 m d (Proc.devRef .tc main_arg1)) 0)
def V3 : Valuation τ sig (Elt F) := opD.result (opC.result (V2 m d))
def V4 : Valuation τ sig (Elt F) := Function.update (V3 m d) (Proc.devRef .tc main_v6) (outOf (V3 m d (Proc.devRef .tc main_v5)) (V3 m d (Proc.devRef .tc main_arg1)) 327680)
def V5 : Valuation τ sig (Elt F) := opE.result (V4 m d)

/-! ## What the handshakes carry -/

def coordsV (c : Fin (grid0.bound 0)) (s : Fin (grid0.bound 1)) : grid0.Coords :=
  fun | 0 => c | 1 => s | ⟨_ + 2, h⟩ => absurd h (Nat.not_lt.2 (Nat.le_add_left _ _))

set_option synthInstance.maxHeartbeats 1000000 in
set_option synthInstance.maxSize 4000 in
theorem tile_storable0 (L : grid0.Coords) (fa : Buf (Elt F) ((Memref.whole main_v2_scv).view.loc (C0.thr d L))) (fb : Buf (Elt F) ((Memref.whole main_arg1_scv).view.loc (C0.thr d L)))
    (fo : Buf (Elt F) ((Memref.whole main_v3_scv).view.loc (C0.thr d L))) : BI.Storable (upEmb : UEmb _ 𝕄) (C0.tilePts d L fa fb fo) :=
  inferInstance

set_option synthInstance.maxHeartbeats 1000000 in
set_option synthInstance.maxSize 4000 in
theorem tile_storable1 (L : grid1.Coords) (fa : Buf (Elt F) ((Memref.whole main_v5_scv).view.loc (C1.thr d L))) (fb : Buf (Elt F) ((Memref.whole main_arg1_scv).view.loc (C1.thr d L)))
    (fo : Buf (Elt F) ((Memref.whole main_v6_scv).view.loc (C1.thr d L))) : BI.Storable (upEmb : UEmb _ 𝕄) (C1.tilePts d L fa fb fo) :=
  inferInstance

/-- A tile's coordinates by its core and subcore. -/
def co (c : Fin 2) (i : Fin 16) : grid0.Coords := coordsV c i

/-- A tile's share of a call's arrays, as it takes it and as it leaves it. -/
def go0 (c : Fin 2) (i : Fin 16) : sProp 𝕄 :=
  C0.tilePts d (co c i) (V1 m d (Proc.devRef .tc main_v2)) (V1 m d (Proc.devRef .tc main_arg1)) (V1 m d (Proc.devRef .tc main_v3))
def td0 (c : Fin 2) (i : Fin 16) : sProp 𝕄 :=
  C0.tilePts d (co c i) (V1 m d (Proc.devRef .tc main_v2)) (V1 m d (Proc.devRef .tc main_arg1)) (outOf (V1 m d (Proc.devRef .tc main_v2)) (V1 m d (Proc.devRef .tc main_arg1)) 0)
def go1 (c : Fin 2) (i : Fin 16) : sProp 𝕄 :=
  C1.tilePts d (co c i) (V3 m d (Proc.devRef .tc main_v5)) (V3 m d (Proc.devRef .tc main_arg1)) (V3 m d (Proc.devRef .tc main_v6))
def td1 (c : Fin 2) (i : Fin 16) : sProp 𝕄 :=
  C1.tilePts d (co c i) (V3 m d (Proc.devRef .tc main_v5)) (V3 m d (Proc.devRef .tc main_arg1)) (outOf (V3 m d (Proc.devRef .tc main_v5)) (V3 m d (Proc.devRef .tc main_arg1)) 327680)

instance go0_storable (c) (i) : BI.Storable (upEmb : UEmb _ 𝕄) (go0 m d c i) := tile_storable0 d _ _ _ _
instance td0_storable (c) (i) : BI.Storable (upEmb : UEmb _ 𝕄) (td0 m d c i) := tile_storable0 d _ _ _ _
instance go1_storable (c) (i) : BI.Storable (upEmb : UEmb _ 𝕄) (go1 m d c i) := tile_storable1 d _ _ _ _
instance td1_storable (c) (i) : BI.Storable (upEmb : UEmb _ 𝕄) (td1 m d c i) := tile_storable1 d _ _ _ _

/-- A tile's share of call `q`, as it takes it and as it leaves it. -/
def goQ (q : Fin 2) (c : Fin 2) (i : Fin 16) : sProp 𝕄 :=
  match q with
  | 0 => go0 m d c i
  | 1 => go1 m d c i
def tdQ (q : Fin 2) (c : Fin 2) (i : Fin 16) : sProp 𝕄 :=
  match q with
  | 0 => td0 m d c i
  | 1 => td1 m d c i

instance goQ_storable (q : Fin 2) (c) (i) : BI.Storable (upEmb : UEmb _ 𝕄) (goQ m d q c i) :=
  match q with
  | 0 => go0_storable m d c i
  | 1 => go1_storable m d c i
instance tdQ_storable (q : Fin 2) (c) (i) : BI.Storable (upEmb : UEmb _ 𝕄) (tdQ m d q c i) :=
  match q with
  | 0 => td0_storable m d c i
  | 1 => td1_storable m d c i

/-- A core of the call and a subcore of it, of the two and the sixteen there are. -/
abbrev cc (q : Fin 2) (c : Fin ((K (F := F)).nCore q)) : Fin 2 := Fin.cast (nCore_eq q) c
abbrev ss (q : Fin 2) (i : Fin ((K (F := F)).nSub q)) : Fin 16 := Fin.cast (nSub_eq q) i

def P : (K (F := F)).Pay (nD := nD) (Val := Elt F) (Name := ℕ) (U := UU) where
  st q d c := bigSep Finset.univ fun i => goQ m d q (cc (F := F) q c) (ss (F := F) q i)
  dn q d c := bigSep Finset.univ fun i => tdQ m d q (cc (F := F) q c) (ss (F := F) q i)
  go q d c i := goQ m d q (cc (F := F) q c) (ss (F := F) q i)
  td q d c i := tdQ m d q (cc (F := F) q c) (ss (F := F) q i)
  x := fun _ _ => iprop(emp)

instance P_storable : (P (F := F) m).IsStorable where
  st q d c := (inferInstance : BI.Storable (upEmb : UEmb _ 𝕄) (bigSep Finset.univ fun i => goQ m d q (cc (F := F) q c) (ss (F := F) q i)))
  dn q d c := (inferInstance : BI.Storable (upEmb : UEmb _ 𝕄) (bigSep Finset.univ fun i => tdQ m d q (cc (F := F) q c) (ss (F := F) q i)))
  go q d c i := (inferInstance : BI.Storable (upEmb : UEmb _ 𝕄) (goQ m d q (cc (F := F) q c) (ss (F := F) q i)))
  td q d c i := (inferInstance : BI.Storable (upEmb : UEmb _ 𝕄) (tdQ m d q (cc (F := F) q c) (ss (F := F) q i)))

theorem vecSplit (q : Fin 2) : (K (F := F)).VecSplit' (P m) q := by
  intro d c
  show (bigSep Finset.univ fun i => goQ m d q (cc (F := F) q c) (ss (F := F) q i)) ⊢ |={Set.univ}=> iprop((bigSep Finset.univ fun i => goQ m d q (cc (F := F) q c) (ss (F := F) q i))
    ∗ ((bigSep Finset.univ fun i => tdQ m d q (cc (F := F) q c) (ss (F := F) q i)) -∗ bigSep Finset.univ fun i => tdQ m d q (cc (F := F) q c) (ss (F := F) q i)))
  iintro H; imodintro
  isplitl [H]; · iexact H
  iintro H; iexact H

theorem bigSep_cast {a b : ℕ} (h : a = b) (Φ : Fin b → sProp 𝕄) : (bigSep Finset.univ fun i : Fin a => Φ (Fin.cast h i)) = bigSep Finset.univ Φ := by
  subst h; rfl
theorem st_eq (q : Fin 2) : (bigSep Finset.univ fun c : Fin ((K (F := F)).nCore q) => (P m).st q d c)
    = bigSep Finset.univ fun c : Fin 2 => bigSep Finset.univ fun i : Fin 16 => goQ m d q c i := by
  rw [← bigSep_cast (nCore_eq (F := F) q)]
  refine bigSep_congr fun c _ => ?_
  rw [← bigSep_cast (nSub_eq (F := F) q)]; rfl
theorem dn_eq (q : Fin 2) : (bigSep Finset.univ fun c : Fin ((K (F := F)).nCore q) => (P m).dn q d c)
    = bigSep Finset.univ fun c : Fin 2 => bigSep Finset.univ fun i : Fin 16 => tdQ m d q c i := by
  rw [← bigSep_cast (nCore_eq (F := F) q)]
  refine bigSep_congr fun c _ => ?_
  rw [← bigSep_cast (nSub_eq (F := F) q)]; rfl

/-! ## The tiles' obligations -/

theorem out_fst (a : S983040.Idx → F .f32) (b : S1048576.Idx → BitVec 32) (base : ℕ) (L : grid0.Coords) (j : S16.Idx) :
    (chunks (cutP (ext a) (20480 * (L 1).val + 10240 * (L 0).val)) (cutN (extL b) (20480 * (L 1).val + 10240 * (L 0).val + base)) 5).1 j
      = outAt a b base (32 * (L 1).val + 16 * (L 0).val + (j 0).val) := by
  have h0 : (L 0).val < 2 := (L 0).isLt
  have h1 : (L 1).val < 16 := (L 1).isLt
  rw [show 32 * (L 1).val + 16 * (L 0).val = 16 * (2 * (L 1).val + (L 0).val) by omega, outAt_fst a b base _ (by omega), tileOut]
  rw [show 20480 * (L 1).val + 10240 * (L 0).val = 10240 * (2 * (L 1).val + (L 0).val) by omega]
theorem out_snd (a : S983040.Idx → F .f32) (b : S1048576.Idx → BitVec 32) (base : ℕ) (L : grid0.Coords) (j : S16.Idx) :
    (chunks (cutP (ext a) (20480 * (L 1).val + 10240 * (L 0).val)) (cutN (extL b) (20480 * (L 1).val + 10240 * (L 0).val + base)) 5).2 j
      = outAt a b base (32 * (L 1).val + 16 * (L 0).val + 512 + (j 0).val) := by
  have h0 : (L 0).val < 2 := (L 0).isLt
  have h1 : (L 1).val < 16 := (L 1).isLt
  rw [show 32 * (L 1).val + 16 * (L 0).val = 16 * (2 * (L 1).val + (L 0).val) by omega, outAt_snd a b base _, tileOut]
  rw [show 20480 * (L 1).val + 10240 * (L 0).val = 10240 * (2 * (L 1).val + (L 0).val) by omega]

theorem obl_post {thr : Thread nD τ} {q : Fin 2} {W : Waits sig (HIx 2)} {O : CellTallies nD τ sig (HIx 2)} {A B C : sProp 𝕄} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp id Or.inl
  iexact HO

theorem defs_vector0 (c : Fin τ.nSC) (s : Fin τ.nSub) :
    defs₀ (F := F) (.scVector c s) 0 () = SparseCore.onTile hcore0 hsub0 (fun c s => cc0__focal_partial_body (coordsV c s)
      (Memref.whole main_v2_scv) (Memref.isWhole_whole _) (Memref.whole main_arg1_scv) (Memref.isWhole_whole _) (Memref.whole main_v3_scv) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scoped0 cc0_scoped1) ⟨⟩ c s := rfl

theorem tileObl0 : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs_vector0]; simp only [SparseCore.onTile, hci, and_self, ↓reduceDIte]
  exact (C0.tile_body d (coordsV ⟨_, hci.1⟩ ⟨_, hci.2⟩) _ _ _ _ (outAt _ _ 0) (fun _ => rfl) _ (ext_eq _) _ (extL_eq _)
    (out_fst _ _ 0 (coordsV ⟨_, hci.1⟩ ⟨_, hci.2⟩)) (out_snd _ _ 0 (coordsV ⟨_, hci.1⟩ ⟨_, hci.2⟩)) scFacts O W hO).trans (wp_mono frame _ _ fun _ => obl_post)

theorem defs_vector1 (c : Fin τ.nSC) (s : Fin τ.nSub) :
    defs₀ (F := F) (.scVector c s) 1 () = SparseCore.onTile hcore1 hsub1 (fun c s => cc1__focal_partial_body (coordsV c s)
      (Memref.whole main_v5_scv) (Memref.isWhole_whole _) (Memref.whole main_arg1_scv) (Memref.isWhole_whole _) (Memref.whole main_v6_scv) (Memref.isWhole_whole _)
      (Memref.whole cc1_scratch0) (Memref.isWhole_whole _) (Memref.whole cc1_scratch1) (Memref.isWhole_whole _) (Memref.whole cc1_scratch2) (Memref.isWhole_whole _)
      (Memref.whole cc1_scratch3) (Memref.isWhole_whole _) (Memref.whole cc1_scratch4) (Memref.isWhole_whole _)
      cc1_scratch5 cc1_scratch6 cc1_scoped0 cc1_scoped1) ⟨⟩ c s := rfl

theorem tileObl1 : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs_vector1]; simp only [SparseCore.onTile, hci, and_self, ↓reduceDIte]
  exact (C1.tile_body d (coordsV ⟨_, hci.1⟩ ⟨_, hci.2⟩) _ _ _ _ (outAt _ _ 327680) (fun _ => rfl) _ (ext_eq _) _ (extL_eq _)
    (out_fst _ _ 327680 (coordsV ⟨_, hci.1⟩ ⟨_, hci.2⟩)) (out_snd _ _ 327680 (coordsV ⟨_, hci.1⟩ ⟨_, hci.2⟩)) scFacts O W hO).trans (wp_mono frame _ _ fun _ => obl_post)

end Cert.Proof.KI

end
-- ==== Proof.KISplit.lean ====
/-
  The arrays of the two SparseCore calls, whole, against the tiles' shares of them.
-/
module

public import proofs.«01_k».proof.Proof.KIPay
public import Idealize.ShloMosaic.Lib.Pipeline.FrameTail

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F] [Named F]

local notation "𝕄" => MT nD τ sig (HIx 2) (Elt F) ℕ UU ℕ

/-! ## Runs of an array of one axis -/

/-- The places of a run of `n` from `o`. -/
def pSet (o : ℕ) : Finset S983040.Idx := Finset.univ.filter fun j => o ≤ (j 0).val ∧ (j 0).val < o + 2048
def lSet (o : ℕ) : Finset S1048576.Idx := Finset.univ.filter fun j => o ≤ (j 0).val ∧ (j 0).val < o + 2048
def oSet (o : ℕ) : Finset S1024.Idx := Finset.univ.filter fun j => o ≤ (j 0).val ∧ (j 0).val < o + 16

theorem mem_pSet {o : ℕ} {j : S983040.Idx} : j ∈ pSet o ↔ o ≤ (j 0).val ∧ (j 0).val < o + 2048 := by simp [pSet]
theorem mem_lSet {o : ℕ} {j : S1048576.Idx} : j ∈ lSet o ↔ o ≤ (j 0).val ∧ (j 0).val < o + 2048 := by simp [lSet]
theorem mem_oSet {o : ℕ} {j : S1024.Idx} : j ∈ oSet o ↔ o ≤ (j 0).val ∧ (j 0).val < o + 16 := by simp [oSet]

theorem pRun (o : Fin 1 → ℕ) (n : ℕ) (ho : o = ![n]) (h : ∀ a, o a + S2048.size a ≤ S983040.size a) : (Rect.unit (s := S983040) o S2048.size h).set = pSet n := by
  subst ho
  ext j
  rw [Rect.mem_set_unit, mem_pSet]
  exact ⟨fun h => h 0, fun h a => by fin_cases a; exact h⟩
theorem lRun (o : Fin 1 → ℕ) (n : ℕ) (ho : o = ![n]) (h : ∀ a, o a + S2048.size a ≤ S1048576.size a) : (Rect.unit (s := S1048576) o S2048.size h).set = lSet n := by
  subst ho
  ext j
  rw [Rect.mem_set_unit, mem_lSet]
  exact ⟨fun h => h 0, fun h a => by fin_cases a; exact h⟩
theorem oRun (o : Fin 1 → ℕ) (n : ℕ) (ho : o = ![n]) (h : ∀ a, o a + S16.size a ≤ S1024.size a) : (Rect.unit (s := S1024) o S16.size h).set = oSet n := by
  subst ho
  ext j
  rw [Rect.mem_set_unit, mem_oSet]
  exact ⟨fun h => h 0, fun h a => by fin_cases a; exact h⟩

/-- A class, a core, a subcore and a chunk; a core, a subcore and a half. -/
abbrev IP : Type := Fin 2 × Fin 16 × Fin 5 × Fin 3
abbrev IL : Type := Fin 2 × Fin 16 × Fin 5
abbrev IO : Type := Fin 2 × Fin 16 × Fin 2

def pOff (x : IP) : ℕ := 327680 * x.2.2.2.val + 20480 * x.2.1.val + 10240 * x.1.val + 2048 * x.2.2.1.val
def lOff (base : ℕ) (x : IL) : ℕ := 20480 * x.2.1.val + 10240 * x.1.val + 2048 * x.2.2.val + base
def oOff (x : IO) : ℕ := 32 * x.2.1.val + 16 * x.1.val + 512 * x.2.2.val

theorem p_disjoint : ∀ x ∈ (Finset.univ : Finset IP), ∀ y ∈ (Finset.univ : Finset IP), x ≠ y → Disjoint (pSet (pOff x)) (pSet (pOff y)) := by
  intro ⟨c, i, k, l⟩ _ ⟨c', i', k', l'⟩ _ hne
  rw [Finset.disjoint_left]
  intro j hj hj'
  rw [mem_pSet] at hj hj'
  simp only [pOff] at hj hj'
  refine hne ?_
  have := c.isLt; have := c'.isLt; have := i.isLt; have := i'.isLt; have := k.isLt; have := k'.isLt; have := l.isLt; have := l'.isLt
  have hl : l.val = l'.val := by omega
  have hi : i.val = i'.val := by omega
  have hc : c.val = c'.val := by omega
  have hk : k.val = k'.val := by omega
  rw [Fin.ext hc, Fin.ext hi, Fin.ext hk, Fin.ext hl]
theorem l_disjoint (base : ℕ) : ∀ x ∈ (Finset.univ : Finset IL), ∀ y ∈ (Finset.univ : Finset IL), x ≠ y → Disjoint (lSet (lOff base x)) (lSet (lOff base y)) := by
  intro ⟨c, i, k⟩ _ ⟨c', i', k'⟩ _ hne
  rw [Finset.disjoint_left]
  intro j hj hj'
  rw [mem_lSet] at hj hj'
  simp only [lOff] at hj hj'
  refine hne ?_
  have := c.isLt; have := c'.isLt; have := i.isLt; have := i'.isLt; have := k.isLt; have := k'.isLt
  have hi : i.val = i'.val := by omega
  have hc : c.val = c'.val := by omega
  have hk : k.val = k'.val := by omega
  rw [Fin.ext hc, Fin.ext hi, Fin.ext hk]
theorem o_disjoint : ∀ x ∈ (Finset.univ : Finset IO), ∀ y ∈ (Finset.univ : Finset IO), x ≠ y → Disjoint (oSet (oOff x)) (oSet (oOff y)) := by
  intro ⟨c, i, k⟩ _ ⟨c', i', k'⟩ _ hne
  rw [Finset.disjoint_left]
  intro j hj hj'
  rw [mem_oSet] at hj hj'
  simp only [oOff] at hj hj'
  refine hne ?_
  have := c.isLt; have := c'.isLt; have := i.isLt; have := i'.isLt; have := k.isLt; have := k'.isLt
  have hk : k.val = k'.val := by omega
  have hi : i.val = i'.val := by omega
  have hc : c.val = c'.val := by omega
  rw [Fin.ext hc, Fin.ext hi, Fin.ext hk]

theorem p_cover : (Finset.univ : Finset IP).biUnion (fun x => pSet (pOff x)) = Finset.univ := by
  refine Finset.eq_univ_iff_forall.mpr fun j => ?_
  have hj : (j 0).val < 983040 := (j 0).isLt
  refine Finset.mem_biUnion.mpr ⟨(⟨(j 0).val % 20480 / 10240, by omega⟩, ⟨(j 0).val % 327680 / 20480, by omega⟩, ⟨(j 0).val % 10240 / 2048, by omega⟩, ⟨(j 0).val / 327680, by omega⟩), Finset.mem_univ _, ?_⟩
  rw [mem_pSet]; simp only [pOff]; omega
theorem o_cover : (Finset.univ : Finset IO).biUnion (fun x => oSet (oOff x)) = Finset.univ := by
  refine Finset.eq_univ_iff_forall.mpr fun j => ?_
  have hj : (j 0).val < 1024 := (j 0).isLt
  refine Finset.mem_biUnion.mpr ⟨(⟨(j 0).val % 32 / 16, by omega⟩, ⟨(j 0).val % 512 / 32, by omega⟩, ⟨(j 0).val / 512, by omega⟩), Finset.mem_univ _, ?_⟩
  rw [mem_oSet]; simp only [oOff]; omega

/-- The labels a call's tiles read. -/
def lAll (base : ℕ) : Finset S1048576.Idx := (Finset.univ : Finset IL).biUnion fun x => lSet (lOff base x)

theorem sep_assoc_eq' (A B C : sProp 𝕄) : iprop((A ∗ B) ∗ C) = iprop(A ∗ B ∗ C) := BI.Entails.antisymm BI.sep_assoc BI.sep_assoc'
theorem sep_comm_eq' (A B : sProp 𝕄) : iprop(A ∗ B) = iprop(B ∗ A) := BI.Entails.antisymm BI.sep_comm BI.sep_comm

theorem bigSep_head {n : ℕ} (Φ : Fin (n + 1) → sProp 𝕄) : bigSep Finset.univ Φ = iprop(Φ 0 ∗ bigSep Finset.univ fun k : Fin n => Φ k.succ) := by
  rw [Fin.univ_succ, Finset.cons_eq_insert, SparseCore.bigSep_insert' (by simp), BI.bigSep_map]; rfl
theorem bigSep_two (Φ : Fin 2 → sProp 𝕄) : bigSep Finset.univ Φ = iprop(Φ 0 ∗ Φ 1) := by
  rw [bigSep_head, bigSep_univ_of_subsingleton (0 : Fin 1)]; rfl
theorem bigSep_three (Φ : Fin 3 → sProp 𝕄) : bigSep Finset.univ Φ = iprop(Φ 0 ∗ Φ 1 ∗ Φ 2) := by
  rw [bigSep_head, bigSep_two]; rfl
theorem bigSep_five (Φ : Fin 5 → sProp 𝕄) : bigSep Finset.univ Φ = iprop(Φ 0 ∗ Φ 1 ∗ Φ 2 ∗ Φ 3 ∗ Φ 4) := by
  rw [bigSep_head, bigSep_head, bigSep_three]; rfl

variable (d : Dev nD)

/-- A buffer of the device, whole, and a part of it. -/
abbrev dl (b : Ref sig .tc) : Loc nD τ sig := (d, Proc.devRef .tc b)

/-! ## Call 0's arrays -/

section Call0

variable (fa : Buf (Elt F) (dl d main_v2)) (fb : Buf (Elt F) (dl d main_arg1)) (fo : Buf (Elt F) (dl d main_v3))

theorem pPts0 (c : Fin 2) (i : Fin 16) (k : Fin 5) (l : Fin 3) (o : Fin 1 → ℕ) (h : ∀ a, o a + S2048.size a ≤ S983040.size a) (ho : o = ![327680 * l.val + 20480 * i.val + 10240 * c.val + 2048 * k.val]) :
    (C0.pPts d (co c i) fa o h : sProp 𝕄) = (dl d main_v2 ↦[pSet (pOff (c, i, k, l))]{fullShare} fa) := by
  unfold C0.pPts
  rw [show (C0.pWin o h).view.set = pSet (pOff (c, i, k, l)) from (View.set_slice_whole _ _).trans (pRun o _ ho h)]
theorem lPts0 (c : Fin 2) (i : Fin 16) (k : Fin 5) (o : Fin 1 → ℕ) (h : ∀ a, o a + S2048.size a ≤ S1048576.size a) (ho : o = ![20480 * i.val + 10240 * c.val + 2048 * k.val + 0]) :
    (C0.lPts d (co c i) fb o h : sProp 𝕄) = (dl d main_arg1 ↦[lSet (lOff 0 (c, i, k))]{fullShare} fb) := by
  unfold C0.lPts
  rw [show (C0.lWin o h).view.set = lSet (lOff 0 (c, i, k)) from (View.set_slice_whole _ _).trans (lRun o _ ho h)]
theorem chunkPts0 (c : Fin 2) (i : Fin 16) (k : Fin 5) :
    (C0.chunkPts d (co c i) fa fb (BitVec.ofNat 32 (2048 * k.val)) (k0_off1_inb (co c i) 0 k) (k0_off1_inb (co c i) 1 k) (k0_off1_inb (co c i) 2 k) (k0_off2_inb (co c i) k) : sProp 𝕄)
      = iprop((bigSep Finset.univ fun l : Fin 3 => dl d main_v2 ↦[pSet (pOff (c, i, k, l))]{fullShare} fa) ∗ (dl d main_arg1 ↦[lSet (lOff 0 (c, i, k))]{fullShare} fb)) := by
  unfold C0.chunkPts
  have e0 := pPts0 d fa c i k 0 (k0_off1 (co c i) 0#32 (BitVec.ofNat 32 (2048 * k.val))) (k0_off1_inb (co c i) 0 k) (k0_off1_eq (co c i) 0 k)
  have e1 := pPts0 d fa c i k 1 (k0_off1 (co c i) 327680#32 (BitVec.ofNat 32 (2048 * k.val))) (k0_off1_inb (co c i) 1 k) (k0_off1_eq (co c i) 1 k)
  have e2 := pPts0 d fa c i k 2 (k0_off1 (co c i) 655360#32 (BitVec.ofNat 32 (2048 * k.val))) (k0_off1_inb (co c i) 2 k) (k0_off1_eq (co c i) 2 k)
  rw [e0, e1, e2, lPts0 d fb c i k _ _ (k0_off2_eq (co c i) k), bigSep_three, sep_assoc_eq', sep_assoc_eq']
theorem tilePts0 (c : Fin 2) (i : Fin 16) :
    (C0.tilePts d (co c i) fa fb fo : sProp 𝕄)
      = iprop(((bigSep Finset.univ fun k : Fin 5 => bigSep Finset.univ fun l : Fin 3 => dl d main_v2 ↦[pSet (pOff (c, i, k, l))]{fullShare} fa)
          ∗ (bigSep Finset.univ fun k : Fin 5 => dl d main_arg1 ↦[lSet (lOff 0 (c, i, k))]{fullShare} fb))
        ∗ (bigSep Finset.univ fun h : Fin 2 => dl d main_v3 ↦[oSet (oOff (c, i, h))]{fullShare} fo)) := by
  rw [← bigSep_sep', bigSep_five, bigSep_two]
  unfold C0.tilePts
  rw [show (C0.oWin (co c i)).view.set = oSet (oOff (c, i, 0)) from (View.set_slice_whole _ _).trans (oRun _ _ (k0_off13_eq (co c i)) _),
    show (C0.oWin' (co c i)).view.set = oSet (oOff (c, i, 1)) from (View.set_slice_whole _ _).trans (oRun _ _ (k0_off14_eq (co c i)) _)]
  rw [show (C0.chunkPts d (co c i) fa fb 0#32 (k0_off1_inb (co c i) 0 0) (k0_off1_inb (co c i) 1 0) (k0_off1_inb (co c i) 2 0) (k0_off2_inb (co c i) 0) : sProp 𝕄) = _ from chunkPts0 d fa fb c i 0,
    show (C0.chunkPts d (co c i) fa fb 2048#32 (k0_off1_inb (co c i) 0 1) (k0_off1_inb (co c i) 1 1) (k0_off1_inb (co c i) 2 1) (k0_off2_inb (co c i) 1) : sProp 𝕄) = _ from chunkPts0 d fa fb c i 1,
    show (C0.chunkPts d (co c i) fa fb 4096#32 (k0_off1_inb (co c i) 0 2) (k0_off1_inb (co c i) 1 2) (k0_off1_inb (co c i) 2 2) (k0_off2_inb (co c i) 2) : sProp 𝕄) = _ from chunkPts0 d fa fb c i 2,
    show (C0.chunkPts d (co c i) fa fb 6144#32 (k0_off1_inb (co c i) 0 3) (k0_off1_inb (co c i) 1 3) (k0_off1_inb (co c i) 2 3) (k0_off2_inb (co c i) 3) : sProp 𝕄) = _ from chunkPts0 d fa fb c i 3,
    show (C0.chunkPts d (co c i) fa fb 8192#32 (k0_off1_inb (co c i) 0 4) (k0_off1_inb (co c i) 1 4) (k0_off1_inb (co c i) 2 4) (k0_off2_inb (co c i) 4) : sProp 𝕄) = _ from chunkPts0 d fa fb c i 4]
  simp only [sep_assoc_eq']

theorem pWhole0 : (dl d main_v2 ↦{fullShare} fa : sProp 𝕄)
    = bigSep Finset.univ fun c : Fin 2 => bigSep Finset.univ fun i : Fin 16 => bigSep Finset.univ fun k : Fin 5 => bigSep Finset.univ fun l : Fin 3 => dl d main_v2 ↦[pSet (pOff (c, i, k, l))]{fullShare} fa := by
  have h : (dl d main_v2 ↦{fullShare} fa : sProp 𝕄) = bigSep Finset.univ fun x : IP => dl d main_v2 ↦[pSet (pOff x)]{fullShare} fa := by
    rw [← pointsTo_biUnion (ℓ := dl d main_v2) Finset.univ (fun x : IP => pSet (pOff x)) p_disjoint, p_cover]
  rw [h, bigSep_univ_prod]
  refine bigSep_congr fun c _ => ?_
  rw [bigSep_univ_prod]
  refine bigSep_congr fun i _ => ?_
  rw [bigSep_univ_prod]
theorem oWhole0 : (dl d main_v3 ↦{fullShare} fo : sProp 𝕄)
    = bigSep Finset.univ fun c : Fin 2 => bigSep Finset.univ fun i : Fin 16 => bigSep Finset.univ fun h : Fin 2 => dl d main_v3 ↦[oSet (oOff (c, i, h))]{fullShare} fo := by
  have h : (dl d main_v3 ↦{fullShare} fo : sProp 𝕄) = bigSep Finset.univ fun x : IO => dl d main_v3 ↦[oSet (oOff x)]{fullShare} fo := by
    rw [← pointsTo_biUnion (ℓ := dl d main_v3) Finset.univ (fun x : IO => oSet (oOff x)) o_disjoint, o_cover]
  rw [h, bigSep_univ_prod]
  refine bigSep_congr fun c _ => ?_
  rw [bigSep_univ_prod]
theorem lWhole0 : (dl d main_arg1 ↦{fullShare} fb : sProp 𝕄)
    = iprop((bigSep Finset.univ fun c : Fin 2 => bigSep Finset.univ fun i : Fin 16 => bigSep Finset.univ fun k : Fin 5 => dl d main_arg1 ↦[lSet (lOff 0 (c, i, k))]{fullShare} fb)
        ∗ (dl d main_arg1 ↦[Finset.univ \ lAll 0]{fullShare} fb)) := by
  have h : (dl d main_arg1 ↦[lAll 0]{fullShare} fb : sProp 𝕄) = bigSep Finset.univ fun x : IL => dl d main_arg1 ↦[lSet (lOff 0 x)]{fullShare} fb := by
    unfold lAll
    rw [← pointsTo_biUnion (ℓ := dl d main_arg1) Finset.univ (fun x : IL => lSet (lOff 0 x)) (l_disjoint 0)]
  refine (BI.Entails.antisymm (pointsTo_split_subset (Finset.subset_univ (lAll 0))).1 (pointsTo_split_subset (Finset.subset_univ (lAll 0))).2).trans ?_
  rw [h, bigSep_univ_prod]
  refine congrArg (fun X => iprop(X ∗ _)) (bigSep_congr fun c _ => ?_)
  rw [bigSep_univ_prod]

/-- The three arrays whole are the tiles' shares of them and the labels no tile reads. -/
theorem call_eq0 : (iprop((dl d main_v2 ↦{fullShare} fa) ∗ (dl d main_arg1 ↦{fullShare} fb) ∗ (dl d main_v3 ↦{fullShare} fo)) : sProp 𝕄)
    = iprop((bigSep Finset.univ fun c : Fin 2 => bigSep Finset.univ fun i : Fin 16 => C0.tilePts d (co c i) fa fb fo)
        ∗ (dl d main_arg1 ↦[Finset.univ \ lAll 0]{fullShare} fb)) := by
  have h : (bigSep Finset.univ fun c : Fin 2 => bigSep Finset.univ fun i : Fin 16 => (C0.tilePts d (co c i) fa fb fo : sProp 𝕄))
      = iprop(((bigSep Finset.univ fun c : Fin 2 => bigSep Finset.univ fun i : Fin 16 => bigSep Finset.univ fun k : Fin 5 => bigSep Finset.univ fun l : Fin 3 => dl d main_v2 ↦[pSet (pOff (c, i, k, l))]{fullShare} fa)
          ∗ (bigSep Finset.univ fun c : Fin 2 => bigSep Finset.univ fun i : Fin 16 => bigSep Finset.univ fun k : Fin 5 => dl d main_arg1 ↦[lSet (lOff 0 (c, i, k))]{fullShare} fb))
        ∗ (bigSep Finset.univ fun c : Fin 2 => bigSep Finset.univ fun i : Fin 16 => bigSep Finset.univ fun h : Fin 2 => dl d main_v3 ↦[oSet (oOff (c, i, h))]{fullShare} fo)) := by
    rw [← bigSep_sep', ← bigSep_sep']
    refine bigSep_congr fun c _ => ?_
    rw [← bigSep_sep', ← bigSep_sep']
    exact bigSep_congr fun i _ => tilePts0 d fa fb fo c i
  rw [h, ← pWhole0, ← oWhole0, lWhole0, sep_assoc_eq', sep_assoc_eq', sep_assoc_eq']
  exact congrArg (fun X => iprop(_ ∗ _ ∗ X)) (sep_comm_eq' _ _)

end Call0

/-! ## Call 1's arrays -/

section Call1

variable (fa : Buf (Elt F) (dl d main_v5)) (fb : Buf (Elt F) (dl d main_arg1)) (fo : Buf (Elt F) (dl d main_v6))

theorem pPts1 (c : Fin 2) (i : Fin 16) (k : Fin 5) (l : Fin 3) (o : Fin 1 → ℕ) (h : ∀ a, o a + S2048.size a ≤ S983040.size a) (ho : o = ![327680 * l.val + 20480 * i.val + 10240 * c.val + 2048 * k.val]) :
    (C1.pPts d (co c i) fa o h : sProp 𝕄) = (dl d main_v5 ↦[pSet (pOff (c, i, k, l))]{fullShare} fa) := by
  unfold C1.pPts
  rw [show (C1.pWin o h).view.set = pSet (pOff (c, i, k, l)) from (View.set_slice_whole _ _).trans (pRun o _ ho h)]
theorem lPts1 (c : Fin 2) (i : Fin 16) (k : Fin 5) (o : Fin 1 → ℕ) (h : ∀ a, o a + S2048.size a ≤ S1048576.size a) (ho : o = ![20480 * i.val + 10240 * c.val + 2048 * k.val + 327680]) :
    (C1.lPts d (co c i) fb o h : sProp 𝕄) = (dl d main_arg1 ↦[lSet (lOff 327680 (c, i, k))]{fullShare} fb) := by
  unfold C1.lPts
  rw [show (C1.lWin o h).view.set = lSet (lOff 327680 (c, i, k)) from (View.set_slice_whole _ _).trans (lRun o _ ho h)]
theorem chunkPts1 (c : Fin 2) (i : Fin 16) (k : Fin 5) :
    (C1.chunkPts d (co c i) fa fb (BitVec.ofNat 32 (2048 * k.val)) (k1_off1_inb (co c i) 0 k) (k1_off1_inb (co c i) 1 k) (k1_off1_inb (co c i) 2 k) (k1_off2_inb (co c i) k) : sProp 𝕄)
      = iprop((bigSep Finset.univ fun l : Fin 3 => dl d main_v5 ↦[pSet (pOff (c, i, k, l))]{fullShare} fa) ∗ (dl d main_arg1 ↦[lSet (lOff 327680 (c, i, k))]{fullShare} fb)) := by
  unfold C1.chunkPts
  have e0 := pPts1 d fa c i k 0 (k1_off1 (co c i) 0#32 (BitVec.ofNat 32 (2048 * k.val))) (k1_off1_inb (co c i) 0 k) (k1_off1_eq (co c i) 0 k)
  have e1 := pPts1 d fa c i k 1 (k1_off1 (co c i) 327680#32 (BitVec.ofNat 32 (2048 * k.val))) (k1_off1_inb (co c i) 1 k) (k1_off1_eq (co c i) 1 k)
  have e2 := pPts1 d fa c i k 2 (k1_off1 (co c i) 655360#32 (BitVec.ofNat 32 (2048 * k.val))) (k1_off1_inb (co c i) 2 k) (k1_off1_eq (co c i) 2 k)
  rw [e0, e1, e2, lPts1 d fb c i k _ _ (k1_off2_eq (co c i) k), bigSep_three, sep_assoc_eq', sep_assoc_eq']
theorem tilePts1 (c : Fin 2) (i : Fin 16) :
    (C1.tilePts d (co c i) fa fb fo : sProp 𝕄)
      = iprop(((bigSep Finset.univ fun k : Fin 5 => bigSep Finset.univ fun l : Fin 3 => dl d main_v5 ↦[pSet (pOff (c, i, k, l))]{fullShare} fa)
          ∗ (bigSep Finset.univ fun k : Fin 5 => dl d main_arg1 ↦[lSet (lOff 327680 (c, i, k))]{fullShare} fb))
        ∗ (bigSep Finset.univ fun h : Fin 2 => dl d main_v6 ↦[oSet (oOff (c, i, h))]{fullShare} fo)) := by
  rw [← bigSep_sep', bigSep_five, bigSep_two]
  unfold C1.tilePts
  rw [show (C1.oWin (co c i)).view.set = oSet (oOff (c, i, 0)) from (View.set_slice_whole _ _).trans (oRun _ _ (k1_off13_eq (co c i)) _),
    show (C1.oWin' (co c i)).view.set = oSet (oOff (c, i, 1)) from (View.set_slice_whole _ _).trans (oRun _ _ (k1_off14_eq (co c i)) _)]
  rw [show (C1.chunkPts d (co c i) fa fb 0#32 (k1_off1_inb (co c i) 0 0) (k1_off1_inb (co c i) 1 0) (k1_off1_inb (co c i) 2 0) (k1_off2_inb (co c i) 0) : sProp 𝕄) = _ from chunkPts1 d fa fb c i 0,
    show (C1.chunkPts d (co c i) fa fb 2048#32 (k1_off1_inb (co c i) 0 1) (k1_off1_inb (co c i) 1 1) (k1_off1_inb (co c i) 2 1) (k1_off2_inb (co c i) 1) : sProp 𝕄) = _ from chunkPts1 d fa fb c i 1,
    show (C1.chunkPts d (co c i) fa fb 4096#32 (k1_off1_inb (co c i) 0 2) (k1_off1_inb (co c i) 1 2) (k1_off1_inb (co c i) 2 2) (k1_off2_inb (co c i) 2) : sProp 𝕄) = _ from chunkPts1 d fa fb c i 2,
    show (C1.chunkPts d (co c i) fa fb 6144#32 (k1_off1_inb (co c i) 0 3) (k1_off1_inb (co c i) 1 3) (k1_off1_inb (co c i) 2 3) (k1_off2_inb (co c i) 3) : sProp 𝕄) = _ from chunkPts1 d fa fb c i 3,
    show (C1.chunkPts d (co c i) fa fb 8192#32 (k1_off1_inb (co c i) 0 4) (k1_off1_inb (co c i) 1 4) (k1_off1_inb (co c i) 2 4) (k1_off2_inb (co c i) 4) : sProp 𝕄) = _ from chunkPts1 d fa fb c i 4]
  simp only [sep_assoc_eq']

theorem pWhole1 : (dl d main_v5 ↦{fullShare} fa : sProp 𝕄)
    = bigSep Finset.univ fun c : Fin 2 => bigSep Finset.univ fun i : Fin 16 => bigSep Finset.univ fun k : Fin 5 => bigSep Finset.univ fun l : Fin 3 => dl d main_v5 ↦[pSet (pOff (c, i, k, l))]{fullShare} fa := by
  have h : (dl d main_v5 ↦{fullShare} fa : sProp 𝕄) = bigSep Finset.univ fun x : IP => dl d main_v5 ↦[pSet (pOff x)]{fullShare} fa := by
    rw [← pointsTo_biUnion (ℓ := dl d main_v5) Finset.univ (fun x : IP => pSet (pOff x)) p_disjoint, p_cover]
  rw [h, bigSep_univ_prod]
  refine bigSep_congr fun c _ => ?_
  rw [bigSep_univ_prod]
  refine bigSep_congr fun i _ => ?_
  rw [bigSep_univ_prod]
theorem oWhole1 : (dl d main_v6 ↦{fullShare} fo : sProp 𝕄)
    = bigSep Finset.univ fun c : Fin 2 => bigSep Finset.univ fun i : Fin 16 => bigSep Finset.univ fun h : Fin 2 => dl d main_v6 ↦[oSet (oOff (c, i, h))]{fullShare} fo := by
  have h : (dl d main_v6 ↦{fullShare} fo : sProp 𝕄) = bigSep Finset.univ fun x : IO => dl d main_v6 ↦[oSet (oOff x)]{fullShare} fo := by
    rw [← pointsTo_biUnion (ℓ := dl d main_v6) Finset.univ (fun x : IO => oSet (oOff x)) o_disjoint, o_cover]
  rw [h, bigSep_univ_prod]
  refine bigSep_congr fun c _ => ?_
  rw [bigSep_univ_prod]
theorem lWhole1 : (dl d main_arg1 ↦{fullShare} fb : sProp 𝕄)
    = iprop((bigSep Finset.univ fun c : Fin 2 => bigSep Finset.univ fun i : Fin 16 => bigSep Finset.univ fun k : Fin 5 => dl d main_arg1 ↦[lSet (lOff 327680 (c, i, k))]{fullShare} fb)
        ∗ (dl d main_arg1 ↦[Finset.univ \ lAll 327680]{fullShare} fb)) := by
  have h : (dl d main_arg1 ↦[lAll 327680]{fullShare} fb : sProp 𝕄) = bigSep Finset.univ fun x : IL => dl d main_arg1 ↦[lSet (lOff 327680 x)]{fullShare} fb := by
    unfold lAll
    rw [← pointsTo_biUnion (ℓ := dl d main_arg1) Finset.univ (fun x : IL => lSet (lOff 327680 x)) (l_disjoint 327680)]
  refine (BI.Entails.antisymm (pointsTo_split_subset (Finset.subset_univ (lAll 327680))).1 (pointsTo_split_subset (Finset.subset_univ (lAll 327680))).2).trans ?_
  rw [h, bigSep_univ_prod]
  refine congrArg (fun X => iprop(X ∗ _)) (bigSep_congr fun c _ => ?_)
  rw [bigSep_univ_prod]

/-- The three arrays whole are the tiles' shares of them and the labels no tile reads. -/
theorem call_eq1 : (iprop((dl d main_v5 ↦{fullShare} fa) ∗ (dl d main_arg1 ↦{fullShare} fb) ∗ (dl d main_v6 ↦{fullShare} fo)) : sProp 𝕄)
    = iprop((bigSep Finset.univ fun c : Fin 2 => bigSep Finset.univ fun i : Fin 16 => C1.tilePts d (co c i) fa fb fo)
        ∗ (dl d main_arg1 ↦[Finset.univ \ lAll 327680]{fullShare} fb)) := by
  have h : (bigSep Finset.univ fun c : Fin 2 => bigSep Finset.univ fun i : Fin 16 => (C1.tilePts d (co c i) fa fb fo : sProp 𝕄))
      = iprop(((bigSep Finset.univ fun c : Fin 2 => bigSep Finset.univ fun i : Fin 16 => bigSep Finset.univ fun k : Fin 5 => bigSep Finset.univ fun l : Fin 3 => dl d main_v5 ↦[pSet (pOff (c, i, k, l))]{fullShare} fa)
          ∗ (bigSep Finset.univ fun c : Fin 2 => bigSep Finset.univ fun i : Fin 16 => bigSep Finset.univ fun k : Fin 5 => dl d main_arg1 ↦[lSet (lOff 327680 (c, i, k))]{fullShare} fb))
        ∗ (bigSep Finset.univ fun c : Fin 2 => bigSep Finset.univ fun i : Fin 16 => bigSep Finset.univ fun h : Fin 2 => dl d main_v6 ↦[oSet (oOff (c, i, h))]{fullShare} fo)) := by
    rw [← bigSep_sep', ← bigSep_sep']
    refine bigSep_congr fun c _ => ?_
    rw [← bigSep_sep', ← bigSep_sep']
    exact bigSep_congr fun i _ => tilePts1 d fa fb fo c i
  rw [h, ← pWhole1, ← oWhole1, lWhole1, sep_assoc_eq', sep_assoc_eq', sep_assoc_eq']
  exact congrArg (fun X => iprop(_ ∗ _ ∗ X)) (sep_comm_eq' _ _)

end Call1

end Cert.Proof.KI

end
-- ==== Proof.KIReg.lean ====
/-
  The two regions' entry and exit over the held buffers.
-/
module

public import proofs.«01_k».proof.Proof.KIDat
public import Idealize.ShloMosaic.Lib.Pipeline.Frame
public import Idealize.ShloMosaic.Lib.Pipeline.RegionArraysS

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F] [Named F]

local notation "𝕄" => MT nD τ sig (HIx 2) (Elt F) ℕ UU ℕ

variable (d : Dev nD) (W₀ W₁ : Valuation τ sig (Elt F))

theorem arr_sub0 : Pipeline.arrRefs (τ := τ) (pcfgs (F := F) 0).spec ⊆ uc := Pipeline.arrRefs_sub_ucRefs _ (show ∀ w : Fin 4, (Pipeline.arrRef spec2 w).isScoped = false by decide)

set_option backward.isDefEq.respectTransparency.types false in
theorem region_pre0 : iprop(StableHlo.held (d.tc : Thread nD τ) uc W₀ ∗ ((∃ Wd, owes (d.tc : Thread nD τ) (0 : CellTallies nD τ sig (HIx 2)) Wd) ∗ BI.emp ∗ BI.emp)) ⊢ (region2 W₀ W₁).pre d :=
  Pipeline.RegionSeg.ofHeldIn_pre (pcs := pcfgs (F := F)) (a := adm) (pdats := pdats W₀ W₁) (ι := none) (defs₀ := defs₀) (𝒱₀ := 𝒱₀) (L := (K (F := F)).L) (lv := (K (F := F)).lev) (p := 0)
    (D := fun _ => 0) (S := uc) (X := fun _ => BI.emp) (Y := fun _ => BI.emp) (R := fun _ => BI.emp) (W := fun _ => W₀) arr_sub0 d
set_option backward.isDefEq.respectTransparency.types false in
theorem region_post0 : (region2 W₀ W₁).post d
    ⊢ iprop(StableHlo.held (d.tc : Thread nD τ) uc (Pipeline.afterRegion (pdats W₀ W₁ 0 d) W₀) ∗ ((∃ Wd, owes (d.tc : Thread nD τ) (0 : CellTallies nD τ sig (HIx 2)) Wd) ∗ BI.emp ∗ BI.emp)) :=
  Pipeline.RegionSeg.ofHeldIn_post (pcs := pcfgs (F := F)) (a := adm) (pdats := pdats W₀ W₁) (ι := none) (defs₀ := defs₀) (𝒱₀ := 𝒱₀) (L := (K (F := F)).L) (lv := (K (F := F)).lev) (p := 0)
    (D := fun _ => 0) (S := uc) (X := fun _ => BI.emp) (Y := fun _ => BI.emp) (R := fun _ => BI.emp) (W := fun _ => W₀) arr_sub0 d

theorem arr_sub1 : Pipeline.arrRefs (τ := τ) (pcfgs (F := F) 1).spec ⊆ uc := Pipeline.arrRefs_sub_ucRefs _ (show ∀ w : Fin 5, (Pipeline.arrRef spec3 w).isScoped = false by decide)

set_option backward.isDefEq.respectTransparency.types false in
theorem region_pre1 : iprop(StableHlo.held (d.tc : Thread nD τ) uc W₁ ∗ ((∃ Wd, owes (d.tc : Thread nD τ) (0 : CellTallies nD τ sig (HIx 2)) Wd) ∗ BI.emp ∗ BI.emp)) ⊢ (region3 W₀ W₁).pre d :=
  Pipeline.RegionSeg.ofHeldIn_pre (pcs := pcfgs (F := F)) (a := adm) (pdats := pdats W₀ W₁) (ι := none) (defs₀ := defs₀) (𝒱₀ := 𝒱₀) (L := (K (F := F)).L) (lv := (K (F := F)).lev) (p := 1)
    (D := fun _ => 0) (S := uc) (X := fun _ => BI.emp) (Y := fun _ => BI.emp) (R := fun _ => BI.emp) (W := fun _ => W₁) arr_sub1 d
set_option backward.isDefEq.respectTransparency.types false in
theorem region_post1 : (region3 W₀ W₁).post d
    ⊢ iprop(StableHlo.held (d.tc : Thread nD τ) uc (Pipeline.afterRegion (pdats W₀ W₁ 1 d) W₁) ∗ ((∃ Wd, owes (d.tc : Thread nD τ) (0 : CellTallies nD τ sig (HIx 2)) Wd) ∗ BI.emp ∗ BI.emp)) :=
  Pipeline.RegionSeg.ofHeldIn_post (pcs := pcfgs (F := F)) (a := adm) (pdats := pdats W₀ W₁) (ι := none) (defs₀ := defs₀) (𝒱₀ := 𝒱₀) (L := (K (F := F)).L) (lv := (K (F := F)).lev) (p := 1)
    (D := fun _ => 0) (S := uc) (X := fun _ => BI.emp) (Y := fun _ => BI.emp) (R := fun _ => BI.emp) (W := fun _ => W₁) arr_sub1 d

end Cert.Proof.KI

end
-- ==== Proof.KIMain.lean ====
/-
  @main on the TensorCore: the host operations, the two SparseCore calls and the two regions, and the launch.
-/
module

public import proofs.«01_k».proof.Proof.KISplit
public import proofs.«01_k».proof.Proof.KIReg

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F] [Named F]

local notation "𝕄" => MT nD τ sig (HIx 2) (Elt F) ℕ UU ℕ

variable (m : (ℓ : Loc nD τ sig) → Buf (Elt F) ℓ) (ρ : Dev nD → PrngReg) (d : Dev nD)

/-- The arrays after the focal region, before and after the reduction, and at the end. -/
def V6 : Valuation τ sig (Elt F) := Pipeline.afterRegion (dat2 (V5 m d) d) (V5 m d)
def V7 : Valuation τ sig (Elt F) := opG.result (opF.result (V6 m d))
def V8 : Valuation τ sig (Elt F) := Pipeline.afterRegion (dat3 (V7 m d) d) (V7 m d)
def V9 : Valuation τ sig (Elt F) := opH.result (V8 m d)

/-! ## The two SparseCore calls -/

theorem uc_of (b : Ref sig .tc) (hb : b.isScoped = false) : (Proc.devRef .tc b : DevRef τ sig) ∈ uc := Pipeline.devRef_mem_ucRefs hb

/-- Three buffers out of the device's. -/
theorem held_three (a b c : Ref sig .tc) (ha : a.isScoped = false) (hb : b.isScoped = false) (hc : c.isScoped = false) (hab : a ≠ b) (hac : a ≠ c) (hbc : b ≠ c)
    (W : Valuation τ sig (Elt F)) :
    (StableHlo.held (T d) uc W : sProp 𝕄) = iprop(((dl d a ↦{fullShare} W (Proc.devRef .tc a)) ∗ (dl d b ↦{fullShare} W (Proc.devRef .tc b)) ∗ (dl d c ↦{fullShare} W (Proc.devRef .tc c)))
      ∗ StableHlo.held (T d) (uc \ {Proc.devRef .tc a, Proc.devRef .tc b, Proc.devRef .tc c}) W) := by
  have hS : ({Proc.devRef .tc a, Proc.devRef .tc b, Proc.devRef .tc c} : Finset (DevRef τ sig)) ⊆ uc := by
    intro x hx
    simp only [Finset.mem_insert, Finset.mem_singleton] at hx
    rcases hx with rfl | rfl | rfl
    · exact uc_of a ha
    · exact uc_of b hb
    · exact uc_of c hc
  rw [StableHlo.held_sub_split (T d) hS W]
  refine congrArg (fun X => iprop(X ∗ _)) ?_
  unfold StableHlo.held
  rw [SparseCore.bigSep_insert' (by
      simp only [Finset.mem_insert, Finset.mem_singleton, not_or]
      exact ⟨StableHlo.devRef_ne_of_ne hab, StableHlo.devRef_ne_of_ne hac⟩),
    SparseCore.bigSep_insert' (by
      simp only [Finset.mem_singleton]
      exact StableHlo.devRef_ne_of_ne hbc), bigSep_singleton]

theorem held_rest (a b c : Ref sig .tc) (W : Valuation τ sig (Elt F)) (x) :
    (StableHlo.held (T d) (uc \ {Proc.devRef .tc a, Proc.devRef .tc b, Proc.devRef .tc c}) (Function.update W (Proc.devRef .tc c) x) : sProp 𝕄)
      = StableHlo.held (T d) (uc \ {Proc.devRef .tc a, Proc.devRef .tc b, Proc.devRef .tc c}) W :=
  StableHlo.held_congr (T d) fun y hy => Function.update_of_ne (fun e => (Finset.mem_sdiff.mp hy).2 (by rw [e]; simp)) _ _

theorem go_eq0 : (bigSep Finset.univ fun c : Fin 2 => bigSep Finset.univ fun i : Fin 16 => (C0.tilePts d (co c i) (V1 m d (Proc.devRef .tc main_v2)) (V1 m d (Proc.devRef .tc main_arg1)) (V1 m d (Proc.devRef .tc main_v3)) : sProp 𝕄))
    = bigSep Finset.univ fun c : Fin ((K (F := F)).nCore 0) => (P m).st 0 d c := by
  rw [st_eq]; exact bigSep_congr fun c _ => bigSep_congr fun i _ => by rw [show goQ m d 0 c i = go0 m d c i from rfl]; unfold go0; rfl
theorem td_eq0 : (bigSep Finset.univ fun c : Fin 2 => bigSep Finset.univ fun i : Fin 16 => (C0.tilePts d (co c i) (V1 m d (Proc.devRef .tc main_v2)) (V1 m d (Proc.devRef .tc main_arg1)) (outOf (V1 m d (Proc.devRef .tc main_v2)) (V1 m d (Proc.devRef .tc main_arg1)) 0) : sProp 𝕄))
    = bigSep Finset.univ fun c : Fin ((K (F := F)).nCore 0) => (P m).dn 0 d c := by
  rw [dn_eq]; exact bigSep_congr fun c _ => bigSep_congr fun i _ => by rw [show tdQ m d 0 c i = td0 m d c i from rfl]; unfold td0; rfl
theorem call_step0 (κ : GSem nD τ sig → ℕ) (Φ : PUnit → sProp 𝕄) :
    iprop((K (F := F)).ctx EH (P m) κ ∗ (K (F := F)).tcSt EH d 0 ∗ StableHlo.held (T d) uc (V1 m d) ∗ (((K (F := F)).tcSt EH d 1 ∗ StableHlo.held (T d) uc (V2 m d)) -∗ Φ ⟨⟩))
      ⊢ wp frame (wpE ((K (F := F)).defs (D (F := F))) 𝒱 (T d) none) Set.univ ((K (F := F)).run d 0) Φ := by
  have hA : (StableHlo.held (T d) uc (V1 m d) : sProp 𝕄) = _ := held_three d main_v2 main_arg1 main_v3 rfl rfl rfl (by decide) (by decide) (by decide) (V1 m d)
  have hB : (StableHlo.held (T d) uc (V2 m d) : sProp 𝕄) = _ := held_three d main_v2 main_arg1 main_v3 rfl rfl rfl (by decide) (by decide) (by decide) (V2 m d)
  have e1 : V2 m d (Proc.devRef .tc main_v2) = V1 m d (Proc.devRef .tc main_v2) := Function.update_of_ne (StableHlo.devRef_ne_of_ne (by decide)) _ _
  have e2 : V2 m d (Proc.devRef .tc main_arg1) = V1 m d (Proc.devRef .tc main_arg1) := Function.update_of_ne (StableHlo.devRef_ne_of_ne (by decide)) _ _
  have e3 : V2 m d (Proc.devRef .tc main_v3) = outOf (V1 m d (Proc.devRef .tc main_v2)) (V1 m d (Proc.devRef .tc main_arg1)) 0 := Function.update_self _ _ _
  have e4 : (StableHlo.held (T d) (uc \ {Proc.devRef .tc main_v2, Proc.devRef .tc main_arg1, Proc.devRef .tc main_v3}) (V2 m d) : sProp 𝕄) = _ := held_rest d main_v2 main_arg1 main_v3 (V1 m d) _
  rw [hA, hB, e1, e2, e3, e4, call_eq0, call_eq0, go_eq0, td_eq0]
  iintro ⟨#Hctx, Hst, ⟨⟨Ht, Hl⟩, Hr⟩, Hk⟩
  iapply ((K (F := F)).wp_run (D (F := F)) 𝒱 (EH := EH) (P := P m) κ d 0)
  isplitr; · iexact Hctx
  isplitl [Hst]; · iexact Hst
  isplitl [Ht]; · iexact Ht
  iintro ⟨Hst, Hd⟩
  iapply Hk
  isplitl [Hst]; · iexact Hst
  isplitl [Hd Hl]
  · isplitl [Hd]; · iexact Hd
    iexact Hl
  iexact Hr

theorem go_eq1 : (bigSep Finset.univ fun c : Fin 2 => bigSep Finset.univ fun i : Fin 16 => (C1.tilePts d (co c i) (V3 m d (Proc.devRef .tc main_v5)) (V3 m d (Proc.devRef .tc main_arg1)) (V3 m d (Proc.devRef .tc main_v6)) : sProp 𝕄))
    = bigSep Finset.univ fun c : Fin ((K (F := F)).nCore 1) => (P m).st 1 d c := by
  rw [st_eq]; exact bigSep_congr fun c _ => bigSep_congr fun i _ => by rw [show goQ m d 1 c i = go1 m d c i from rfl]; unfold go1; rfl
theorem td_eq1 : (bigSep Finset.univ fun c : Fin 2 => bigSep Finset.univ fun i : Fin 16 => (C1.tilePts d (co c i) (V3 m d (Proc.devRef .tc main_v5)) (V3 m d (Proc.devRef .tc main_arg1)) (outOf (V3 m d (Proc.devRef .tc main_v5)) (V3 m d (Proc.devRef .tc main_arg1)) 327680) : sProp 𝕄))
    = bigSep Finset.univ fun c : Fin ((K (F := F)).nCore 1) => (P m).dn 1 d c := by
  rw [dn_eq]; exact bigSep_congr fun c _ => bigSep_congr fun i _ => by rw [show tdQ m d 1 c i = td1 m d c i from rfl]; unfold td1; rfl
theorem call_step1 (κ : GSem nD τ sig → ℕ) (Φ : PUnit → sProp 𝕄) :
    iprop((K (F := F)).ctx EH (P m) κ ∗ (K (F := F)).tcSt EH d 1 ∗ StableHlo.held (T d) uc (V3 m d) ∗ (((K (F := F)).tcSt EH d 2 ∗ StableHlo.held (T d) uc (V4 m d)) -∗ Φ ⟨⟩))
      ⊢ wp frame (wpE ((K (F := F)).defs (D (F := F))) 𝒱 (T d) none) Set.univ ((K (F := F)).run d 1) Φ := by
  have hA : (StableHlo.held (T d) uc (V3 m d) : sProp 𝕄) = _ := held_three d main_v5 main_arg1 main_v6 rfl rfl rfl (by decide) (by decide) (by decide) (V3 m d)
  have hB : (StableHlo.held (T d) uc (V4 m d) : sProp 𝕄) = _ := held_three d main_v5 main_arg1 main_v6 rfl rfl rfl (by decide) (by decide) (by decide) (V4 m d)
  have e1 : V4 m d (Proc.devRef .tc main_v5) = V3 m d (Proc.devRef .tc main_v5) := Function.update_of_ne (StableHlo.devRef_ne_of_ne (by decide)) _ _
  have e2 : V4 m d (Proc.devRef .tc main_arg1) = V3 m d (Proc.devRef .tc main_arg1) := Function.update_of_ne (StableHlo.devRef_ne_of_ne (by decide)) _ _
  have e3 : V4 m d (Proc.devRef .tc main_v6) = outOf (V3 m d (Proc.devRef .tc main_v5)) (V3 m d (Proc.devRef .tc main_arg1)) 327680 := Function.update_self _ _ _
  have e4 : (StableHlo.held (T d) (uc \ {Proc.devRef .tc main_v5, Proc.devRef .tc main_arg1, Proc.devRef .tc main_v6}) (V4 m d) : sProp 𝕄) = _ := held_rest d main_v5 main_arg1 main_v6 (V3 m d) _
  rw [hA, hB, e1, e2, e3, e4, call_eq1, call_eq1, go_eq1, td_eq1]
  iintro ⟨#Hctx, Hst, ⟨⟨Ht, Hl⟩, Hr⟩, Hk⟩
  iapply ((K (F := F)).wp_run (D (F := F)) 𝒱 (EH := EH) (P := P m) κ d 1)
  isplitr; · iexact Hctx
  isplitl [Hst]; · iexact Hst
  isplitl [Ht]; · iexact Ht
  iintro ⟨Hst, Hd⟩
  iapply Hk
  isplitl [Hst]; · iexact Hst
  isplitl [Hd Hl]
  · isplitl [Hd]; · iexact Hd
    iexact Hl
  iexact Hr

/-! ## The host operations and the regions -/

theorem host_step (op : HloOp τ sig (Elt F)) (hS : op.bufs ⊆ uc) (hf : op.fresh = ∅) (W : Valuation τ sig (Elt F)) (Q : PUnit → sProp 𝕄) :
    iprop(boundary (T d) ∗ StableHlo.held (T d) uc W ∗ ((boundary (T d) ∗ StableHlo.held (T d) uc (op.result W)) -∗ Q ⟨⟩))
      ⊢ wp frame (wpE ((K (F := F)).defs (D (F := F))) 𝒱 (T d) none) Set.univ (hlo rfl op fun _ => .ret ⟨⟩) Q := by
  iintro ⟨Hb, Hh, Hk⟩
  iapply (StableHlo.wp_hlo_within 𝒱 (T d) none Set.univ hS hf) $$ [Hb Hh]
  · isplitl [Hb]; · iexact Hb
    iexact Hh
  iintro H
  rw [wp_ret]; imodintro
  iapply Hk; iexact H

theorem two_sub (a b : Ref sig .tc) (ha : a.isScoped = false) (hb : b.isScoped = false) : ({Proc.devRef .tc a, Proc.devRef .tc b} : Finset (DevRef τ sig)) ⊆ uc := by
  intro x hx
  simp only [Finset.mem_insert, Finset.mem_singleton] at hx
  rcases hx with rfl | rfl
  · exact uc_of a ha
  · exact uc_of b hb

/-- The pipelines, at their only tables. -/
abbrev pc : (p : Fin 2) → Pipeline.Cfg sig Λ₀ := Pipeline.pin (pcfgs (F := F)) adm

/-- What the launch deals pipeline `p`. -/
def ghost (p : Fin 2) (d : Dev nD) : sProp 𝕄 := iprop(Pipeline.cellsGhost (pc (F := F)) EP p d ∗ Pipeline.toksInit (pc (F := F)) EP p d)

theorem lift_call (ℓ : (ΛP (F := F)).Label) (x : (ΛP (F := F)).Args ℓ) (Q : (ΛP (F := F)).Result ℓ → sProp 𝕄) :
    wp frame (wpE (D (F := F)) 𝒱 (T d) none) Set.univ (.op (.customCall ℓ x) .ret) Q
      ⊢ wp (α := (ΛP (F := F)).Result ℓ) frame (wpE ((K (F := F)).defs (D (F := F))) 𝒱 (T d) none) Set.univ (Prog.lift (.customCall (SparseCore.inner ℓ) x)) Q :=
  (K (F := F)).wp_liftProg (D (F := F)) 𝒱 (T d) Set.univ none (.op (.customCall ℓ x) .ret) Q

theorem reg_wp0 [∀ e, Nonempty (Elt F e)] (W₀ W₁ : Valuation τ sig (Elt F)) (Q : PUnit → sProp 𝕄) :
    iprop((iprop(boundary (d.tc : Thread nD τ) ∗ (region2 W₀ W₁).post d) -∗ wp frame (wpE (D (F := F)) 𝒱 (d.tc) none) Set.univ (.ret ⟨⟩) Q)
        ∗ boundary (d.tc : Thread nD τ) ∗ (region2 W₀ W₁).pre d ∗ levAts (K (F := F)).L (K (F := F)).lev
        ∗ ghost 0 d)
      ⊢ wp frame (wpE (D (F := F)) 𝒱 (d.tc) none) Set.univ (.op (.customCall (Pipeline.entry 0) ()) .ret) Q :=
  Pipeline.RegionSeg.wp (pcfgs (F := F)) adm (pdats W₀ W₁) none cellOf_inj EP defs₀ 𝒱₀ (K (F := F)).L (K (F := F)).lev (region2 W₀ W₁) d none (fun _ h => nomatch h) .ret Q

set_option backward.isDefEq.respectTransparency.types false in
theorem region_step0 [∀ e, Nonempty (Elt F e)] (W₀ W₁ : Valuation τ sig (Elt F)) (Q : PUnit → sProp 𝕄) :
    iprop(boundary (T d) ∗ StableHlo.held (T d) uc W₀ ∗ (∃ Wd, owes (T d) (0 : CellTallies nD τ sig (HIx 2)) Wd) ∗ levAts (K (F := F)).L (K (F := F)).lev ∗ ghost 0 d
        ∗ ((boundary (T d) ∗ StableHlo.held (T d) uc (Pipeline.afterRegion (dat2 W₀ d) W₀) ∗ ∃ Wd, owes (T d) (0 : CellTallies nD τ sig (HIx 2)) Wd) -∗ Q ⟨⟩))
      ⊢ wp frame (wpE ((K (F := F)).defs (D (F := F))) 𝒱 (T d) none) Set.univ (Prog.lift (.customCall (SparseCore.inner (Pipeline.entry 0)) ())) Q := by
  have h1 :
    iprop(boundary (T d) ∗ StableHlo.held (T d) uc W₀ ∗ (∃ Wd, owes (T d) (0 : CellTallies nD τ sig (HIx 2)) Wd) ∗ levAts (K (F := F)).L (K (F := F)).lev ∗ ghost 0 d
        ∗ ((boundary (T d) ∗ StableHlo.held (T d) uc (Pipeline.afterRegion (dat2 W₀ d) W₀) ∗ ∃ Wd, owes (T d) (0 : CellTallies nD τ sig (HIx 2)) Wd) -∗ Q ⟨⟩))
      ⊢ iprop((iprop(boundary (d.tc : Thread nD τ) ∗ (region2 W₀ W₁).post d) -∗ wp frame (wpE (D (F := F)) 𝒱 (d.tc) none) Set.univ (.ret ⟨⟩) Q)
        ∗ boundary (d.tc : Thread nD τ) ∗ (region2 W₀ W₁).pre d ∗ levAts (K (F := F)).L (K (F := F)).lev
        ∗ ghost 0 d) := by
    iintro ⟨Hb, Hh, HO, Hlv, Hg, Hk⟩
    isplitl [Hk]
    · iintro ⟨Hb, Hpost⟩
      rw [wp_ret]; imodintro
      ihave H := (region_post0 d W₀ W₁) $$ Hpost
      icases H with ⟨Hh, HO, -⟩
      iapply Hk
      isplitl [Hb]; · iexact Hb
      isplitl [Hh]; · iexact Hh
      iexact HO
    isplitl [Hb]; · iexact Hb
    isplitl [Hh HO]
    · iapply (region_pre0 d W₀ W₁)
      isplitl [Hh]; · iexact Hh
      isplitl [HO]; · iexact HO
      isplitl [] <;> iempintro
    isplitl [Hlv]; · iexact Hlv
    iexact Hg
  exact BI.Entails.trans h1 (BI.Entails.trans (reg_wp0 d W₀ W₁ Q) (lift_call d (Pipeline.entry 0) () Q))

theorem reg_wp1 [∀ e, Nonempty (Elt F e)] (W₀ W₁ : Valuation τ sig (Elt F)) (Q : PUnit → sProp 𝕄) :
    iprop((iprop(boundary (d.tc : Thread nD τ) ∗ (region3 W₀ W₁).post d) -∗ wp frame (wpE (D (F := F)) 𝒱 (d.tc) none) Set.univ (.ret ⟨⟩) Q)
        ∗ boundary (d.tc : Thread nD τ) ∗ (region3 W₀ W₁).pre d ∗ levAts (K (F := F)).L (K (F := F)).lev
        ∗ ghost 1 d)
      ⊢ wp frame (wpE (D (F := F)) 𝒱 (d.tc) none) Set.univ (.op (.customCall (Pipeline.entry 1) ()) .ret) Q :=
  Pipeline.RegionSeg.wp (pcfgs (F := F)) adm (pdats W₀ W₁) none cellOf_inj EP defs₀ 𝒱₀ (K (F := F)).L (K (F := F)).lev (region3 W₀ W₁) d none (fun _ h => nomatch h) .ret Q

set_option backward.isDefEq.respectTransparency.types false in
theorem region_step1 [∀ e, Nonempty (Elt F e)] (W₀ W₁ : Valuation τ sig (Elt F)) (Q : PUnit → sProp 𝕄) :
    iprop(boundary (T d) ∗ StableHlo.held (T d) uc W₁ ∗ (∃ Wd, owes (T d) (0 : CellTallies nD τ sig (HIx 2)) Wd) ∗ levAts (K (F := F)).L (K (F := F)).lev ∗ ghost 1 d
        ∗ ((boundary (T d) ∗ StableHlo.held (T d) uc (Pipeline.afterRegion (dat3 W₁ d) W₁) ∗ ∃ Wd, owes (T d) (0 : CellTallies nD τ sig (HIx 2)) Wd) -∗ Q ⟨⟩))
      ⊢ wp frame (wpE ((K (F := F)).defs (D (F := F))) 𝒱 (T d) none) Set.univ (Prog.lift (.customCall (SparseCore.inner (Pipeline.entry 1)) ())) Q := by
  have h1 :
    iprop(boundary (T d) ∗ StableHlo.held (T d) uc W₁ ∗ (∃ Wd, owes (T d) (0 : CellTallies nD τ sig (HIx 2)) Wd) ∗ levAts (K (F := F)).L (K (F := F)).lev ∗ ghost 1 d
        ∗ ((boundary (T d) ∗ StableHlo.held (T d) uc (Pipeline.afterRegion (dat3 W₁ d) W₁) ∗ ∃ Wd, owes (T d) (0 : CellTallies nD τ sig (HIx 2)) Wd) -∗ Q ⟨⟩))
      ⊢ iprop((iprop(boundary (d.tc : Thread nD τ) ∗ (region3 W₀ W₁).post d) -∗ wp frame (wpE (D (F := F)) 𝒱 (d.tc) none) Set.univ (.ret ⟨⟩) Q)
        ∗ boundary (d.tc : Thread nD τ) ∗ (region3 W₀ W₁).pre d ∗ levAts (K (F := F)).L (K (F := F)).lev
        ∗ ghost 1 d) := by
    iintro ⟨Hb, Hh, HO, Hlv, Hg, Hk⟩
    isplitl [Hk]
    · iintro ⟨Hb, Hpost⟩
      rw [wp_ret]; imodintro
      ihave H := (region_post1 d W₀ W₁) $$ Hpost
      icases H with ⟨Hh, HO, -⟩
      iapply Hk
      isplitl [Hb]; · iexact Hb
      isplitl [Hh]; · iexact Hh
      iexact HO
    isplitl [Hb]; · iexact Hb
    isplitl [Hh HO]
    · iapply (region_pre1 d W₀ W₁)
      isplitl [Hh]; · iexact Hh
      isplitl [HO]; · iexact HO
      isplitl [] <;> iempintro
    isplitl [Hlv]; · iexact Hlv
    iexact Hg
  exact BI.Entails.trans h1 (BI.Entails.trans (reg_wp1 d W₀ W₁ Q) (lift_call d (Pipeline.entry 1) () Q))

end Cert.Proof.KI

end
-- ==== Proof.KIRun.lean ====
/-
The main program's run: every device's TensorCore, its SparseCores' subcores, and what they leave.
-/
module

public import proofs.«01_k».proof.Proof.KIMain
public import Idealize.ShloMosaic.Lib.SparseCore.Quiescent

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F] [Named F]

local notation "𝕄" => MT nD τ sig (HIx 2) (Elt F) ℕ UU ℕ

variable (m : (ℓ : Loc nD τ sig) → Buf (Elt F) ℓ) (ρ : Dev nD → PrngReg) (d : Dev nD)

/-! ## The launch's ghost state -/

def u₀ : UU := (initOf (K (F := F)).hsCells (K (F := F)).hsToks,
  (initOf (Pipeline.cells (pc (F := F)) cellOf_inj) (Pipeline.launchToks (pc (F := F)) cellOf_inj), 1))

def G (d : Dev nD) : sProp 𝕄 := bigSep Finset.univ fun p : Fin 2 => ghost (F := F) p d

theorem G_two : G (F := F) d = iprop(ghost 0 d ∗ ghost 1 d) := by
  unfold G
  rw [show (Finset.univ : Finset (Fin 2)) = {0, 1} from rfl, SparseCore.bigSep_insert' (by decide), bigSep_singleton]

theorem x_emp : (bigSep Finset.univ fun thr : Thread nD τ => bigSep Finset.univ fun q : Fin 2 => (P (F := F) m).x q thr) = (iprop(emp) : sProp 𝕄) := by
  refine Eq.trans (bigSep_congr fun _ _ => ?_) (bigSep_emp_const (Finset.univ : Finset (Thread nD τ)))
  exact bigSep_emp_const (Finset.univ : Finset (Fin 2))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  have hG : iprop((bigSep Finset.univ fun c : Dev nD => bigSep Finset.univ fun p => Pipeline.cellsGhost (pc (F := F)) EP p c)
      ∗ (bigSep Finset.univ fun c : Dev nD => bigSep Finset.univ fun p => (Pipeline.toksInit (pc (F := F)) EP p c : sProp 𝕄)))
      ⊢ (bigSep Finset.univ fun d : Dev nD => G (F := F) d : sProp 𝕄) := by
    unfold G ghost; simp only [bigSep_sep']; exact BI.Entails.refl _
  iintro Hu
  ihave H := (ownU_pair (initOf (K (F := F)).hsCells (K (F := F)).hsToks)
    ((initOf (Pipeline.cells (pc (F := F)) cellOf_inj) (Pipeline.launchToks (pc (F := F)) cellOf_inj), 1) : UP × Counters)) $$ Hu
  icases H with ⟨HH, HR⟩
  ihave H := (own_pair_emb (embR : Emb (UP × Counters) 𝕄) (initOf (Pipeline.cells (pc (F := F)) cellOf_inj) (Pipeline.launchToks (pc (F := F)) cellOf_inj)) (1 : Counters)) $$ HR
  icases H with ⟨HR, -⟩
  ihave HR := (show (BI.own (((Emb.inl : Emb UP (UP × Counters)).trans embR : Emb UP 𝕄) (initOf (Pipeline.cells (pc (F := F)) cellOf_inj) (Pipeline.launchToks (pc (F := F)) cellOf_inj))) : sProp 𝕄)
    ⊢ BI.own ((EP : Emb UP 𝕄) (initOf (Pipeline.cells (pc (F := F)) cellOf_inj) (Pipeline.launchToks (pc (F := F)) cellOf_inj))) from BI.Entails.refl _) $$ HR
  imod (Pipeline.fund_ghost (pc (F := F)) EP cellOf_inj) $$ HR with HG
  imodintro
  isplitl [HH]; · iexact HH
  isplitl [HG]; · iapply hG; iexact HG
  rw [x_emp]; iempintro

/-! ## The TensorCore's program -/

abbrev FIN (d : Dev nD) : sProp 𝕄 := iprop((dl d main_arg0 ↦{fullShare} V9 m d (Proc.devRef .tc main_arg0)) ∗ (dl d main_arg1 ↦{fullShare} V9 m d (Proc.devRef .tc main_arg1))
  ∗ (dl d main_v12 ↦{fullShare} V9 m d (Proc.devRef .tc main_v12)))

/-- What the TensorCore's state after the last call gives, and takes back: it owes nothing. -/
theorem st_open : (K (F := F)).tcSt EH d 2 ⊢ (iprop((∃ Wd, owes (T d) (0 : CellTallies nD τ sig (HIx 2)) Wd)
    ∗ ((∃ Wd, owes (T d) (0 : CellTallies nD τ sig (HIx 2)) Wd) -∗ (K (F := F)).tcSt EH d 2)) : sProp 𝕄) := by
  unfold SparseCore.Cfg.tcSt
  rw [(K (F := F)).Otc_end d (le_refl 2)]
  iintro ⟨⟨%W, -, HO⟩, Hrest⟩
  isplitl [HO]; · iexists W; iexact HO
  iintro ⟨%W', HO⟩
  isplitl [HO]
  · iexists W'
    isplitr
    · ipureintro
      intro p _
      rcases h : p.2 with _ | q
      · exact Nat.zero_le _
      · exact ((K (F := F)).lev_some_le _ q).trans (by have := q.isLt; show 8 * q.val + 7 ≤ 8 * 2; omega)
    · iexact HO
  iexact Hrest

theorem fin_open : (StableHlo.held (T d) uc (opH.result (Pipeline.afterRegion (dat3 (V7 m d) d) (V7 m d))) : sProp 𝕄)
    ⊢ iprop(FIN m d ∗ StableHlo.held (T d) (uc \ {Proc.devRef .tc main_arg0, Proc.devRef .tc main_arg1, Proc.devRef .tc main_v12}) (V9 m d)) :=
  Entails.of_eq (held_three d main_arg0 main_arg1 main_v12 rfl rfl rfl (by decide) (by decide) (by decide) (V9 m d))

theorem bufs_held : (unscopedBufs d (fun b : Ref sig .tc => m ((SparseCore.T d : Thread nD τ).loc b)) : sProp 𝕄) = StableHlo.held (T d) uc (V0 m d) := by
  have h : (fun b : Ref sig .tc => m ((SparseCore.T d : Thread nD τ).loc b)) = fun b : Ref sig .tc => V0 m d (Proc.devRef .tc b) := funext fun b => by unfold V0; rfl
  rw [h]
  exact Pipeline.unscopedBufs_held d (V0 m d)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 2 ∗ FIN m d ∗ (K (F := F)).tcEnd d) := by
  unfold SparseCore.Cfg.tcRes SparseCore.Cfg.tcEnd
  rw [G_two, bufs_held m d]
  simp only [main, wp_bind, wp_pure]
  iintro ⟨#Hctx, Hst, ⟨Hb, Hh, Hts, -⟩, ⟨HG0, HG1⟩⟩
  iapply (host_step d opT (two_sub main_arg0 main_v0 rfl rfl) rfl)
  isplitl [Hb]; · iexact Hb
  isplitl [Hh]; · iexact Hh
  iintro ⟨Hb, Hh⟩
  iapply (host_step d opA (two_sub main_v0 main_v1 rfl rfl) rfl)
  isplitl [Hb]; · iexact Hb
  isplitl [Hh]; · iexact Hh
  iintro ⟨Hb, Hh⟩
  iapply (host_step d opB (two_sub main_v1 main_v2 rfl rfl) rfl)
  isplitl [Hb]; · iexact Hb
  isplitl [Hh]; · iexact Hh
  iintro ⟨Hb, Hh⟩
  iapply (call_step0 m d κ)
  isplitr; · iexact Hctx
  isplitl [Hst]; · iexact Hst
  isplitl [Hh]; · iexact Hh
  iintro ⟨Hst, Hh⟩
  iapply (host_step d opC (two_sub main_v0 main_v4 rfl rfl) rfl)
  isplitl [Hb]; · iexact Hb
  isplitl [Hh]; · iexact Hh
  iintro ⟨Hb, Hh⟩
  iapply (host_step d opD (two_sub main_v4 main_v5 rfl rfl) rfl)
  isplitl [Hb]; · iexact Hb
  isplitl [Hh]; · iexact Hh
  iintro ⟨Hb, Hh⟩
  iapply (call_step1 m d κ)
  isplitr; · iexact Hctx
  isplitl [Hst]; · iexact Hst
  isplitl [Hh]; · iexact Hh
  iintro ⟨Hst, Hh⟩
  iapply (host_step d opE (two_sub main_arg1 main_v7 rfl rfl) rfl)
  isplitl [Hb]; · iexact Hb
  isplitl [Hh]; · iexact Hh
  iintro ⟨Hb, Hh⟩
  ihave H := (st_open d) $$ Hst
  icases H with ⟨HO, Hst⟩
  ihave #Hlv := ((K (F := F)).ctx_levAts (EH := EH) (P := P m) κ) $$ Hctx
  iapply (region_step0 d (V5 m d) (V7 m d))
  isplitl [Hb]; · iexact Hb
  isplitl [Hh]; · iexact Hh
  isplitl [HO]; · iexact HO
  isplitr; · iexact Hlv
  isplitl [HG0]; · iexact HG0
  iintro ⟨Hb, Hh, HO⟩
  iapply (host_step d opF (two_sub main_v3 main_v9 rfl rfl) rfl)
  isplitl [Hb]; · iexact Hb
  isplitl [Hh]; · iexact Hh
  iintro ⟨Hb, Hh⟩
  iapply (host_step d opG (two_sub main_v6 main_v10 rfl rfl) rfl)
  isplitl [Hb]; · iexact Hb
  isplitl [Hh]; · iexact Hh
  iintro ⟨Hb, Hh⟩
  iapply (region_step1 d (V5 m d) (V7 m d))
  isplitl [Hb]; · iexact Hb
  isplitl [Hh]; · iexact Hh
  isplitl [HO]; · iexact HO
  isplitr; · iexact Hlv
  isplitl [HG1]; · iexact HG1
  iintro ⟨Hb, Hh, HO⟩
  iapply (host_step d opH (two_sub main_v11 main_v12 rfl rfl) rfl)
  isplitl [Hb]; · iexact Hb
  isplitl [Hh]; · iexact Hh
  iintro ⟨Hb, Hh⟩
  imodintro
  isplitl [Hst HO]; · iapply Hst; iexact HO
  isplitl [Hh]
  · ihave H := (fin_open m d) $$ Hh
    icases H with ⟨H, -⟩
    iexact H
  isplitl [Hb] <;> iassumption

/-! ## What the run leaves -/

def fq (d : Dev nD) (s' : Phys nD τ sig (Elt F)) : Prop :=
  s'.mem.mem (dl d main_arg0) = V9 m d (Proc.devRef .tc main_arg0) ∧ s'.mem.mem (dl d main_arg1) = V9 m d (Proc.devRef .tc main_arg1)
    ∧ s'.mem.mem (dl d main_v12) = V9 m d (Proc.devRef .tc main_v12)

theorem hfin (d : Dev nD) (s' : Phys nD τ sig (Elt F)) : iprop(FIN m d ∗ SI s') ⊢ (⌜fq m d s'⌝ : sProp 𝕄) := by
  iintro ⟨⟨Ha, Hb, Ho⟩, HSI⟩
  ihave H := (persistent_entails_right (SI_pointsTo_agree (st := s') (ℓ := dl d main_arg0) (I := Finset.univ) (q := fullShare) (f := V9 m d (Proc.devRef .tc main_arg0)))) $$ [HSI Ha]
  · isplitl [HSI] <;> iassumption
  icases H with ⟨%h1, HSI, -⟩
  ihave H := (persistent_entails_right (SI_pointsTo_agree (st := s') (ℓ := dl d main_arg1) (I := Finset.univ) (q := fullShare) (f := V9 m d (Proc.devRef .tc main_arg1)))) $$ [HSI Hb]
  · isplitl [HSI] <;> iassumption
  icases H with ⟨%h2, HSI, -⟩
  ihave H := (SI_pointsTo_agree (st := s') (ℓ := dl d main_v12) (I := Finset.univ) (q := fullShare) (f := V9 m d (Proc.devRef .tc main_v12))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r => (∀ d : Dev nD, r.2.mem (dl d main_arg0) = V9 m d (Proc.devRef .tc main_arg0)
  ∧ r.2.mem (dl d main_arg1) = V9 m d (Proc.devRef .tc main_arg1) ∧ r.2.mem (dl d main_v12) = V9 m d (Proc.devRef .tc main_v12)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq | 1 => nomatch hq)
    (fun q _ => match q with | 0 => tileObl0 m | 1 => tileObl1 m)
    (fun q _ => SparseCore.Cfg.VecSplit.of_plain (vecSplit m q))
    m ρ main (fun d => G d) (FIN m) (u₀ (F := F)) (sep_elim_left.trans (hu₀ m)) (hmain m ρ) (fq m) (hfin m) (QC m) (fun _ h hz => ⟨h, hz⟩)

end Cert.Proof.KI
end
-- ==== Proof.KIVal.lean ====
/-
The arguments are unchanged at the end.
-/
module

public import proofs.«01_k».proof.Proof.KIRun

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F] [Named F]

local notation "𝕄" => MT nD τ sig (HIx 2) (Elt F) ℕ UU ℕ

variable (m : (ℓ : Loc nD τ sig) → Buf (Elt F) ℓ) (ρ : Dev nD → PrngReg) (d : Dev nD)

/-- A buffer no operation of the program writes reads at the end as it did at the start. -/
theorem V9_keep (r : Ref sig .tc) (h0 : r ≠ main_v0) (h1 : r ≠ main_v1) (h2 : r ≠ main_v2) (h3 : r ≠ main_v3) (h4 : r ≠ main_v4) (h5 : r ≠ main_v5) (h6 : r ≠ main_v6)
    (h7 : r ≠ main_v7) (h9 : r ≠ main_v9) (h10 : r ≠ main_v10) (h12 : r ≠ main_v12) (hA : ∀ w : Fin 4, r ≠ Pipeline.arrRef spec2 w) (hB : ∀ w : Fin 5, r ≠ Pipeline.arrRef spec3 w) :
    V9 m d (Proc.devRef .tc r) = m (d, Proc.devRef .tc r) := by
  unfold V9; rw [StableHlo.reshape_result_ne _ _ _ _ _ _ _ h12]
  unfold V8; rw [Pipeline.afterRegion_of_not_arr _ _ hB]
  unfold V7; rw [StableHlo.reshape_result_ne _ _ _ _ _ _ _ h10, StableHlo.reshape_result_ne _ _ _ _ _ _ _ h9]
  unfold V6; rw [Pipeline.afterRegion_of_not_arr _ _ hA]
  unfold V5; rw [StableHlo.reshape_result_ne _ _ _ _ _ _ _ h7]
  unfold V4; rw [Function.update_of_ne (StableHlo.devRef_ne_of_ne h6)]
  unfold V3; rw [StableHlo.reshape_result_ne _ _ _ _ _ _ _ h5, StableHlo.unary_result_ne _ _ _ _ _ _ h4]
  unfold V2; rw [Function.update_of_ne (StableHlo.devRef_ne_of_ne h3)]
  unfold V1; rw [StableHlo.reshape_result_ne _ _ _ _ _ _ _ h2, StableHlo.unary_result_ne _ _ _ _ _ _ h1, StableHlo.unary_result_ne _ _ _ _ _ _ h0]
  rfl

theorem V9_arg0 : V9 m d (Proc.devRef .tc main_arg0) = m (d, Proc.devRef .tc main_arg0) :=
  V9_keep m d main_arg0 (by decide) (by decide) (by decide) (by decide) (by decide) (by decide) (by decide) (by decide) (by decide) (by decide) (by decide) (by decide) (by decide)
theorem V9_arg1 : V9 m d (Proc.devRef .tc main_arg1) = m (d, Proc.devRef .tc main_arg1) :=
  V9_keep m d main_arg1 (by decide) (by decide) (by decide) (by decide) (by decide) (by decide) (by decide) (by decide) (by decide) (by decide) (by decide) (by decide) (by decide)

/-- The run leaves the arguments as they were and every counter at zero. -/
theorem run_frame [∀ e, Nonempty (Elt F e)] :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun _ h => ⟨fun c => ⟨(h.1 c).1.trans (V9_arg0 m c), (h.1 c).2.1.trans (V9_arg1 m c)⟩, h.2⟩) (run_main m ρ)

end Cert.Proof.KI
end
-- ==== Proof.AlgElt.lean ====
/-
One class's loss at one point, as extended reals: the three forms the programs compute it in agree.
-/
module

public import proofs.«01_k».proof.Proof.KIBase
public import Idealize.ShloMosaic.PureOps.Ideal.Laws

@[expose] public section

noncomputable section

namespace Cert.Proof.Alg

open Idealize.ShloMosaic

/-! ## The constants -/

theorem b_zero : Ideal.ofBits .f32 0x00000000#32 = 0 := Ideal.ofBits_zero_f32
theorem b_one : Ideal.ofBits .f32 0x3F800000#32 = ((1 : ℝ) : EReal) := by
  simp [Ideal.ofBits, Ideal.ieee, -EReal.coe_mul]; norm_num
theorem b_two : Ideal.ofBits .f32 0x40000000#32 = ((2 : ℝ) : EReal) := by
  simp [Ideal.ofBits, Ideal.ieee, -EReal.coe_mul]; norm_num
theorem b_three : Ideal.ofBits .f32 0x40400000#32 = ((3 : ℝ) : EReal) := by
  simp [Ideal.ofBits, Ideal.ieee, -EReal.coe_mul]; norm_num
theorem b_five : Ideal.ofBits .f32 0x40A00000#32 = ((5 : ℝ) : EReal) := by
  simp [Ideal.ofBits, Ideal.ieee, -EReal.coe_mul]; norm_num
theorem b_quarter : Ideal.ofBits .f32 0x3E800000#32 = ((1 / 4 : ℝ) : EReal) := by
  simp [Ideal.ofBits, Ideal.ieee, -EReal.coe_mul]; norm_num
theorem b_threeq : Ideal.ofBits .f32 0x3F400000#32 = ((3 / 4 : ℝ) : EReal) := by
  simp [Ideal.ofBits, Ideal.ieee, -EReal.coe_mul]; norm_num

/-! ## The forms -/

/-- A truth value as a number. -/
def num (b : BitVec 1) : EReal := ((b.toNat : ℝ) : EReal)
/-- The exponential both logarithm forms are taken of. -/
def ex (x : EReal) : EReal := Ideal.exp (-(max x (-x)))
/-- The logarithm of one more than `e`, by its series. -/
def series (e : EReal) : EReal :=
  let y := Ideal.div e (((2 : ℝ) : EReal) + e)
  ((2 : ℝ) : EReal) * (y + Ideal.div (y * y * y) ((3 : ℝ) : EReal) + Ideal.div (y * y * y * y * y) ((5 : ℝ) : EReal))
/-- The loss as the reference writes it, `lg` its logarithm. -/
def refElt (b : BitVec 1) (x lg : EReal) : EReal :=
  let s := Ideal.div ((1 : ℝ) : EReal) (((1 : ℝ) : EReal) + Ideal.exp (-x))
  (num b * ((1 / 4 : ℝ) : EReal) + (((1 : ℝ) : EReal) - num b) * ((3 / 4 : ℝ) : EReal))
    * Ideal.pow (num b * (((1 : ℝ) : EReal) - s) + (((1 : ℝ) : EReal) - num b) * s) ((2 : ℝ) : EReal)
    * (max x 0 - x * num b + lg)
/-- The loss as the TensorCore's blocks compute it. -/
def tcElt (b : BitVec 1) (x : EReal) : EReal :=
  let s := Ideal.logistic x
  let pt := num b * (((1 : ℝ) : EReal) - s) + (((1 : ℝ) : EReal) - num b) * s
  (num b * ((1 / 4 : ℝ) : EReal) + (((1 : ℝ) : EReal) - num b) * ((3 / 4 : ℝ) : EReal)) * pt * pt
    * (max x 0 - x * num b + Ideal.log1p (Ideal.exp (0 - max x (-x))))
/-- The loss as a SparseCore lane computes it. -/
def scElt (b : BitVec 1) (x : EReal) : EReal :=
  let z := Scalar.select b (0 - x) x
  let e := Ideal.exp (0 - max x (-x))
  let r := Ideal.div ((1 : ℝ) : EReal) (((1 : ℝ) : EReal) + e)
  let pt := Scalar.select (Ideal.cmp .oge z 0) r (e * r)
  let y := Ideal.div e (((2 : ℝ) : EReal) + e)
  let ce := max z 0 + y * (((2 : ℝ) : EReal) + y * y * (((2 / 3 : ℝ) : EReal) + y * y * ((2 / 5 : ℝ) : EReal)))
  Scalar.select b ((1 / 4 : ℝ) : EReal) ((3 / 4 : ℝ) : EReal) * (pt * pt) * ce

theorem max_coe (a b : ℝ) : max (a : EReal) (b : EReal) = ((max a b : ℝ) : EReal) := (EReal.coe_strictMono.monotone.map_max).symm
theorem num_zero : num 0#1 = 0 := by simp [num]
theorem num_one : num 1#1 = 1 := by simp [num]

theorem bit_cases (b : BitVec 1) : b = 0#1 ∨ b = 1#1 := by
  rcases BitVec.eq_zero_or_eq_one b with h | h <;> simp [h]

theorem pow_two (p : ℝ) : Ideal.pow (p : EReal) ((2 : ℝ) : EReal) = ((p * p : ℝ) : EReal) := by
  rw [Ideal.pow_coe_coe]; congr 1
  show p ^ (2 : ℝ) = p * p
  rw [Real.rpow_two, sq]

theorem ex_coe (r : ℝ) : ex (r : EReal) = ((Real.exp (-|r|) : ℝ) : EReal) := by
  unfold ex
  rw [← EReal.coe_neg, max_coe, ← EReal.coe_neg, Ideal.exp_coe]; rfl
theorem ex_top : ex ⊤ = 0 := by simp [ex]
theorem ex_bot : ex ⊥ = 0 := by simp [ex]
theorem ex_eq (x : EReal) : Ideal.exp (0 - max x (-x)) = ex x := by unfold ex; rw [zero_sub]

/-- The series at a real between zero and one. -/
theorem series_coe (e : ℝ) (h : 0 ≤ e) : series (e : EReal)
    = ((2 * (e / (2 + e) + (e / (2 + e)) ^ 3 / 3 + (e / (2 + e)) ^ 5 / 5) : ℝ) : EReal) := by
  unfold series
  have h2 : (2 + e : ℝ) ≠ 0 := by positivity
  simp only [← EReal.coe_add, Ideal.div_coe h2, ← EReal.coe_mul, Ideal.div_coe (show (3 : ℝ) ≠ 0 by norm_num), Ideal.div_coe (show (5 : ℝ) ≠ 0 by norm_num)]
  congr 1; field_simp; try ring

theorem sig_coe (r : ℝ) : Ideal.div ((1 : ℝ) : EReal) (((1 : ℝ) : EReal) + Ideal.exp (-(r : EReal))) = ((1 / (1 + Real.exp (-r)) : ℝ) : EReal) := by
  have h2 : (1 + Real.exp (-r) : ℝ) ≠ 0 := by positivity
  rw [← EReal.coe_neg, Ideal.exp_coe, ← EReal.coe_add, Ideal.div_coe h2, ← EReal.coe_mul, one_mul]

theorem sig_bot : Ideal.div ((1 : ℝ) : EReal) (((1 : ℝ) : EReal) + Ideal.exp (-⊥)) = ((0 : ℝ) : EReal) := by
  rw [EReal.neg_bot, Ideal.exp_top, EReal.coe_add_top]; simp [Ideal.div]
theorem sig_top : Ideal.div ((1 : ℝ) : EReal) (((1 : ℝ) : EReal) + Ideal.exp (-⊤)) = ((1 : ℝ) : EReal) := by
  rw [EReal.neg_top, Ideal.exp_bot, add_zero, Ideal.div_coe one_ne_zero, ← EReal.coe_mul]; norm_num

/-- The reference's loss, the weight collected into one real. -/
theorem refElt_of (t : Bool) (x lg : EReal) (q : ℝ) (hs : Ideal.div ((1 : ℝ) : EReal) (((1 : ℝ) : EReal) + Ideal.exp (-x)) = (q : EReal)) :
    refElt (BitVec.ofBool t) x lg = (((if t then 1 / 4 else 3 / 4) * (if t then 1 - q else q) ^ 2 : ℝ) : EReal) * (max x 0 - x * num (BitVec.ofBool t) + lg) := by
  unfold refElt
  rw [hs]
  congr 1
  cases t
  · rw [show BitVec.ofBool false = 0#1 from rfl, num_zero, ← EReal.coe_zero]
    simp only [← EReal.coe_add, ← EReal.coe_sub, ← EReal.coe_mul, pow_two]
    refine congrArg (fun u : ℝ => (u : EReal) * _) ?_; simp only [Bool.false_eq_true, if_false]; ring
  · rw [show BitVec.ofBool true = 1#1 from rfl, num_one, ← EReal.coe_one]
    simp only [← EReal.coe_add, ← EReal.coe_sub, ← EReal.coe_mul, pow_two]
    refine congrArg (fun u : ℝ => (u : EReal) * _) ?_; simp only [if_true]; ring

/-- The TensorCore's form is the reference's. -/
theorem tcElt_eq (b : BitVec 1) (x : EReal) : tcElt b x = refElt b x (Ideal.log1p (ex x)) := by
  unfold tcElt refElt
  rw [ex_eq]
  have hs : Ideal.logistic x = Ideal.div ((1 : ℝ) : EReal) (((1 : ℝ) : EReal) + Ideal.exp (-x)) := rfl
  rw [← hs]
  have key : ∃ p : ℝ, num b * (((1 : ℝ) : EReal) - Ideal.logistic x) + (((1 : ℝ) : EReal) - num b) * Ideal.logistic x = (p : EReal) := by
    have : ∃ q : ℝ, Ideal.logistic x = (q : EReal) := by
      induction x using EReal.rec with
      | bot => exact ⟨0, by simp⟩
      | top => exact ⟨1, by simp⟩
      | coe r => exact ⟨_, Ideal.logistic_coe r⟩
    obtain ⟨q, hq⟩ := this
    rw [hq]; unfold num
    exact ⟨_, by simp only [← EReal.coe_add, ← EReal.coe_sub, ← EReal.coe_mul]; rfl⟩
  obtain ⟨p, hp⟩ := key
  simp only [hp, pow_two, EReal.coe_mul, mul_assoc]

theorem series_zero : series 0 = 0 := by
  have := series_coe 0 le_rfl
  rw [EReal.coe_zero] at this
  rw [this]; norm_num

/-- The SparseCore's form is the reference's, with the series for the logarithm. -/
theorem scElt_eq (b : BitVec 1) (x : EReal) : scElt b x = refElt b x (series (ex x)) := by
  have hr : Ideal.div ((1 : ℝ) : EReal) (((1 : ℝ) : EReal) + 0) = 1 := by
    rw [add_zero, Ideal.div_coe one_ne_zero, ← EReal.coe_mul]; norm_num
  have hy : Ideal.div 0 (((2 : ℝ) : EReal) + 0) = 0 := by
    rw [add_zero, Ideal.div_coe two_ne_zero, zero_mul]
  induction x using EReal.rec with
  | bot =>
    unfold scElt
    rw [ex_eq, ex_bot, series_zero]
    dsimp only
    rw [hr, hy]
    rcases bit_cases b with rfl | rfl
    · rw [show (0#1 : BitVec 1) = BitVec.ofBool false from rfl, refElt_of _ _ _ _ sig_bot]
      simp [Scalar.select, Ideal.cmp]
    · rw [show (1#1 : BitVec 1) = BitVec.ofBool true from rfl, refElt_of _ _ _ _ sig_bot, show BitVec.ofBool true = 1#1 from rfl, num_one]
      simp [Scalar.select, Ideal.cmp]
  | top =>
    unfold scElt
    rw [ex_eq, ex_top, series_zero]
    dsimp only
    rw [hr, hy]
    rcases bit_cases b with rfl | rfl
    · rw [show (0#1 : BitVec 1) = BitVec.ofBool false from rfl, refElt_of _ _ _ _ sig_top, show BitVec.ofBool false = 0#1 from rfl, num_zero]
      simp [Scalar.select, Ideal.cmp]
    · rw [show (1#1 : BitVec 1) = BitVec.ofBool true from rfl, refElt_of _ _ _ _ sig_top]
      simp [Scalar.select, Ideal.cmp]
  | coe r =>
    have h0 : (0 : ℝ) ≤ Real.exp (-|r|) := (Real.exp_pos _).le
    have h1 : (1 + Real.exp (-|r|) : ℝ) ≠ 0 := by positivity
    have h2 : (2 + Real.exp (-|r|) : ℝ) ≠ 0 := by positivity
    have hsel : ∀ z : ℝ, Scalar.select (Ideal.cmp .oge (z : EReal) 0) ((1 / (1 + Real.exp (-|r|)) : ℝ) : EReal) ((Real.exp (-|r|) * (1 / (1 + Real.exp (-|r|))) : ℝ) : EReal)
        = ((1 / (1 + Real.exp (-z)) : ℝ) : EReal) ∨ |z| ≠ |r| := by
      intro z
      by_cases hz : |z| = |r|
      · left
        rw [← hz, ← EReal.coe_zero]
        unfold Scalar.select Ideal.cmp
        by_cases h : (0 : ℝ) ≤ z
        · rw [abs_of_nonneg h]; simp [h]
        · have hp := Real.exp_pos z
          have e : Real.exp (-z) = (Real.exp z)⁻¹ := Real.exp_neg z
          rw [abs_of_neg (not_le.1 h), neg_neg, e]; simp [h, ← EReal.coe_mul]; field_simp; ring
      · right; exact hz
    have hm : ∀ a : ℝ, max (a : EReal) 0 = ((max a 0 : ℝ) : EReal) := fun a => by rw [← EReal.coe_zero, max_coe]
    unfold scElt
    rw [ex_eq, ex_coe, series_coe _ h0]
    dsimp only
    rw [← EReal.coe_add, ← EReal.coe_add, Ideal.div_coe h1, Ideal.div_coe h2, ← EReal.coe_mul, ← EReal.coe_mul, ← EReal.coe_mul, one_mul]
    rcases bit_cases b with rfl | rfl
    · rw [show (0#1 : BitVec 1) = BitVec.ofBool false from rfl, refElt_of _ _ _ _ (sig_coe r), show BitVec.ofBool false = 0#1 from rfl, num_zero,
        show Scalar.select 0#1 (0 - (r : EReal)) (r : EReal) = (r : EReal) from rfl, (hsel r).resolve_right (by simp),
        show Scalar.select 0#1 ((1 / 4 : ℝ) : EReal) ((3 / 4 : ℝ) : EReal) = ((3 / 4 : ℝ) : EReal) from rfl, hm, ← EReal.coe_zero]
      simp only [← EReal.coe_add, ← EReal.coe_sub, ← EReal.coe_mul]
      congr 1
      simp only [Bool.false_eq_true, if_false]
      ring
    · rw [show (1#1 : BitVec 1) = BitVec.ofBool true from rfl, refElt_of _ _ _ _ (sig_coe r), show BitVec.ofBool true = 1#1 from rfl, num_one,
        show Scalar.select 1#1 (0 - (r : EReal)) (r : EReal) = ((-r : ℝ) : EReal) by rw [EReal.coe_neg, ← zero_sub]; rfl, (hsel (-r)).resolve_right (by simp),
        show Scalar.select 1#1 ((1 / 4 : ℝ) : EReal) ((3 / 4 : ℝ) : EReal) = ((1 / 4 : ℝ) : EReal) from rfl, hm, hm, ← EReal.coe_one]
      simp only [← EReal.coe_add, ← EReal.coe_sub, ← EReal.coe_mul]
      congr 1
      have hmax : max (-r) 0 = max r 0 - r := by
        rcases le_total 0 r with h | h
        · rw [max_eq_right (by linarith), max_eq_left h]; ring
        · rw [max_eq_left (by linarith), max_eq_right h]; ring
      have hpt : 1 / (1 + Real.exp (-(-r))) = 1 - 1 / (1 + Real.exp (-r)) := by
        have hp := Real.exp_pos r
        have e : Real.exp (-r) = (Real.exp r)⁻¹ := Real.exp_neg r
        rw [neg_neg, e]; field_simp; ring
      rw [hmax, hpt]
      simp only [if_true]
      ring

end Cert.Proof.Alg
end
-- ==== Proof.AlgSum.lean ====
/-
What the SparseCore tiles add up, as one sum over the points of their segment.
-/
module

public import proofs.«01_k».proof.Proof.AlgElt
public import proofs.«01_k».proof.Proof.KIPay
public import Idealize.ShloMosaic.Lib.Pipeline.Value

@[expose] public section

noncomputable section

namespace Cert.Proof.Alg

open Idealize.ShloMosaic Cert.KernelIdeal Cert.KernelIdeal.Gen Cert.Proof.KI
open Finset (range)

/-! ## Sums over blocks -/

/-- A sum in blocks of `b` is the sum over the whole range. -/
theorem sum_blocks {M : Type*} [AddCommMonoid M] (f : ℕ → M) (b a : ℕ) :
    ∑ i ∈ range a, ∑ j ∈ range b, f (b * i + j) = ∑ n ∈ range (b * a), f n := by
  induction a with
  | zero => simp
  | succ a ih => rw [Finset.sum_range_succ, ih, Nat.mul_succ, Finset.sum_range_add]

/-! ## The weights of a point -/

/-- Whether a label is the class `c + 1`. -/
def hit (l : BitVec 32) (c : ℕ) : BitVec 1 := IntOp.cmpi .eq l (BitVec.ofNat 32 (c + 1))
/-- One for a labelled point, zero for another. -/
def cnt (l : BitVec 32) : EReal := num (IntOp.cmpi .sgt l 0#32)
/-- The three classes' losses of a point, as the SparseCore computes them. -/
def scPt (l : BitVec 32) (x : Fin 3 → EReal) : EReal := scElt (hit l 0) (x 0) + scElt (hit l 1) (x 1) + scElt (hit l 2) (x 2)

theorem two_thirds_eq : cTwoThirds (F := Ideal) = ((2 / 3 : ℝ) : EReal) := IdealRules.named_const.ideal_named_scalar _ _ _ _ rfl
theorem two_fifths_eq : cTwoFifths (F := Ideal) = ((2 / 5 : ℝ) : EReal) := IdealRules.named_const.ideal_named_scalar _ _ _ _ rfl

theorem lossOf_apply (k : BitVec 32) (l : Vec Ideal S16 .i32) (p : Vec Ideal S16 .f32) (j : S16.Idx) :
    lossOf (F := Ideal) k l p j = scElt (IntOp.cmpi .eq (l j) k) (p j) := by
  unfold lossOf scElt
  simp only [shapeCast_self]
  show (Scalar.select _ (Ideal.ofBits .f32 0x3E800000#32) (Ideal.ofBits .f32 0x3F400000#32) * (_ * _)) * (max _ (Ideal.ofBits .f32 0x00000000#32) + _ * (Ideal.ofBits .f32 0x40000000#32 + _ * (cTwoThirds (F := Ideal) + _ * cTwoFifths (F := Ideal)))) = _
  rw [two_thirds_eq, two_fifths_eq, ← b_quarter, ← b_threeq, ← b_two, ← b_one, ← b_zero]
  rfl

theorem posUpd_apply (a : FVec Ideal S16 .f32) (l : Vec Ideal S16 .i32) (j : S16.Idx) :
    posUpd (F := Ideal) a l j = a j + cnt (l j) := by
  unfold posUpd
  simp only [shapeCast_self]
  show a j + Scalar.select (IntOp.cmpi .sgt (l j) 0#32) (Ideal.ofBits .f32 0x3F800000#32) (Ideal.ofBits .f32 0x00000000#32) = _
  unfold cnt
  congr 1
  rw [b_one, b_zero]
  rcases bit_cases (IntOp.cmpi .sgt (l j) 0#32) with h | h <;> rw [h]
  · rw [num_zero]; rfl
  · rw [num_one]; rfl

variable (P : Fin 3 → ℕ → EReal) (L : ℕ → BitVec 32)

theorem group_fst (a : FVec Ideal S16 .f32 × FVec Ideal S16 .f32) (o : ℕ) (j : S16.Idx) :
    (group (F := Ideal) a (lanes L o) fun c => lanes (P c) o).1 j = a.1 j + scPt (L (o + (j 0).val)) (fun c => P c (o + (j 0).val)) := by
  show ((a.1 j + lossOf (F := Ideal) 1#32 (lanes L o) (lanes (P 0) o) j) + lossOf (F := Ideal) 2#32 (lanes L o) (lanes (P 1) o) j) + lossOf (F := Ideal) 3#32 (lanes L o) (lanes (P 2) o) j = _
  rw [lossOf_apply, lossOf_apply, lossOf_apply]
  unfold scPt
  rw [← add_assoc, ← add_assoc]
  rfl
theorem group_snd (a : FVec Ideal S16 .f32 × FVec Ideal S16 .f32) (o : ℕ) (j : S16.Idx) :
    (group (F := Ideal) a (lanes L o) fun c => lanes (P c) o).2 j = a.2 j + cnt (L (o + (j 0).val)) := posUpd_apply _ _ _

theorem trips_fst (a : FVec Ideal S16 .f32 × FVec Ideal S16 .f32) (k : ℕ) (j : S16.Idx) :
    (trips (F := Ideal) P L a k).1 j = a.1 j + ∑ g ∈ range (2 * k), scPt (L (16 * g + (j 0).val)) (fun c => P c (16 * g + (j 0).val)) := by
  induction k with
  | zero => simp [trips]
  | succ k ih =>
    show (trip (F := Ideal) P L k (trips (F := Ideal) P L a k)).1 j = _
    unfold trip
    rw [group_fst, group_fst, ih, show 2 * (k + 1) = 2 * k + 1 + 1 by ring, Finset.sum_range_succ, Finset.sum_range_succ, ← add_assoc, ← add_assoc,
      show 32 * k + 16 * 0 = 16 * (2 * k) by ring, show 32 * k + 16 * 1 = 16 * (2 * k + 1) by ring]
theorem trips_snd (a : FVec Ideal S16 .f32 × FVec Ideal S16 .f32) (k : ℕ) (j : S16.Idx) :
    (trips (F := Ideal) P L a k).2 j = a.2 j + ∑ g ∈ range (2 * k), cnt (L (16 * g + (j 0).val)) := by
  induction k with
  | zero => simp [trips]
  | succ k ih =>
    show (trip (F := Ideal) P L k (trips (F := Ideal) P L a k)).2 j = _
    unfold trip
    rw [group_snd, group_snd, ih, show 2 * (k + 1) = 2 * k + 1 + 1 by ring, Finset.sum_range_succ, Finset.sum_range_succ, ← add_assoc, ← add_assoc,
      show 32 * k + 16 * 0 = 16 * (2 * k) by ring, show 32 * k + 16 * 1 = 16 * (2 * k + 1) by ring]

theorem chunks_fst (Q : ℕ → Fin 3 → ℕ → EReal) (N : ℕ → ℕ → BitVec 32) (k : ℕ) (j : S16.Idx) :
    (chunks (F := Ideal) Q N k).1 j = ∑ c ∈ range k, ∑ g ∈ range 128, scPt (N c (16 * g + (j 0).val)) (fun i => Q c i (16 * g + (j 0).val)) := by
  induction k with
  | zero => exact b_zero
  | succ k ih =>
    show (trips (F := Ideal) (Q k) (N k) (chunks (F := Ideal) Q N k) 64).1 j = _
    rw [trips_fst, ih]
    exact (Finset.sum_range_succ _ k).symm
theorem chunks_snd (Q : ℕ → Fin 3 → ℕ → EReal) (N : ℕ → ℕ → BitVec 32) (k : ℕ) (j : S16.Idx) :
    (chunks (F := Ideal) Q N k).2 j = ∑ c ∈ range k, ∑ g ∈ range 128, cnt (N c (16 * g + (j 0).val)) := by
  induction k with
  | zero => exact b_zero
  | succ k ih =>
    show (trips (F := Ideal) (Q k) (N k) (chunks (F := Ideal) Q N k) 64).2 j = _
    rw [trips_snd, ih]
    exact (Finset.sum_range_succ _ k).symm

/-! ## A segment -/

variable (a : S983040.Idx → EReal) (b : S1048576.Idx → BitVec 32) (base : ℕ)

/-- Tiles, lanes, chunks and groups together run over the points of a segment once. -/
theorem tiles_sum {M : Type*} [AddCommMonoid M] (f : ℕ → M) :
    ∑ w ∈ range 32, ∑ l ∈ range 16, ∑ c ∈ range 5, ∑ g ∈ range 128, f (10240 * w + 2048 * c + (16 * g + l)) = ∑ n ∈ range 327680, f n := by
  have h : ∀ w ∈ range 32, (∑ l ∈ range 16, ∑ c ∈ range 5, ∑ g ∈ range 128, f (10240 * w + 2048 * c + (16 * g + l))) = ∑ n ∈ range 10240, f (10240 * w + n) := by
    intro w _
    rw [Finset.sum_comm, show (10240 : ℕ) = 2048 * 5 by norm_num, ← sum_blocks (fun n => f (2048 * 5 * w + n)) 2048 5]
    refine Finset.sum_congr rfl fun c _ => ?_
    rw [Finset.sum_comm, show (2048 : ℕ) = 16 * 128 by norm_num, ← sum_blocks (fun n => f (16 * 128 * 5 * w + (16 * 128 * c + n))) 16 128]
    refine Finset.sum_congr rfl fun g _ => Finset.sum_congr rfl fun l _ => congrArg f (by ring)
  rw [Finset.sum_congr rfl h, sum_blocks f 10240 32]

theorem lane_val (n : ℕ) (l : ℕ) (h : l < 16) : (lane (16 * n + l) 0).val = l := by
  show (16 * n + l) % 16 = l
  omega

/-- The words of a call's output that hold losses add up to the segment's loss. -/
theorem outAt_loss : ∑ n ∈ range 512, outAt (F := Ideal) a b base n
    = ∑ n ∈ range 327680, scPt (extL b (n + base)) (fun c => ext (F := Ideal) a (327680 * c.val + n)) := by
  rw [← tiles_sum, ← sum_blocks _ 16 32]
  refine Finset.sum_congr rfl fun w hw => Finset.sum_congr rfl fun l hl => ?_
  have hw := Finset.mem_range.1 hw
  have hl := Finset.mem_range.1 hl
  unfold outAt
  rw [if_pos (by omega)]
  unfold tileOut
  rw [chunks_fst, show (16 * w + l) / 16 = w by omega, lane_val _ _ hl]
  refine Finset.sum_congr rfl fun c _ => Finset.sum_congr rfl fun g _ => ?_
  unfold cutN cutP
  rw [show 10240 * w + base + 2048 * c + (16 * g + l) = 10240 * w + 2048 * c + (16 * g + l) + base by ring]
  refine congrArg _ (funext fun i => congrArg _ (by ring))

/-- The others add up to its count. -/
theorem outAt_cnt : ∑ n ∈ range 512, outAt (F := Ideal) a b base (512 + n) = ∑ n ∈ range 327680, cnt (extL b (n + base)) := by
  rw [← tiles_sum, ← sum_blocks (fun n => outAt (F := Ideal) a b base (512 + n)) 16 32]
  refine Finset.sum_congr rfl fun w hw => Finset.sum_congr rfl fun l hl => ?_
  have hw := Finset.mem_range.1 hw
  have hl := Finset.mem_range.1 hl
  unfold outAt
  rw [if_neg (by omega), show 512 + (16 * w + l) - 512 = 16 * w + l by omega]
  unfold tileOut
  rw [chunks_snd, show (16 * w + l) / 16 = w by omega, lane_val _ _ hl]
  refine Finset.sum_congr rfl fun c _ => Finset.sum_congr rfl fun g _ => ?_
  unfold cutN
  rw [show 10240 * w + base + 2048 * c + (16 * g + l) = 10240 * w + 2048 * c + (16 * g + l) + base by ring]

end Cert.Proof.Alg
end
-- ==== Proof.AlgTc.lean ====
/-
What the TensorCore's blocks add up, and what the last call makes of the parts.
-/
module

public import proofs.«01_k».proof.Proof.AlgSum
public import proofs.«01_k».proof.Proof.KIDat
public import Idealize.ShloMosaic.Lib.ValueIdx
public import Idealize.ShloMosaic.Lib.ValueIdxRank1
public import Idealize.ShloMosaic.Lib.ValueLayout

@[expose] public section

set_option maxRecDepth 16384

noncomputable section

namespace Cert.Proof.Alg

open Idealize.ShloMosaic Cert.KernelIdeal Cert.KernelIdeal.Gen Cert.Proof.KI
open Idealize.ShloMosaic.ValueIdx
open Finset (range)

/-- A reshaped array has the sum of the array. -/
theorem sum_cast {s t : Shape} (v : s.Idx → EReal) (h : s.ShapeCasts t) : ∑ i, shapeCast t v h i = ∑ i, v i :=
  Fintype.sum_equiv (Shape.reshapeEquiv h) _ _ fun _ => rfl

/-- The sum of a whole array as the kernels take it. -/
theorem total {s u : Shape} {axes : List (Fin u.rank)} (v : s.Idx → EReal) (hc : s.ShapeCasts u) (acc : BitVec 32) (h : u.Reduces axes S1) (hφ : FKind.Formats .f32)
    (hacc : acc = FKind.add.neutral .f32 hφ) (hd : S1.ShapeCasts S1x1x1) (hp : ∀ x, (![0, 0, 0] : Fin 3 → ℕ) x < S1x1x1.size x) :
    extractAt (s := S1x1x1) ![0, 0, 0] (shapeCast S1x1x1 (multiReduction (F := Ideal) .add axes S1 (shapeCast u v hc : FVec Ideal u .f32) acc h hφ hacc) hd) hp = ∑ i, v i := by
  unfold extractAt
  show multiReduction (F := Ideal) .add axes S1 _ acc h hφ hacc (Shape.reshapeEquiv hd _) = _
  rw [Ideal.multiReduction_add_total _ _ _ (fun b => by fin_cases b; rfl), sum_cast]

theorem pay1_apply (M : FVec Ideal S3x16384 .f32) (v : Vec Ideal S1x1 .f32) (j : S1x1.Idx) : k2_pay1 (F := Ideal) M v j = v j + ∑ i, M i := by
  show shapeCast S1x1 v shapeCasts_S1x1_S1x1 j + extractAt (s := S1x1x1) ![0, 0, 0] _ _ = _
  rw [shapeCast_self]
  exact congrArg (v j + ·) (total M _ _ _ _ _ _ _)

/-- The number of a bit widened to a word. -/
theorem num_word (b : BitVec 1) : (FloatOps.sitofp (F := Ideal) .f32 (b.setWidth 32) : EReal) = num b := by
  show ((BitVec.toInt (b.setWidth 32) : ℝ) : EReal) = num b
  rcases bit_cases b with rfl | rfl
  · simp [num]
  · simp [num]

theorem pay2_apply (l : IVec S1x16384 32) (v : Vec Ideal S1x1 .f32) (j : S1x1.Idx) : k2_pay2 (F := Ideal) l v j = v j + ∑ i, cnt (l i) := by
  show shapeCast S1x1 v shapeCasts_S1x1_S1x1 j + extractAt (s := S1x1x1) ![0, 0, 0] _ _ = _
  rw [shapeCast_self]
  refine congrArg (v j + ·) ((total _ _ _ _ _ _ _ _).trans (Finset.sum_congr rfl fun i _ => ?_))
  exact num_word _

theorem class_iota (c : Fin 3) (k : Fin 16384) :
    addi (iota .tc S3x16384 32 [0] iota_S3x16384_d0_w32) (broadcast S3x16384 1#32) (ix2 c k) = BitVec.ofNat 32 (c.val + 1) := by
  show BitVec.ofNat 32 (0 * 3 + c.val) + 1#32 = _
  fin_cases c <;> rfl

theorem label_row (l : IVec S1x16384 32) (c : Fin 3) (k : Fin 16384) : broadcastTo S3x16384 l broadcasts_S1x16384_S3x16384 (ix2 c k) = l (ix2 0 k) := by
  unfold broadcastTo
  refine congrArg l (funext fun x => ?_)
  match x with
  | ⟨0, _⟩ => rfl
  | ⟨1, _⟩ => rfl

theorem pay6_apply (x : Vec Ideal S3x16384 .f32) (l : Vec Ideal S1x16384 .i32) (c : Fin 3) (k : Fin 16384) :
    k2_pay6 (F := Ideal) x l (ix2 c k) = tcElt (hit (l (ix2 0 k)) c.val) (x (ix2 c k)) := by
  unfold k2_pay6 k2_pay5
  simp only [shapeCast_self]
  have ht : (sitofp .f32 (extui 32 (cmpi .eq (broadcastTo S3x16384 l broadcasts_S1x16384_S3x16384) (addi (iota .tc S3x16384 32 [0] iota_S3x16384_d0_w32) (broadcast S3x16384 1#32))) natLt_1_32) : FVec Ideal S3x16384 .f32) (ix2 c k)
      = num (hit (l (ix2 0 k)) c.val) := by
    refine (num_word _).trans (congrArg num ?_)
    show IntOp.cmpi .eq (broadcastTo S3x16384 l broadcasts_S1x16384_S3x16384 (ix2 c k)) (addi (iota .tc S3x16384 32 [0] iota_S3x16384_d0_w32) (broadcast S3x16384 1#32) (ix2 c k)) = _
    rw [label_row, class_iota]; rfl
  unfold tcElt
  rw [← ht, ← b_quarter, ← b_threeq, ← b_one, ← b_zero]
  rfl

/-- The block's labels and predictions, summed by point. -/
def tcBlk (x : Vec Ideal S3x16384 .f32) (l : Vec Ideal S1x16384 .i32) : EReal := ∑ k : Fin 16384, ∑ c : Fin 3, tcElt (hit (l (ix2 0 k)) c.val) (x (ix2 c k))
def cntBlk (l : Vec Ideal S1x16384 .i32) : EReal := ∑ k : Fin 16384, cnt (l (ix2 0 k))

theorem pay6_sum (x : Vec Ideal S3x16384 .f32) (l : Vec Ideal S1x16384 .i32) : ∑ i, k2_pay6 (F := Ideal) x l i = tcBlk x l := by
  rw [sum_idx2, Finset.sum_comm]
  exact Finset.sum_congr rfl fun k _ => Finset.sum_congr rfl fun c _ => pay6_apply x l c k
theorem pay5_sum (l : Vec Ideal S1x16384 .i32) : ∑ i, cnt (k2_pay5 (F := Ideal) l i) = cntBlk l := by
  rw [sum_idx2]
  simp only [Finset.univ_unique, Finset.sum_singleton]
  refine Finset.sum_congr rfl fun k _ => ?_
  unfold k2_pay5
  rw [shapeCast_self]
  rfl

theorem accL_apply (x : ℕ → Vec Ideal S3x16384 .f32) (l : ℕ → Vec Ideal S1x16384 .i32) (n : ℕ) (j : S1x1.Idx) :
    accL (F := Ideal) x l n j = ∑ t ∈ range (n + 1), tcBlk (x t) (l t) := by
  induction n with
  | zero =>
    show k2_pay1 (F := Ideal) _ _ j = _
    rw [pay1_apply, pay6_sum, Finset.sum_range_one, show k2_pay3 (F := Ideal) j = 0 from b_zero, zero_add]
  | succ n ih =>
    show k2_pay1 (F := Ideal) _ _ j = _
    rw [pay1_apply, pay6_sum, ih]
    exact (Finset.sum_range_succ _ (n + 1)).symm
theorem accP_apply (l : ℕ → Vec Ideal S1x16384 .i32) (n : ℕ) (j : S1x1.Idx) :
    accP (F := Ideal) l n j = ∑ t ∈ range (n + 1), cntBlk (l t) := by
  induction n with
  | zero =>
    show k2_pay2 (F := Ideal) _ _ j = _
    rw [pay2_apply, pay5_sum, Finset.sum_range_one, show k2_pay4 (F := Ideal) j = 0 from b_zero, zero_add]
  | succ n ih =>
    show k2_pay2 (F := Ideal) _ _ j = _
    rw [pay2_apply, pay5_sum, ih]
    exact (Finset.sum_range_succ _ (n + 1)).symm

/-! ## The last call -/

/-- Four rows of the parts, from row `r`. -/
def rows4 (v : Vec Ideal S8x128 .f32) (r : ℕ) (h : r + 4 ≤ 8) : EReal := ∑ a : Fin 4, ∑ b : Fin 128, v (ix2 ⟨r + a.val, by omega⟩ b)

theorem slice4 (v : Vec Ideal S8x128 .f32) (r : ℕ) (h : r + 4 ≤ 8) (hs : S8x128.Slices ![r, 0] S4x128) :
    ∑ i, extractStridedSlice S4x128 ![r, 0] v hs i = rows4 v r h := by
  rw [sum_idx2]
  refine Finset.sum_congr rfl fun a _ => Finset.sum_congr rfl fun b _ => ?_
  unfold extractStridedSlice
  refine congrArg v (funext fun x => ?_)
  match x with
  | ⟨0, _⟩ => rfl
  | ⟨1, _⟩ => exact Fin.ext (Nat.zero_add _)

theorem pay3_apply (s q : Vec Ideal S1x1 .f32) (u v : Vec Ideal S8x128 .f32) (j : S1x1.Idx) :
    k3_pay1 (F := Ideal) s q u v j = Ideal.div (s (ix2 0 0) + rows4 u 0 (by decide) + rows4 v 0 (by decide)) (max (q (ix2 0 0) + rows4 u 4 (by decide) + rows4 v 4 (by decide)) ((1 : ℝ) : EReal)) := by
  rw [← slice4 u 0 _ slices_S8x128_o0_0_S4x128, ← slice4 v 0 _ slices_S8x128_o0_0_S4x128, ← slice4 u 4 _ slices_S8x128_o4_0_S4x128, ← slice4 v 4 _ slices_S8x128_o4_0_S4x128,
    ← total _ shapeCasts_S4x128_S1x4x128 _ reduces_S1x4x128_S1 (.inl rfl) rfl shapeCasts_S1_S1x1x1 inpos_S1x1x1_p0_0_0,
    ← total _ shapeCasts_S4x128_S1x4x128 _ reduces_S1x4x128_S1 (.inl rfl) rfl shapeCasts_S1_S1x1x1 inpos_S1x1x1_p0_0_0,
    ← total _ shapeCasts_S4x128_S1x4x128 _ reduces_S1x4x128_S1 (.inl rfl) rfl shapeCasts_S1_S1x1x1 inpos_S1x1x1_p0_0_0,
    ← total _ shapeCasts_S4x128_S1x4x128 _ reduces_S1x4x128_S1 (.inl rfl) rfl shapeCasts_S1_S1x1x1 inpos_S1x1x1_p0_0_0, ← b_one]
  unfold k3_pay1
  simp only [shapeCast_self]
  have hx : ∀ w : Vec Ideal S1x1 .f32, extractAt ![0, 0] w inpos_S1x1_p0_0 = w (ix2 0 0) := fun w => by
    unfold extractAt
    refine congrArg w (funext fun x => ?_)
    match x with
    | ⟨0, _⟩ => rfl
    | ⟨1, _⟩ => rfl
  rw [hx, hx]
  rfl

end Cert.Proof.Alg
end
-- ==== Proof.AlgRef.lean ====
/-
The reference's result: the losses of all points, over the number of labelled ones.
-/
module

public import proofs.«01_k».proof.Proof.AlgSum
public import proofs.«01_k».proof.Proof.Gen.ReferenceIdeal
public import proofs.«01_k».proof.Proof.Gen.ReferenceIdeal.Run
public import Idealize.ShloMosaic.Lib.StableHlo.Predicate
public import Idealize.ShloMosaic.Lib.ValueIdx
public import Idealize.ShloMosaic.Lib.ValueIdxRank1

@[expose] public section

set_option maxRecDepth 16384

noncomputable section

namespace Cert.Proof.Alg

open Idealize.ShloMosaic Cert.ReferenceIdeal Cert.ReferenceIdeal.Gen Cert.ReferenceIdeal.Value
open Idealize.ShloMosaic.ValueIdx
open Cert.Proof.KI (extL extL_eq)
open Finset (range)

/-- Class `c`'s prediction at point `n`. -/
def px (A : S1048576x3.Idx → EReal) (n : ℕ) (c : Fin 3) : EReal := A (ix2 ⟨n % 1048576, Nat.mod_lt _ (by decide)⟩ c)

/-- The logarithm the loss of point `n` takes. -/
def lgAt (n : ℕ) (x : EReal) : EReal := if n < 655360 then series (ex x) else Ideal.log1p (ex x)
/-- The three classes' losses of point `n`. -/
def refPt (A : S1048576x3.Idx → EReal) (B : S1048576.Idx → BitVec 32) (n : ℕ) : EReal :=
  ∑ c : Fin 3, refElt (hit (extL B n) c.val) (px A n c) (lgAt n (px A n c))

variable (A : S1048576x3.Idx → EReal) (B : S1048576.Idx → BitVec 32)

theorem px_val (a : Fin 1048576) (c : Fin 3) : px A a.val c = A (ix2 a c) := by
  unfold px; congr 2; exact Fin.ext (Nat.mod_eq_of_lt a.isLt)
theorem extL_val (a : Fin 1048576) : extL B a.val = B (ix1 a) := (extL_eq B (ix1 a)).symm

/-! ## The labelled points -/

theorem cnt_eq (l : BitVec 32) : cnt l = (((if IntOp.cmpi .sgt l 0#32 = 1#1 then 1 else 0 : ℕ) : ℝ) : EReal) := by
  unfold cnt num
  rcases bit_cases (IntOp.cmpi .sgt l 0#32) with h | h <;> rw [h] <;> simp

/-- The number of labelled points. -/
def nPos : ℕ := ∑ n ∈ range 1048576, if IntOp.cmpi .sgt (extL B n) 0#32 = 1#1 then 1 else 0

theorem sum_coe (f : ℕ → ℕ) (k : ℕ) : ∑ n ∈ range k, (((f n : ℕ) : ℝ) : EReal) = (((∑ n ∈ range k, f n : ℕ) : ℝ) : EReal) := by
  induction k with
  | zero => simp
  | succ k ih => rw [Finset.sum_range_succ, Finset.sum_range_succ, ih, ← EReal.coe_add, Nat.cast_add]

theorem cnt_sum : ∑ n ∈ range 1048576, cnt (extL B n) = ((nPos B : ℝ) : EReal) := by
  simp only [cnt_eq]
  exact sum_coe _ _

theorem nPos_le : nPos B ≤ 1048576 := by
  refine (Finset.sum_le_card_nsmul _ _ 1 fun n _ => by split <;> omega).trans ?_
  simp

theorem sum_idx1 {M : Type*} [AddCommMonoid M] {n : ℕ} (f : (⟨1, ![n]⟩ : Shape).Idx → M) : ∑ i, f i = ∑ a : Fin n, f (ix1 a) := by
  rw [← Equiv.sum_comp (idxEquiv1 (n := n)).symm f]; rfl

theorem count_eq (j : S_.Idx) :
    FloatOps.sitofp (F := Ideal) .f32 (Host.reduce IntOp.addi (extui 32 (cmpi .sgt B (broadcastInDim S1048576 ![] Facts₀.bcast_S_S1048576 (constantI S_ 32 0#32))) natLt_1_32) (constantI S_ 32 0#32) Facts₀.reducesTo_S1048576_S_d0 Facts₀.h_S_ j)
      = ((nPos B : ℝ) : EReal) := by
  have hN : (Host.reduce IntOp.addi (extui 32 (cmpi .sgt B (broadcastInDim S1048576 ![] Facts₀.bcast_S_S1048576 (constantI S_ 32 0#32))) natLt_1_32) (constantI S_ 32 0#32) Facts₀.reducesTo_S1048576_S_d0 Facts₀.h_S_ j).toNat = nPos B := by
    classical
    rw [Host.reduce_eq_fold, Finset.filter_true_of_mem fun i _ => funext fun b => b.elim0]
    have hs : ∑ i : S1048576.Idx, (extui 32 (cmpi .sgt B (broadcastInDim S1048576 ![] Facts₀.bcast_S_S1048576 (constantI S_ 32 0#32))) natLt_1_32 i).toNat = nPos B := by
      rw [sum_idx1, nPos, ← Fin.sum_univ_eq_sum_range (fun n => if IntOp.cmpi .sgt (extL B n) 0#32 = 1#1 then 1 else 0) 1048576]
      refine Finset.sum_congr rfl fun a _ => ?_
      rw [extL_val]
      exact StableHlo.Predicate.toNat_setWidth_bit _
    show (Finset.fold IntOp.addi 0#32 _ Finset.univ).toNat = _
    rw [StableHlo.Predicate.toNat_fold_addi _ _ (by rw [hs]; exact lt_of_le_of_lt (nPos_le B) (by norm_num)), hs]
  have hI : (Host.reduce IntOp.addi (extui 32 (cmpi .sgt B (broadcastInDim S1048576 ![] Facts₀.bcast_S_S1048576 (constantI S_ 32 0#32))) natLt_1_32) (constantI S_ 32 0#32) Facts₀.reducesTo_S1048576_S_d0 Facts₀.h_S_ j).toInt = (nPos B : ℤ) := by
    have := nPos_le B
    rw [BitVec.toInt_eq_toNat_of_lt (by rw [hN]; omega), hN]
  show ((BitVec.toInt _ : ℝ) : EReal) = _
  rw [hI, Int.cast_natCast]

/-! ## One entry of the reference's array -/

section Entry
variable {α : Type} (a : Fin 1048576) (c : Fin 3)

theorem rows_apply (v : S1048576.Idx → α) : broadcastInDim S1048576x3 ![0, 1] Facts₀.bcast_S1048576x1_S1048576x3_0_1 (broadcastInDim S1048576x1 ![0] Facts₀.bcast_S1048576_S1048576x1_0 v) (ix2 a c) = v (ix1 a) := by
  refine Eq.trans (congrArg _ ?_) ((StableHlo.Predicate.bcast_rows _ _ v a c).trans (congrArg v ?_))
  · funext x; match x with | ⟨0, _⟩ => rfl | ⟨1, _⟩ => rfl
  · funext x; match x with | ⟨0, _⟩ => rfl
theorem cols_apply (v : S3.Idx → α) : broadcastInDim S1048576x3 ![0, 1] Facts₀.bcast_S1x3_S1048576x3_0_1 (broadcastInDim S1x3 ![1] Facts₀.bcast_S3_S1x3_1 v) (ix2 a c) = v (ix1 c) := by
  refine Eq.trans (congrArg _ ?_) ((StableHlo.Predicate.bcast_cols _ _ v a c).trans (congrArg v ?_))
  · funext x; match x with | ⟨0, _⟩ => rfl | ⟨1, _⟩ => rfl
  · funext x; match x with | ⟨0, _⟩ => rfl
theorem col_apply (v : S1048576x1.Idx → α) : broadcastInDim S1048576x3 ![0, 1] Facts₀.bcast_S1048576x1_S1048576x3_0_1 v (ix2 a c) = v (ix2 a 0) := by
  refine Eq.trans (congrArg _ ?_) ((StableHlo.Predicate.bcast_of_col _ v a c).trans (congrArg v ?_))
  · funext x; match x with | ⟨0, _⟩ => rfl | ⟨1, _⟩ => rfl
  · funext x; match x with | ⟨0, _⟩ => rfl | ⟨1, _⟩ => rfl
theorem col1_apply (v : S1048576.Idx → α) : broadcastInDim S1048576x1 ![0] Facts₀.bcast_S1048576_S1048576x1_0 v (ix2 a 0) = v (ix1 a) := by
  refine Eq.trans (congrArg _ ?_) ((StableHlo.Predicate.bcast_col1 _ v a).trans (congrArg v ?_))
  · funext x; match x with | ⟨0, _⟩ => rfl | ⟨1, _⟩ => rfl
  · funext x; match x with | ⟨0, _⟩ => rfl
theorem scal_apply {t : Shape} (h : S_.BroadcastsInDim t ![]) (v : S_.Idx → α) (j : t.Idx) : broadcastInDim t ![] h v j = v ix0 := by
  unfold broadcastInDim; exact congrArg v (funext fun x => x.elim0)
end Entry

theorem series_pt (n : ℕ) (hn : n < 1048576) (u v : EReal) : Scalar.select (IntOp.cmpi .slt (BitVec.ofNat 32 n) 655360#32) u v = if n < 655360 then u else v := by
  have h : IntOp.cmpi .slt (BitVec.ofNat 32 n) 655360#32 = BitVec.ofBool (decide (n < 655360)) := by
    show BitVec.ofBool (BitVec.slt _ _) = _
    congr 1
    unfold BitVec.slt
    rw [BitVec.toInt_eq_toNat_of_lt (by rw [BitVec.toNat_ofNat]; omega), BitVec.toNat_ofNat, Nat.mod_eq_of_lt (by omega), show BitVec.toInt 655360#32 = 655360 by decide]
    congr 1
    exact propext (by omega)
  rw [h]
  by_cases hh : n < 655360 <;> simp [Scalar.select, hh]

/-- A label's class weight is one. -/
theorem weight_one (l : BitVec 32) (h : 0 ≤ l.toInt) : num (IntOp.cmpi .eq l 0#32) + ((1 : ℝ) : EReal) * num (IntOp.cmpi .sgt l 0#32) = ((1 : ℝ) : EReal) := by
  by_cases h0 : l = 0#32
  · subst h0
    rw [show IntOp.cmpi .eq (0#32) 0#32 = 1#1 by decide, show IntOp.cmpi .sgt (0#32) 0#32 = 0#1 by decide, num_one, num_zero, mul_zero, add_zero]; rfl
  · have hp : 0 < l.toInt := lt_of_le_of_ne h fun e => h0 (BitVec.eq_of_toInt_eq (by rw [← e]; rfl))
    have e1 : IntOp.cmpi .eq l 0#32 = 0#1 := by
      show BitVec.ofBool (l == 0#32) = _
      rw [beq_eq_false_iff_ne.2 h0]; rfl
    have e2 : IntOp.cmpi .sgt l 0#32 = 1#1 := by
      show BitVec.ofBool (BitVec.slt 0#32 l) = _
      unfold BitVec.slt
      rw [show BitVec.toInt 0#32 = 0 by decide, decide_eq_true hp]; rfl
    rw [e1, e2, num_one, num_zero, zero_add, mul_one]

/-- The factor every loss of the reference carries. -/
def wgt : EReal := Ideal.div ((1 : ℝ) : EReal) (max ((nPos B : ℝ) : EReal) ((1 : ℝ) : EReal))

theorem host_sum (X : FVec Ideal S1048576x3 .f32) (j : S_.Idx) :
    mulf (Host.reduceAdd X (constant S_ .f32 0x00000000#32) Facts₀.reducesTo_S1048576x3_S_d0_1 Facts₀.h_S_) (constant S_ .f32 0x3F800000#32) j
      = ∑ a : Fin 1048576, ∑ c : Fin 3, X (ix2 a c) := by
  show Ideal.hostReduceAdd Facts₀.reducesTo_S1048576x3_S_d0_1 X (Ideal.ofBits .f32 0x00000000#32) j * Ideal.ofBits .f32 0x3F800000#32 = _
  rw [Ideal.hostReduceAdd_total _ (fun b => b.elim0), b_zero, zero_add, b_one, EReal.coe_one, mul_one, sum_idx2]

theorem wgt_real : ∃ r : ℝ, 0 ≤ r ∧ wgt B = (r : EReal) ∧ ∀ x, Ideal.div x (max ((nPos B : ℝ) : EReal) ((1 : ℝ) : EReal)) = x * (r : EReal) := by
  have h : (0 : ℝ) < max (nPos B : ℝ) 1 := lt_of_lt_of_le one_pos (le_max_right _ _)
  refine ⟨1 / max (nPos B : ℝ) 1, by positivity, ?_, fun x => ?_⟩
  · unfold wgt
    rw [max_coe, Ideal.div_coe h.ne', ← EReal.coe_mul, one_mul]
  · rw [max_coe, Ideal.div_coe h.ne']

/-- A nonnegative real factor goes into a sum. -/
theorem sum_mul_real {ι : Type} (s : Finset ι) (f : ι → EReal) (r : ℝ) (h : 0 ≤ r) : (∑ i ∈ s, f i) * (r : EReal) = ∑ i ∈ s, f i * (r : EReal) := by
  induction s using Finset.cons_induction with
  | empty => simp
  | cons a s ha ih =>
    rw [Finset.sum_cons, Finset.sum_cons, EReal.right_distrib_of_nonneg_of_ne_top (EReal.coe_nonneg.2 h) (EReal.coe_ne_top _), ih]

section Reads
variable {s : Shape} (x y : FVec Ideal s .f32) (i : s.Idx)
theorem hdivf_apply : Host.divf x y i = Ideal.div (x i) (y i) := rfl
theorem hexp_apply : Host.exp x i = Ideal.exp (x i) := rfl
theorem hnegf_apply : Host.negf x i = -(x i) := rfl
theorem habsf_apply : Host.absf x i = max (x i) (-(x i)) := rfl
theorem hpowf_apply : Host.powf x y i = Ideal.pow (x i) (y i) := rfl
theorem hlog1p_apply : Host.log1p x i = Ideal.log1p (x i) := rfl
theorem uitofp_bit (b : IVec s 1) : (uitofp .f32 b : FVec Ideal s .f32) i = num (b i) := rfl
theorem cmpi_apply (p : CmpIPredicate) (u v : IVec s 32) : cmpi p u v i = IntOp.cmpi p (u i) (v i) := rfl
theorem addi_apply (u v : IVec s 32) : addi u v i = IntOp.addi (u i) (v i) := rfl
theorem iotaInDim_apply (k : Fin s.rank) : iotaInDim s 32 k i = BitVec.ofNat 32 (i k).val := rfl
theorem constantI_apply (b : BitVec 32) : constantI s 32 b i = b := rfl
end Reads

theorem class_word (c : Fin 3) : IntOp.addi (1#32) (BitVec.ofNat 32 c.val) = BitVec.ofNat 32 (c.val + 1) := by
  fin_cases c <;> rfl

end Cert.Proof.Alg
end
-- ==== Proof.AlgRead.lean ====
/-
The kernel's result read off its final state: the last call's value of what the other calls left.
-/
module

public import proofs.«01_k».proof.Proof.AlgTc
public import proofs.«01_k».proof.Proof.AlgRef
public import proofs.«01_k».proof.Proof.KIMain
public import Idealize.ShloMosaic.Lib.Pipeline.ValueKit.Geometry

@[expose] public section

set_option maxRecDepth 16384

noncomputable section

namespace Cert.Proof.Alg

open Idealize.ShloMosaic Cert.KernelIdeal Cert.KernelIdeal.Gen Cert.Proof.KI
open Idealize.ShloMosaic.ValueIdx
open Idealize.ShloMosaic.Pipeline (Dat)
open Finset (range)

variable (m : (ℓ : Loc nD τ sig) → Buf (Elt Ideal) ℓ) (d : Dev nD)

/-- The predictions and the labels at launch. -/
def arrA : S1048576x3.Idx → EReal := m (d, Proc.devRef .tc main_arg0)
def arrB : S1048576.Idx → BitVec 32 := m (d, Proc.devRef .tc main_arg1)

/-! ## The arrays the calls are given -/

theorem V1_v0 : V1 m d (Proc.devRef .tc main_v0) = transpose S3x1048576 [1, 0] (arrA m d) transposes_S1048576x3_S3x1048576_1_0 := by
  unfold V1; rw [StableHlo.reshape_result_ne _ _ _ _ _ _ _ (by decide), StableHlo.unary_result_ne _ _ _ _ _ _ (by decide), StableHlo.unary_result']; rfl
theorem V1_arg1 : V1 m d (Proc.devRef .tc main_arg1) = arrB m d := by
  unfold V1; rw [StableHlo.reshape_result_ne _ _ _ _ _ _ _ (by decide), StableHlo.unary_result_ne _ _ _ _ _ _ (by decide), StableHlo.unary_result_ne _ _ _ _ _ _ (by decide)]; rfl
theorem V1_v2 : V1 m d (Proc.devRef .tc main_v2)
    = shapeCast S983040 (extractStridedSlice S3x327680 ![0, 0] (transpose S3x1048576 [1, 0] (arrA m d) transposes_S1048576x3_S3x1048576_1_0) slices_S3x1048576_S3x327680_0_0) shapeCasts_S3x327680_S983040 := by
  unfold V1; rw [StableHlo.reshape_result', StableHlo.unary_result', StableHlo.unary_result']; rfl

theorem V2_keep (r : Ref sig .tc) (h : r ≠ main_v3) : V2 m d (Proc.devRef .tc r) = V1 m d (Proc.devRef .tc r) := by
  unfold V2; rw [Function.update_of_ne (StableHlo.devRef_ne_of_ne h)]
theorem V3_keep (r : Ref sig .tc) (h4 : r ≠ main_v4) (h5 : r ≠ main_v5) : V3 m d (Proc.devRef .tc r) = V2 m d (Proc.devRef .tc r) := by
  unfold V3; rw [StableHlo.reshape_result_ne _ _ _ _ _ _ _ h5, StableHlo.unary_result_ne _ _ _ _ _ _ h4]
theorem V4_keep (r : Ref sig .tc) (h : r ≠ main_v6) : V4 m d (Proc.devRef .tc r) = V3 m d (Proc.devRef .tc r) := by
  unfold V4; rw [Function.update_of_ne (StableHlo.devRef_ne_of_ne h)]
theorem V5_keep (r : Ref sig .tc) (h : r ≠ main_v7) : V5 m d (Proc.devRef .tc r) = V4 m d (Proc.devRef .tc r) := by
  unfold V5; rw [StableHlo.reshape_result_ne _ _ _ _ _ _ _ h]

theorem V3_arg1 : V3 m d (Proc.devRef .tc main_arg1) = arrB m d := by
  rw [V3_keep m d _ (by decide) (by decide), V2_keep m d _ (by decide), V1_arg1]
theorem V3_v5 : V3 m d (Proc.devRef .tc main_v5)
    = shapeCast S983040 (extractStridedSlice S3x327680 ![0, 327680] (transpose S3x1048576 [1, 0] (arrA m d) transposes_S1048576x3_S3x1048576_1_0) slices_S3x1048576_S3x327680_0_327680) shapeCasts_S3x327680_S983040 := by
  have h := (V2_keep m d main_v0 (by decide)).trans (V1_v0 m d)
  unfold V3; rw [StableHlo.reshape_result', StableHlo.unary_result', h]; rfl
theorem V5_v0 : V5 m d (Proc.devRef .tc main_v0) = transpose S3x1048576 [1, 0] (arrA m d) transposes_S1048576x3_S3x1048576_1_0 := by
  rw [V5_keep m d _ (by decide), V4_keep m d _ (by decide), V3_keep m d _ (by decide) (by decide), V2_keep m d _ (by decide), V1_v0]
theorem V5_v7 : V5 m d (Proc.devRef .tc main_v7) = shapeCast S1x1048576 (arrB m d) shapeCasts_S1048576_S1x1048576 := by
  have h := (V4_keep m d main_arg1 (by decide)).trans (V3_arg1 m d)
  unfold V5; rw [StableHlo.reshape_result', h]; rfl
theorem V5_v3 : V5 m d (Proc.devRef .tc main_v3) = outOf (F := Ideal) (V1 m d (Proc.devRef .tc main_v2)) (arrB m d) 0 := by
  rw [V5_keep m d _ (by decide), V4_keep m d _ (by decide), V3_keep m d _ (by decide) (by decide)]
  unfold V2; rw [Function.update_self, V1_arg1]
theorem V5_v6 : V5 m d (Proc.devRef .tc main_v6) = outOf (F := Ideal) (V3 m d (Proc.devRef .tc main_v5)) (arrB m d) 327680 := by
  rw [V5_keep m d _ (by decide)]
  unfold V4; rw [Function.update_self, V3_arg1]

/-- A transposed prediction. -/
theorem row_px (c : Fin 3) (n : Fin 1048576) :
    transpose S3x1048576 [1, 0] (arrA m d) transposes_S1048576x3_S3x1048576_1_0 (ix2 c n) = px (arrA m d) n.val c :=
  (transpose_ix2_apply _ _ c n).trans (px_val _ n c).symm

theorem ext_cast (v : S3x327680.Idx → EReal) (c : Fin 3) (n : Fin 327680) :
    ext (F := Ideal) (shapeCast S983040 v shapeCasts_S3x327680_S983040) (327680 * c.val + n.val) = v (ix2 c n) := by
  unfold ext
  refine shapeCast_apply v _ _ (ix2 c n) ?_
  refine (Shape.rowMajor_val_two _).trans ((Shape.rowMajor_val_one _).trans ?_).symm
  show (327680 * c.val + n.val) % 983040 = c.val * 327680 + n.val
  have := c.isLt; have := n.isLt
  omega

theorem ext_first (c : Fin 3) (n : ℕ) (h : n < 327680) : ext (F := Ideal) (V1 m d (Proc.devRef .tc main_v2)) (327680 * c.val + n) = px (arrA m d) n c := by
  rw [V1_v2]
  refine (ext_cast _ c ⟨n, h⟩).trans ?_
  refine Eq.trans ?_ (row_px m d c ⟨n, by omega⟩)
  unfold extractStridedSlice
  refine congrArg _ (funext fun x => ?_)
  match x with
  | ⟨0, _⟩ => exact Fin.ext (Nat.zero_add _)
  | ⟨1, _⟩ => exact Fin.ext (Nat.zero_add _)
theorem ext_second (c : Fin 3) (n : ℕ) (h : n < 327680) : ext (F := Ideal) (V3 m d (Proc.devRef .tc main_v5)) (327680 * c.val + n) = px (arrA m d) (n + 327680) c := by
  rw [V3_v5]
  refine (ext_cast _ c ⟨n, h⟩).trans ?_
  refine Eq.trans ?_ (row_px m d c ⟨n + 327680, by omega⟩)
  unfold extractStridedSlice
  refine congrArg _ (funext fun x => ?_)
  match x with
  | ⟨0, _⟩ => exact Fin.ext (Nat.zero_add _)
  | ⟨1, _⟩ => exact Fin.ext (Nat.add_comm _ _)

/-! ## The blocks -/

theorem blk_word (n : ℕ) (h : n < 24) : (Scalar.addi 40#32 (BitVec.ofNat 32 (grid2.coords (pnt n) 0).val)).toNat = 40 + n := by
  rw [coords2 (pnt n), show (pnt n).val = n from Nat.mod_eq_of_lt h]
  show (40#32 + BitVec.ofNat 32 n).toNat = 40 + n
  rw [BitVec.toNat_add, BitVec.toNat_ofNat, BitVec.toNat_ofNat]
  omega

theorem blkP_apply (n : ℕ) (h : n < 24) (c : Fin 3) (k : Fin 16384) :
    blkP (V5 m d) n (ix2 c k) = px (arrA m d) (655360 + 16384 * n + k.val) c := by
  have hk := k.isLt
  refine Eq.trans ?_ (row_px m d c ⟨655360 + 16384 * n + k.val, by omega⟩)
  rw [← V5_v0]
  unfold blkP
  show V5 m d (Proc.devRef .tc main_v0) (((cfg2.win 0).blk (pnt n)).view.emb (ix2 c k)) = _
  refine congrArg _ (funext fun x => ?_)
  match x with
  | ⟨0, _⟩ =>
    refine Fin.ext ?_
    show 0 * 3 + 1 * c.val = c.val
    omega
  | ⟨1, _⟩ =>
    refine Fin.ext ?_
    show (Scalar.addi 40#32 (BitVec.ofNat 32 (grid2.coords (pnt n) 0).val)).toNat * 16384 + 1 * k.val = 655360 + 16384 * n + k.val
    rw [blk_word n h]
    omega
theorem blkL_apply (n : ℕ) (h : n < 24) (k : Fin 16384) :
    blkL (V5 m d) n (ix2 0 k) = extL (arrB m d) (655360 + 16384 * n + k.val) := by
  have hk := k.isLt
  refine Eq.trans ?_ (extL_val (arrB m d) ⟨655360 + 16384 * n + k.val, by omega⟩).symm
  refine Eq.trans ?_ (shapeCast_a_1a_apply (arrB m d) shapeCasts_S1048576_S1x1048576 0 ⟨655360 + 16384 * n + k.val, by omega⟩)
  rw [← V5_v7]
  unfold blkL
  show V5 m d (Proc.devRef .tc main_v7) (((cfg2.win 1).blk (pnt n)).view.emb (ix2 0 k)) = _
  refine congrArg _ (funext fun x => ?_)
  match x with
  | ⟨0, _⟩ => rfl
  | ⟨1, _⟩ =>
    refine Fin.ext ?_
    show (Scalar.addi 40#32 (BitVec.ofNat 32 (grid2.coords (pnt n) 0).val)).toNat * 16384 + 1 * k.val = 655360 + 16384 * n + k.val
    rw [blk_word n h]
    omega

/-! ## What the regions leave -/

instance one_word : Subsingleton S1x1.Idx := ⟨fun i j => funext fun x => by
  match x with
  | ⟨0, _⟩ => exact Subsingleton.elim (α := Fin 1) _ _
  | ⟨1, _⟩ => exact Subsingleton.elim (α := Fin 1) _ _⟩

theorem last_val (t : Fin cfg2.N) (h : t.val % 24 = 23) : t.val = 23 := by
  have h24 : t.val < 24 := N_2 ▸ t.isLt
  omega

theorem arr2_2 (W : Valuation τ sig (Elt Ideal)) : (dat2 W d).arrAt 2 cfg2.N = accL (F := Ideal) (blkP W) (blkL W) 23 :=
  (dat2 W d).arrAt_eq_of_cover 2 (accL (F := Ideal) (blkP W) (blkL W) 23)
    (fun t ht => funext fun y => by
      have e := last_val t ((flush2_2 t).mp ht)
      show accL (F := Ideal) (blkP W) (blkL W) t.val _ = accL (F := Ideal) (blkP W) (blkL W) 23 _
      rw [e]
      exact congrArg _ (one_word.elim _ _))
    (fun i => ⟨pnt 23, (flush2_2 _).mpr rfl, Finset.mem_map.mpr ⟨ix2 0 0, Finset.mem_univ _, one_word.elim _ _⟩⟩)
theorem arr2_3 (W : Valuation τ sig (Elt Ideal)) : (dat2 W d).arrAt 3 cfg2.N = accP (F := Ideal) (blkL W) 23 :=
  (dat2 W d).arrAt_eq_of_cover 3 (accP (F := Ideal) (blkL W) 23)
    (fun t ht => funext fun y => by
      have e := last_val t ((flush2_3 t).mp ht)
      show accP (F := Ideal) (blkL W) t.val _ = accP (F := Ideal) (blkL W) 23 _
      rw [e]
      exact congrArg _ (one_word.elim _ _))
    (fun i => ⟨pnt 23, (flush2_3 _).mpr rfl, Finset.mem_map.mpr ⟨ix2 0 0, Finset.mem_univ _, one_word.elim _ _⟩⟩)
/-- What the last call leaves of the arrays it is given. -/
def res3 (W : Valuation τ sig (Elt Ideal)) : Vec Ideal S1x1 .f32 :=
  k3_pay1 (F := Ideal) (W (Proc.devRef .tc main_v8_0)) (W (Proc.devRef .tc main_v8_1)) (W (Proc.devRef .tc main_v9)) (W (Proc.devRef .tc main_v10))
theorem after3_4 (W : Valuation τ sig (Elt Ideal)) (t : Fin cfg3.N) : (dat3 W d).after 4 t = res3 W := rfl
theorem flushed3_4 (W : Valuation τ sig (Elt Ideal)) (t : Fin cfg3.N) :
    (dat3 W d).flushed 4 t = ((cfg3.win 4).blk t).view.read (Elt Ideal) (res3 W) := by
  refine funext fun y => ?_
  rw [Dat.flushed_apply, after3_4]
  generalize res3 W = G
  exact congrArg G (one_word.elim _ _)
theorem cover3_4 (t : Fin cfg3.N) (i : S1x1.Idx) : i ∈ ((cfg3.win 4).blk t).view.set :=
  Finset.mem_map.mpr ⟨ix2 0 0, Finset.mem_univ _, one_word.elim _ _⟩
theorem arr3_4 (W : Valuation τ sig (Elt Ideal)) : (dat3 W d).arrAt 4 cfg3.N = res3 W :=
  (dat3 W d).arrAt_eq_of_cover 4 (res3 W) (fun t _ => flushed3_4 d W t)
    (fun i => ⟨⟨0, by show 0 < grid3.N; rw [N_3]; decide⟩, flush3_4 _, cover3_4 _ i⟩)

theorem V6_v8_0 : V6 m d (Proc.devRef .tc main_v8_0) = accL (F := Ideal) (blkP (V5 m d)) (blkL (V5 m d)) 23 :=
  (Pipeline.afterRegion_arr (dat2 (V5 m d) d) (V5 m d) (by decide) 2).trans (arr2_2 d _)
theorem V6_v8_1 : V6 m d (Proc.devRef .tc main_v8_1) = accP (F := Ideal) (blkL (V5 m d)) 23 :=
  (Pipeline.afterRegion_arr (dat2 (V5 m d) d) (V5 m d) (by decide) 3).trans (arr2_3 d _)
theorem V6_v3 : V6 m d (Proc.devRef .tc main_v3) = V5 m d (Proc.devRef .tc main_v3) := by
  unfold V6; rw [Pipeline.afterRegion_of_not_arr _ _ (by decide)]
theorem V6_v6 : V6 m d (Proc.devRef .tc main_v6) = V5 m d (Proc.devRef .tc main_v6) := by
  unfold V6; rw [Pipeline.afterRegion_of_not_arr _ _ (by decide)]
theorem V7_v8_0 : V7 m d (Proc.devRef .tc main_v8_0) = accL (F := Ideal) (blkP (V5 m d)) (blkL (V5 m d)) 23 := by
  unfold V7; rw [StableHlo.reshape_result_ne _ _ _ _ _ _ _ (by decide), StableHlo.reshape_result_ne _ _ _ _ _ _ _ (by decide), V6_v8_0]
theorem V7_v8_1 : V7 m d (Proc.devRef .tc main_v8_1) = accP (F := Ideal) (blkL (V5 m d)) 23 := by
  unfold V7; rw [StableHlo.reshape_result_ne _ _ _ _ _ _ _ (by decide), StableHlo.reshape_result_ne _ _ _ _ _ _ _ (by decide), V6_v8_1]
theorem V7_v9 : V7 m d (Proc.devRef .tc main_v9)
    = shapeCast S8x128 (outOf (F := Ideal) (V1 m d (Proc.devRef .tc main_v2)) (arrB m d) 0) shapeCasts_S1024_S8x128 := by
  unfold V7; rw [StableHlo.reshape_result_ne _ _ _ _ _ _ _ (by decide), StableHlo.reshape_result', V6_v3, V5_v3]; rfl
theorem V7_v10 : V7 m d (Proc.devRef .tc main_v10)
    = shapeCast S8x128 (outOf (F := Ideal) (V3 m d (Proc.devRef .tc main_v5)) (arrB m d) 327680) shapeCasts_S1024_S8x128 := by
  unfold V7; rw [StableHlo.reshape_result', StableHlo.reshape_result_ne _ _ _ _ _ _ _ (by decide), V6_v6, V5_v6]; rfl

theorem V9_v12 (j : S_.Idx) : V9 m d (Proc.devRef .tc main_v12) j
    = k3_pay1 (F := Ideal) (accL (F := Ideal) (blkP (V5 m d)) (blkL (V5 m d)) 23) (accP (F := Ideal) (blkL (V5 m d)) 23)
        (shapeCast S8x128 (outOf (F := Ideal) (V1 m d (Proc.devRef .tc main_v2)) (arrB m d) 0) shapeCasts_S1024_S8x128)
        (shapeCast S8x128 (outOf (F := Ideal) (V3 m d (Proc.devRef .tc main_v5)) (arrB m d) 327680) shapeCasts_S1024_S8x128) (ix2 0 0) := by
  rw [← V7_v8_0 m d, ← V7_v8_1 m d, ← V7_v9 m d, ← V7_v10 m d]
  show _ = res3 (V7 m d) (ix2 0 0)
  rw [← arr3_4 d (V7 m d)]
  have h : V8 m d (Proc.devRef .tc main_v11) = (dat3 (V7 m d) d).arrAt 4 cfg3.N :=
    Pipeline.afterRegion_arr (dat3 (V7 m d) d) (V7 m d) (by decide) 4
  unfold V9; rw [StableHlo.reshape_result', h]
  show shapeCast S_ _ shapeCasts_S1x1_S_ j = _
  unfold shapeCast
  exact congrArg _ (one_word.elim _ _)

end Cert.Proof.Alg
end
-- ==== Proof.AlgOut.lean ====
/-
The reference's array, entry by entry.
-/
module

public import proofs.«01_k».proof.Proof.AlgRef
public import proofs.«01_k».proof.Proof.Gen.ReferenceIdeal
public import proofs.«01_k».proof.Proof.Gen.ReferenceIdeal.Run
public import Idealize.ShloMosaic.Lib.StableHlo.Predicate
public import Idealize.ShloMosaic.Lib.ValueIdx
public import Idealize.ShloMosaic.Lib.ValueIdxRank1

@[expose] public section

set_option maxRecDepth 16384

noncomputable section

namespace Cert.Proof.Alg

open Idealize.ShloMosaic Cert.ReferenceIdeal Cert.ReferenceIdeal.Gen Cert.ReferenceIdeal.Value
open Idealize.ShloMosaic.ValueIdx
open Cert.Proof.KI (extL extL_eq)
open Finset (range)

variable (A : S1048576x3.Idx → EReal) (B : S1048576.Idx → BitVec 32)
variable (m : (ℓ : Loc nD τ sig) → Buf (Elt Ideal) ℓ) (d : Dev nD)

theorem ref_sum (hA : m ((d.tc : Thread nD τ).loc main_arg0) = A) (hB : m ((d.tc : Thread nD τ).loc main_arg1) = B) (hpos : ∀ i, 0 ≤ (B i).toInt) (j : S_.Idx) :
    res_out0 (F := Ideal) m d j = ∑ n ∈ range 1048576, refPt A B n * wgt B := by
  unfold res_out0 res_main_v83
  rw [hA, hB]
  refine (host_sum _ j).trans ?_
  rw [← Fin.sum_univ_eq_sum_range (fun n => refPt A B n * wgt B) 1048576]
  refine Finset.sum_congr rfl fun a _ => ?_
  obtain ⟨r, hr, hw, -⟩ := wgt_real B
  unfold refPt
  rw [hw, sum_mul_real _ _ _ hr, ← hw]
  refine Finset.sum_congr rfl fun c _ => ?_
  rw [px_val, extL_val]
  simp only [mulf_apply, addf_apply, subf_apply, maximumf_apply, hdivf_apply, hexp_apply, hnegf_apply, habsf_apply, hpowf_apply, hlog1p_apply, uitofp_bit, select_apply, cmpi_apply]
  repeat rw [rows_apply]
  repeat rw [cols_apply]
  rw [col_apply]
  simp only [mulf_apply, addf_apply, hdivf_apply, uitofp_bit, cmpi_apply, addi_apply, iotaInDim_apply]
  rw [col1_apply]
  repeat rw [scal_apply]
  simp only [maximumf_apply, sitofp_apply, constantI_apply, constant_apply, iotaInDim_apply]
  rw [count_eq]
  simp only [b_zero, b_one, b_two, b_three, b_five, b_quarter, b_threeq]
  rw [show ix1 a 0 = a from rfl, show ix1 c 0 = c from rfl, weight_one _ (hpos _), series_pt _ a.isLt, class_word]
  rfl

end Cert.Proof.Alg
end
-- ==== Proof.AlgFin.lean ====
/-
The kernel's result is the reference's: the three stretches of points put together.
-/
module

public import proofs.«01_k».proof.Proof.AlgRead
public import proofs.«01_k».proof.Proof.AlgOut

@[expose] public section

set_option maxRecDepth 16384

noncomputable section

namespace Cert.Proof.Alg

open Idealize.ShloMosaic Cert.KernelIdeal Cert.KernelIdeal.Gen Cert.Proof.KI
open Idealize.ShloMosaic.ValueIdx
open Finset (range)

/-! ## The parts -/

section
variable (a : S983040.Idx → EReal) (b : S1048576.Idx → BitVec 32) (base : ℕ)

theorem part_apply (r : Fin 8) (k : Fin 128) :
    shapeCast S8x128 (outOf (F := Ideal) a b base) shapeCasts_S1024_S8x128 (ix2 r k) = outAt (F := Ideal) a b base (128 * r.val + k.val) := by
  have hr := r.isLt
  have hk := k.isLt
  refine (shapeCast_apply _ _ _ (ix1 ⟨128 * r.val + k.val, by omega⟩) ?_).trans rfl
  refine (Shape.rowMajor_val_one _).trans ((Shape.rowMajor_val_two _).trans ?_).symm
  show r.val * 128 + k.val = 128 * r.val + k.val
  omega

theorem part_rows (r : ℕ) (h : r + 4 ≤ 8) :
    rows4 (shapeCast S8x128 (outOf (F := Ideal) a b base) shapeCasts_S1024_S8x128) r h = ∑ n ∈ range 512, outAt (F := Ideal) a b base (128 * r + n) := by
  unfold rows4
  rw [show (512 : ℕ) = 128 * 4 from rfl, ← sum_blocks, ← Fin.sum_univ_eq_sum_range (fun i => ∑ j ∈ range 128, outAt (F := Ideal) a b base (128 * r + (128 * i + j))) 4]
  refine Finset.sum_congr rfl fun i _ => ?_
  rw [← Fin.sum_univ_eq_sum_range (fun j => outAt (F := Ideal) a b base (128 * r + (128 * i.val + j))) 128]
  refine Finset.sum_congr rfl fun k _ => ?_
  rw [part_apply]
  refine congrArg _ ?_
  show 128 * (r + i.val) + k.val = _
  omega

theorem part_loss : rows4 (shapeCast S8x128 (outOf (F := Ideal) a b base) shapeCasts_S1024_S8x128) 0 (by decide)
    = ∑ n ∈ range 327680, scPt (extL b (n + base)) (fun c => ext (F := Ideal) a (327680 * c.val + n)) := by
  rw [part_rows, ← outAt_loss]
  exact Finset.sum_congr rfl fun n _ => congrArg _ (Nat.zero_add n)
theorem part_cnt : rows4 (shapeCast S8x128 (outOf (F := Ideal) a b base) shapeCasts_S1024_S8x128) 4 (by decide)
    = ∑ n ∈ range 327680, cnt (extL b (n + base)) := by
  rw [part_rows, ← outAt_cnt]
end

/-! ## The points -/

section
variable (A : S1048576x3.Idx → EReal) (B : S1048576.Idx → BitVec 32)

theorem sc_ref (n : ℕ) (h : n < 655360) : scPt (extL B n) (fun c => px A n c) = refPt A B n := by
  unfold scPt refPt lgAt
  rw [Fin.sum_univ_three]
  simp only [if_pos h, scElt_eq]
  rfl
theorem tc_ref (n : ℕ) (h : ¬n < 655360) : ∑ c : Fin 3, tcElt (hit (extL B n) c.val) (px A n c) = refPt A B n := by
  unfold refPt lgAt
  simp only [if_neg h, tcElt_eq]

/-- A sum over all points is the sum over the three stretches. -/
theorem stretches {M : Type} [AddCommMonoid M] (f : ℕ → M) (a b c : ℕ) :
    ∑ n ∈ range (a + b + c), f n = ∑ n ∈ range c, f (a + b + n) + ∑ n ∈ range a, f n + ∑ n ∈ range b, f (n + a) := by
  rw [Finset.sum_range_add, Finset.sum_range_add, add_comm (_ + _) (∑ n ∈ range c, _), ← add_assoc]
  refine congrArg _ (Finset.sum_congr rfl fun n _ => ?_)
  rw [Nat.add_comm]
end

/-! ## The result -/

variable (m : (ℓ : Loc nD τ sig) → Buf (Elt Ideal) ℓ) (d : Dev nD)

theorem acc_loss (j : S1x1.Idx) : accL (F := Ideal) (blkP (V5 m d)) (blkL (V5 m d)) 23 j
    = ∑ n ∈ range 393216, refPt (arrA m d) (arrB m d) (655360 + n) := by
  rw [accL_apply, show (393216 : ℕ) = 16384 * 24 from rfl, ← sum_blocks]
  refine Finset.sum_congr rfl fun t ht => ?_
  have ht := Finset.mem_range.1 ht
  unfold tcBlk
  rw [← Fin.sum_univ_eq_sum_range (fun j => refPt (arrA m d) (arrB m d) (655360 + (16384 * t + j))) 16384]
  refine Finset.sum_congr rfl fun k _ => ?_
  rw [← Nat.add_assoc, ← tc_ref _ _ _ (by omega), blkL_apply m d t ht k]
  exact Finset.sum_congr rfl fun c _ => by rw [blkP_apply m d t ht c k]
theorem acc_cnt (j : S1x1.Idx) : accP (F := Ideal) (blkL (V5 m d)) 23 j = ∑ n ∈ range 393216, cnt (extL (arrB m d) (655360 + n)) := by
  rw [accP_apply, show (393216 : ℕ) = 16384 * 24 from rfl, ← sum_blocks]
  refine Finset.sum_congr rfl fun t ht => ?_
  have ht := Finset.mem_range.1 ht
  unfold cntBlk
  rw [← Fin.sum_univ_eq_sum_range (fun j => cnt (extL (arrB m d) (655360 + (16384 * t + j)))) 16384]
  refine Finset.sum_congr rfl fun k _ => ?_
  rw [← Nat.add_assoc, blkL_apply m d t ht k]

theorem first_loss : rows4 (shapeCast S8x128 (outOf (F := Ideal) (V1 m d (Proc.devRef .tc main_v2)) (arrB m d) 0) shapeCasts_S1024_S8x128) 0 (by decide)
    = ∑ n ∈ range 327680, refPt (arrA m d) (arrB m d) n := by
  rw [part_loss]
  refine Finset.sum_congr rfl fun n hn => ?_
  have hn := Finset.mem_range.1 hn
  rw [← sc_ref _ _ _ (by omega), Nat.add_zero]
  exact congrArg _ (funext fun c => ext_first m d c n hn)
theorem second_loss : rows4 (shapeCast S8x128 (outOf (F := Ideal) (V3 m d (Proc.devRef .tc main_v5)) (arrB m d) 327680) shapeCasts_S1024_S8x128) 0 (by decide)
    = ∑ n ∈ range 327680, refPt (arrA m d) (arrB m d) (n + 327680) := by
  rw [part_loss]
  refine Finset.sum_congr rfl fun n hn => ?_
  have hn := Finset.mem_range.1 hn
  rw [← sc_ref _ _ _ (by omega)]
  exact congrArg _ (funext fun c => ext_second m d c n hn)

theorem result_eq (j : S_.Idx) : V9 m d (Proc.devRef .tc main_v12) j = ∑ n ∈ range 1048576, refPt (arrA m d) (arrB m d) n * wgt (arrB m d) := by
  obtain ⟨r, hr, hw, hdiv⟩ := wgt_real (arrB m d)
  have hs := stretches (fun n => refPt (arrA m d) (arrB m d) n) 327680 327680 393216
  have hq := stretches (fun n => cnt (extL (arrB m d) n)) 327680 327680 393216
  rw [V9_v12, pay3_apply, acc_loss, acc_cnt, first_loss, second_loss, part_cnt, part_cnt]
  simp only [Nat.add_zero]
  refine (congrArg₂ (fun s q => Ideal.div s (max q ((1 : ℝ) : EReal))) hs.symm (hq.symm.trans (cnt_sum (arrB m d)))).trans ?_
  rw [hdiv, sum_mul_real _ _ _ hr, hw]

end Cert.Proof.Alg
end
-- ==== Proof.lean ====
/- The proof of the certificate's claims. -/
module

public import proofs.«01_k».proof.Defs
public import proofs.«01_k».proof.Proof.KBVal
public import proofs.«01_k».proof.Proof.KIVal
public import proofs.«01_k».proof.Proof.AlgFin
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.ReduceAll

@[expose] public section

set_option maxRecDepth 16384

noncomputable section

namespace Cert.Proof

open Idealize.ShloMosaic Idealize.SL.Sem

/-- Every element type has an element. -/
theorem elt_bits (e : EltTy) : Nonempty (Elt Bits e) := inferInstance
theorem elt_ideal (e : EltTy) : Nonempty (Elt Ideal e) := inferInstance

theorem frame_kernel : Cert.quiescent_Kernel := fun m ρ _ => by
  haveI := elt_bits
  exact Cert.Proof.KB.run_frame (F := Bits) m ρ

theorem frame_ideal : Cert.quiescent_KernelIdeal := fun m ρ _ => by
  haveI := elt_ideal
  exact Cert.Proof.KI.run_frame (F := Ideal) m ρ

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal := by
  refine ⟨?_, ?_⟩ <;> exact IdealRules.named_const.statement _ _ _ _ _ rfl

/-- The shapes of the precondition's operations fit. -/
theorem pre_facts : Cert.Pre_labels_not_negative.Facts where
  bcast_S_S1048576 := by decide
  reducesTo_S1048576_S_d0 := by decide
  h_S_ := by decide

theorem frame_ideal_pre [Cert.Pre_labels_not_negative.Facts] : Cert.quiescent_KernelIdeal_pre_labels_not_negative := fun m ρ _ => frame_ideal m ρ trivial
theorem frame_reference_pre [Cert.Pre_labels_not_negative.Facts] : Cert.quiescent_ReferenceIdeal_pre_labels_not_negative := fun m ρ _ => frame_reference m ρ trivial

/-- The precondition says of every label that it is not negative. -/
theorem labels_pos [Cert.Pre_labels_not_negative.Facts] (A : Cert.Pre_labels_not_negative.S1048576x3.Idx → EReal) (B : Cert.Pre_labels_not_negative.S1048576.Idx → BitVec 32)
    (h : Cert.Pre_labels_not_negative.fn (F := Ideal) A B = fun _ => 1#1) (i : Cert.Pre_labels_not_negative.S1048576.Idx) : 0 ≤ (B i).toInt := by
  haveI : Subsingleton Cert.Pre_labels_not_negative.S_.Idx := ⟨fun a b => funext fun x => x.elim0⟩
  have h1 := congrFun h (fun x => x.elim0)
  unfold Cert.Pre_labels_not_negative.fn at h1
  have e : IntOp.cmpi .sge (B i) 0#32 = 1#1 := Host.reduce_andi_all _ _ _ _ _ h1 i
  have e2 : (0#32).sle (B i) = true := by
    by_contra hn
    have hf : (0#32).sle (B i) = false := Bool.eq_false_iff.2 hn
    have : IntOp.cmpi .sge (B i) 0#32 = 0#1 := by
      show BitVec.ofBool ((0#32).sle (B i)) = 0#1
      rw [hf]; rfl
    rw [this] at e
    exact absurd e (by decide)
  rw [BitVec.sle_iff_toInt_le] at e2
  simpa using e2

theorem algebraic [Cert.Pre_labels_not_negative.Facts] : Cert.algebraic_KernelIdeal_ReferenceIdeal_pre_labels_not_negative := fun m g m' g' hpre hargs => by
  haveI := elt_ideal
  refine ⟨fun c => Cert.Proof.KI.V9 (F := Ideal) m c (Proc.devRef .tc Cert.KernelIdeal.main_v12), ?_, ?_⟩
  · exact (θ_run _ _ _).mono (fun _ h c => ⟨(h.1 c).2.2, (h.1 c).1.trans (Cert.Proof.KI.V9_arg0 m c), (h.1 c).2.1.trans (Cert.Proof.KI.V9_arg1 m c)⟩)
      (Cert.Proof.KI.run_main (F := Ideal) m g)
  · refine (θ_run Cert.ReferenceIdeal.defs _ _).mono (fun _ h c => ⟨(h c).1.trans (funext fun j => ?_), (h c).2⟩) (Cert.ReferenceIdeal.Value.run (F := Ideal) m' g')
    exact (Cert.Proof.Alg.ref_sum (Cert.Proof.Alg.arrA m c) (Cert.Proof.Alg.arrB m c) m' c (hargs c).1 (hargs c).2 (labels_pos _ _ (hpre c)) j).trans
      (Cert.Proof.Alg.result_eq m c j).symm

theorem claim : Cert.Claim := ⟨Cert.Kernel.Gen.facts, Cert.KernelIdeal.Gen.facts, Cert.ReferenceIdeal.Gen.facts, pre_facts,
  frame_kernel, frame_ideal, by haveI := pre_facts; exact frame_ideal_pre, frame_reference, by haveI := pre_facts; exact frame_reference_pre, preserves, by haveI := pre_facts; exact algebraic⟩

end Cert.Proof

end
